-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v6) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v80_0)) (v1 : (c : Dev Cert.Kernel3Ideal.nD) → Buf (Elt Ideal) ((c.tc : Thread Cert.Kernel3Ideal.nD Cert.Kernel3Ideal.τ).loc Cert.Kernel3Ideal.main_v80_1)) (v2 : (c : Dev Cert.Kernel3Ideal.nD) → Buf (Elt Ideal) ((c.tc : Thread Cert.Kernel3Ideal.nD Cert.Kernel3Ideal.τ).loc Cert.Kernel3Ideal.main_v80_2)) (v3 : (c : Dev Cert.Kernel3Ideal.nD) → Buf (Elt Ideal) ((c.tc : Thread Cert.Kernel3Ideal.nD Cert.Kernel3Ideal.τ).loc Cert.Kernel3Ideal.main_v80_3)) (v4 : (c : Dev Cert.Kernel3Ideal.nD) → Buf (Elt Ideal) ((c.tc : Thread Cert.Kernel3Ideal.nD Cert.Kernel3Ideal.τ).loc Cert.Kernel3Ideal.main_v80_4)) (v5 : (c : Dev Cert.Kernel3Ideal.nD) → Buf (Elt Ideal) ((c.tc : Thread Cert.Kernel3Ideal.nD Cert.Kernel3Ideal.τ).loc Cert.Kernel3Ideal.main_v80_5)) (v6 : (c : Dev Cert.Kernel3Ideal.nD) → Buf (Elt Ideal) ((c.tc : Thread Cert.Kernel3Ideal.nD Cert.Kernel3Ideal.τ).loc Cert.Kernel3Ideal.main_v80_6)) (v7 : (c : Dev Cert.Kernel3Ideal.nD) → Buf (Elt Ideal) ((c.tc : Thread Cert.Kernel3Ideal.nD Cert.Kernel3Ideal.τ).loc Cert.Kernel3Ideal.main_v80_7)) (v8 : (c : Dev Cert.Kernel3Ideal.nD) → Buf (Elt Ideal) ((c.tc : Thread Cert.Kernel3Ideal.nD Cert.Kernel3Ideal.τ).loc Cert.Kernel3Ideal.main_v80_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v80_0) = v0 c
          ∧ r.2.mem ((c.tc : Thread Cert.Kernel3Ideal.nD Cert.Kernel3Ideal.τ).loc Cert.Kernel3Ideal.main_v80_1) = v1 c
          ∧ r.2.mem ((c.tc : Thread Cert.Kernel3Ideal.nD Cert.Kernel3Ideal.τ).loc Cert.Kernel3Ideal.main_v80_2) = v2 c
          ∧ r.2.mem ((c.tc : Thread Cert.Kernel3Ideal.nD Cert.Kernel3Ideal.τ).loc Cert.Kernel3Ideal.main_v80_3) = v3 c
          ∧ r.2.mem ((c.tc : Thread Cert.Kernel3Ideal.nD Cert.Kernel3Ideal.τ).loc Cert.Kernel3Ideal.main_v80_4) = v4 c
          ∧ r.2.mem ((c.tc : Thread Cert.Kernel3Ideal.nD Cert.Kernel3Ideal.τ).loc Cert.Kernel3Ideal.main_v80_5) = v5 c
          ∧ r.2.mem ((c.tc : Thread Cert.Kernel3Ideal.nD Cert.Kernel3Ideal.τ).loc Cert.Kernel3Ideal.main_v80_6) = v6 c
          ∧ r.2.mem ((c.tc : Thread Cert.Kernel3Ideal.nD Cert.Kernel3Ideal.τ).loc Cert.Kernel3Ideal.main_v80_7) = v7 c
          ∧ r.2.mem ((c.tc : Thread Cert.Kernel3Ideal.nD Cert.Kernel3Ideal.τ).loc Cert.Kernel3Ideal.main_v80_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v237) = v0 c
          ∧ r.2.mem ((c.tc : Thread Cert.Reference3Ideal.nD Cert.Reference3Ideal.τ).loc Cert.Reference3Ideal.main_v240) = v1 c
          ∧ r.2.mem ((c.tc : Thread Cert.Reference3Ideal.nD Cert.Reference3Ideal.τ).loc Cert.Reference3Ideal.main_v243) = v2 c
          ∧ r.2.mem ((c.tc : Thread Cert.Reference3Ideal.nD Cert.Reference3Ideal.τ).loc Cert.Reference3Ideal.main_v244) = v3 c
          ∧ r.2.mem ((c.tc : Thread Cert.Reference3Ideal.nD Cert.Reference3Ideal.τ).loc Cert.Reference3Ideal.main_v250) = v4 c
          ∧ r.2.mem ((c.tc : Thread Cert.Reference3Ideal.nD Cert.Reference3Ideal.τ).loc Cert.Reference3Ideal.main_v256) = v5 c
          ∧ r.2.mem ((c.tc : Thread Cert.Reference3Ideal.nD Cert.Reference3Ideal.τ).loc Cert.Reference3Ideal.main_v258) = v6 c
          ∧ r.2.mem ((c.tc : Thread Cert.Reference3Ideal.nD Cert.Reference3Ideal.τ).loc Cert.Reference3Ideal.main_v260) = v7 c
          ∧ r.2.mem ((c.tc : Thread Cert.Reference3Ideal.nD Cert.Reference3Ideal.τ).loc Cert.Reference3Ideal.main_v262) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
-- ==== Pre_finite.lean ====
abbrev S16x2048x1024 : Shape := ⟨3, ![16, 2048, 1024]⟩
abbrev S1024 : Shape := ⟨1, ![1024]⟩
abbrev S1x1024x7592 : Shape := ⟨3, ![1, 1024, 7592]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1x1024x7592 : S_.BroadcastsInDim S1x1024x7592 (![] : Fin 0 → Fin S1x1024x7592.rank)
  reducesTo_S1x1024x7592_S_d0_1_2 : S1x1024x7592.ReducesTo [0, 1, 2] S_

variable [Facts]

def fn_part1 {F : FTy → Type} [FloatOps F] (main_v13 : IVec S_ 1) (main_v16 : IVec S1x1024x7592 1) : IVec S_ 1 :=
  let main_c_5 : IVec S_ 1 := constantI S_ 1 1#1
  let main_v17 : IVec S_ 1 := (fun x v => Host.reduce IntOp.andi x v reducesTo_S1x1024x7592_S_d0_1_2 h_S_) main_v16 main_c_5
  let main_v18 : IVec S_ 1 := andi main_v13 main_v17
  main_v18

def fn {F : FTy → Type} [FloatOps F] (main_arg0 : FVec F S16x2048x1024 .f32) (main_arg1 : FVec F S1024 .f32) (main_arg2 : FVec F S1024 .f32) (main_arg3 : FVec F S1x1024x7592 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1x1024x7592 .f32 := Host.absf main_arg3
  let main_cst_4 : FVec F S_ .f32 := constant S_ .f32 0x7F800000#32
  let main_v15 : FVec F S1x1024x7592 .f32 := broadcastInDim S1x1024x7592 ![] bcast_S_S1x1024x7592 main_cst_4
  let main_v16 : IVec S1x1024x7592 1 := cmpf .olt main_v14 main_v15
  fn_part1 (F := F) main_v13 main_v16
-- ==== Kernel.lean ====
abbrev S16x2048x1024 : Shape := ⟨3, ![16, 2048, 1024]⟩
abbrev S16x2048x512 : Shape := ⟨3, ![16, 2048, 512]⟩
abbrev S16x512x256 : Shape := ⟨3, ![16, 512, 256]⟩
abbrev S16x256x512 : Shape := ⟨3, ![16, 256, 512]⟩
abbrev S1024 : Shape := ⟨1, ![1024]⟩
abbrev S1x1024x7592 : Shape := ⟨3, ![1, 1024, 7592]⟩
abbrev S1x512x1024 : Shape := ⟨3, ![1, 512, 1024]⟩
abbrev S1x1024x1024 : Shape := ⟨3, ![1, 1024, 1024]⟩
abbrev S1x1024 : Shape := ⟨2, ![1, 1024]⟩
abbrev S1024x7592 : Shape := ⟨2, ![1024, 7592]⟩
abbrev S7592x1024 : Shape := ⟨2, ![7592, 1024]⟩
abbrev S512x1024 : Shape := ⟨2, ![512, 1024]⟩
abbrev S1536x1024 : Shape := ⟨2, ![1536, 1024]⟩
abbrev S1024x1536 : Shape := ⟨2, ![1024, 1536]⟩
abbrev S1024x512 : Shape := ⟨2, ![1024, 512]⟩
abbrev S3072x1024 : Shape := ⟨2, ![3072, 1024]⟩
abbrev S1024x3072 : Shape := ⟨2, ![1024, 3072]⟩
abbrev S32768x1024 : Shape := ⟨2, ![32768, 1024]⟩
abbrev S1024x1024 : Shape := ⟨2, ![1024, 1024]⟩
abbrev S1x1024x512 : Shape := ⟨3, ![1, 1024, 512]⟩
abbrev S1x512x256 : Shape := ⟨3, ![1, 512, 256]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S1x128x256 : Shape := ⟨3, ![1, 128, 256]⟩
abbrev S128x256 : Shape := ⟨2, ![128, 256]⟩
abbrev S256x256 : Shape := ⟨2, ![256, 256]⟩
abbrev S1x256x128 : Shape := ⟨3, ![1, 256, 128]⟩

abbrev nBuf : Space → Nat
  | .hbm => 42
  | .vmem => 23
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S16x512x256, .bf16⟩
  | .hbm, ⟨4, _⟩ => ⟨S16x256x512, .bf16⟩
  | .hbm, ⟨5, _⟩ => ⟨S1024, .f32⟩
  | .hbm, ⟨6, _⟩ => ⟨S1024, .f32⟩
  | .hbm, ⟨7, _⟩ => ⟨S1x1024x7592, .f32⟩
  | .hbm, ⟨8, _⟩ => ⟨S1x512x1024, .f32⟩
  | .hbm, ⟨9, _⟩ => ⟨S1x512x1024, .f32⟩
  | .hbm, ⟨10, _⟩ => ⟨S1x512x1024, .f32⟩
  | .hbm, ⟨11, _⟩ => ⟨S1x1024x1024, .f32⟩
  | .hbm, ⟨12, _⟩ => ⟨S1x1024, .f32⟩
  | .hbm, ⟨13, _⟩ => ⟨S1x1024, .f32⟩
  | .hbm, ⟨14, _⟩ => ⟨S1024x7592, .f32⟩
  | .hbm, ⟨15, _⟩ => ⟨S7592x1024, .f32⟩
  | .hbm, ⟨16, _⟩ => ⟨S7592x1024, .bf16⟩
  | .hbm, ⟨17, _⟩ => ⟨S512x1024, .bf16⟩
  | .hbm, ⟨18, _⟩ => ⟨S512x1024, .bf16⟩
  | .hbm, ⟨19, _⟩ => ⟨S512x1024, .bf16⟩
  | .hbm, ⟨20, _⟩ => ⟨S1536x1024, .bf16⟩
  | .hbm, ⟨21, _⟩ => ⟨S1024x1536, .bf16⟩
  | .hbm, ⟨22, _⟩ => ⟨S512x1024, .bf16⟩
  | .hbm, ⟨23, _⟩ => ⟨S1024x512, .bf16⟩
  | .hbm, ⟨24, _⟩ => ⟨S3072x1024, .bf16⟩
  | .hbm, ⟨25, _⟩ => ⟨S1024x3072, .bf16⟩
  | .hbm, ⟨26, _⟩ => ⟨S32768x1024, .f32⟩
  | .hbm, ⟨27, _⟩ => ⟨S1x1024, .f32⟩
  | .hbm, ⟨28, _⟩ => ⟨S1x1024, .f32⟩
  | .hbm, ⟨29, _⟩ => ⟨S512x1024, .f32⟩
  | .hbm, ⟨30, _⟩ => ⟨S512x1024, .bf16⟩
  | .hbm, ⟨31, _⟩ => ⟨S512x1024, .f32⟩
  | .hbm, ⟨32, _⟩ => ⟨S512x1024, .bf16⟩
  | .hbm, ⟨33, _⟩ => ⟨S512x1024, .f32⟩
  | .hbm, ⟨34, _⟩ => ⟨S512x1024, .bf16⟩
  | .hbm, ⟨35, _⟩ => ⟨S1024x1024, .f32⟩
  | .hbm, ⟨36, _⟩ => ⟨S1024x1024, .bf16⟩
  | .hbm, ⟨37, _⟩ => ⟨S1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x256, .bf16⟩
  | .local _ .vmem, ⟨7, _⟩ => ⟨S1x512x256, .bf16⟩
  | .local _ .vmem, ⟨8, _⟩ => ⟨S1x256x512, .bf16⟩
  | .local _ .vmem, ⟨9, _⟩ => ⟨S1x256x512, .bf16⟩
  | .local _ .vmem, ⟨10, _⟩ => ⟨S1x1024, .f32⟩
  | .local _ .vmem, ⟨11, _⟩ => ⟨S1x1024, .f32⟩
  | .local _ .vmem, ⟨12, _⟩ => ⟨S1024x512, .bf16⟩
  | .local _ .vmem, ⟨13, _⟩ => ⟨S1024x1536, .bf16⟩
  | .local _ .vmem, ⟨14, _⟩ => ⟨S1024x3072, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S1024x1024, .f32⟩
  | .local _ .vmem, ⟨22, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1024x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S16x2048x1024 : Shape := ⟨3, ![16, 2048, 1024]⟩
abbrev S16x2048x512 : Shape := ⟨3, ![16, 2048, 512]⟩
abbrev S16x512x256 : Shape := ⟨3, ![16, 512, 256]⟩
abbrev S16x256x512 : Shape := ⟨3, ![16, 256, 512]⟩
abbrev S1024 : Shape := ⟨1, ![1024]⟩
abbrev S1x1024x7592 : Shape := ⟨3, ![1, 1024, 7592]⟩
abbrev S1x512x1024 : Shape := ⟨3, ![1, 512, 1024]⟩
abbrev S1x1024x1024 : Shape := ⟨3, ![1, 1024, 1024]⟩
abbrev S1x1024 : Shape := ⟨2, ![1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x7592 : Shape := ⟨2, ![1024, 7592]⟩
abbrev S16x2048x7592 : Shape := ⟨3, ![16, 2048, 7592]⟩
abbrev S16x2048x64 : Shape := ⟨3, ![16, 2048, 64]⟩
abbrev S16x2048x256 : Shape := ⟨3, ![16, 2048, 256]⟩
abbrev S16x2048x32 : Shape := ⟨3, ![16, 2048, 32]⟩
abbrev S16x2048x8 : Shape := ⟨3, ![16, 2048, 8]⟩
abbrev S16x2048x3072 : Shape := ⟨3, ![16, 2048, 3072]⟩
abbrev S512x1024 : Shape := ⟨2, ![512, 1024]⟩
abbrev S16x256x4x128 : Shape := ⟨4, ![16, 256, 4, 128]⟩
abbrev S16x2048x4x128 : Shape := ⟨4, ![16, 2048, 4, 128]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩
abbrev S16x2048x3x1024 : Shape := ⟨4, ![16, 2048, 3, 1024]⟩
abbrev S16x2048x1x1024 : Shape := ⟨4, ![16, 2048, 1, 1024]⟩
abbrev S1024x1024 : Shape := ⟨2, ![1024, 1024]⟩
abbrev S32768x1024 : Shape := ⟨2, ![32768, 1024]⟩

abbrev nBuf : Space → Nat
  | .hbm => 182
  | .vmem => 0
  | .smem => 0
  | _ => 0

abbrev hbmTy0_0 (i : Nat) : BufTy := match i % 128 with
  | 0 => ⟨S16x2048x1024, .f32⟩
  | 1 => ⟨S16x2048x512, .bf16⟩
  | 2 => ⟨S16x2048x512, .bf16⟩
  | 3 => ⟨S16x512x256, .bf16⟩
  | 4 => ⟨S16x256x512, .bf16⟩
  | 5 => ⟨S1024, .f32⟩
  | 6 => ⟨S1024, .f32⟩
  | 7 => ⟨S1x1024x7592, .f32⟩
  | 8 => ⟨S1x512x1024, .f32⟩
  | 9 => ⟨S1x512x1024, .f32⟩
  | 10 => ⟨S1x512x1024, .f32⟩
  | 11 => ⟨S1x1024x1024, .f32⟩
  | 12 => ⟨S1x1024, .f32⟩
  | 13 => ⟨S1x1024, .f32⟩
  | 14 => ⟨S_, .f32⟩
  | 15 => ⟨S16x2048, .f32⟩
  | 16 => ⟨S16x2048x1, .f32⟩
  | 17 => ⟨S_, .f32⟩
  | 18 => ⟨S16x2048x1, .f32⟩
  | 19 => ⟨S16x2048x1, .f32⟩
  | 20 => ⟨S16x2048x1024, .f32⟩
  | 21 => ⟨S16x2048x1024, .f32⟩
  | 22 => ⟨S16x2048x1024, .f32⟩
  | 23 => ⟨S_, .f32⟩
  | 24 => ⟨S16x2048, .f32⟩
  | 25 => ⟨S16x2048x1, .f32⟩
  | 26 => ⟨S_, .f32⟩
  | 27 => ⟨S16x2048x1, .f32⟩
  | 28 => ⟨S16x2048x1, .f32⟩
  | 29 => ⟨S16x2048x1024, .f32⟩
  | 30 => ⟨S16x2048x1024, .f32⟩
  | 31 => ⟨S_, .f32⟩
  | 32 => ⟨S16x2048x1, .f32⟩
  | 33 => ⟨S16x2048x1, .f32⟩
  | 34 => ⟨S16x2048x1, .f32⟩
  | 35 => ⟨S16x2048x1024, .f32⟩
  | 36 => ⟨S16x2048x1024, .f32⟩
  | 37 => ⟨S1x1x1024, .f32⟩
  | 38 => ⟨S16x2048x1024, .f32⟩
  | 39 => ⟨S16x2048x1024, .f32⟩
  | 40 => ⟨S1x1x1024, .f32⟩
  | 41 => ⟨S16x2048x1024, .f32⟩
  | 42 => ⟨S16x2048x1024, .f32⟩
  | 43 => ⟨S1024x7592, .f32⟩
  | 44 => ⟨S16x2048x7592, .f32⟩
  | 45 => ⟨S16x2048x512, .f32⟩
  | 46 => ⟨S16x2048x64, .f32⟩
  | 47 => ⟨S16x2048x64, .f32⟩
  | 48 => ⟨S16x2048x512, .f32⟩
  | 49 => ⟨S16x2048x256, .f32⟩
  | 50 => ⟨S16x2048x32, .f32⟩
  | 51 => ⟨S16x2048x8, .f32⟩
  | 52 => ⟨S16x2048x512, .f32⟩
  | 53 => ⟨S16x2048x512, .f32⟩
  | 54 => ⟨S16x2048x512, .f32⟩
  | 55 => ⟨S16x2048x512, .f32⟩
  | 56 => ⟨S16x2048x512, .f32⟩
  | 57 => ⟨S16x2048x512, .f32⟩
  | 58 => ⟨S16x2048x3072, .f32⟩
  | 59 => ⟨S16x2048x512, .f32⟩
  | 60 => ⟨S16x2048x512, .f32⟩
  | 61 => ⟨S16x2048x512, .f32⟩
  | 62 => ⟨S_, .f32⟩
  | 63 => ⟨S16x2048x512, .f32⟩
  | 64 => ⟨S16x2048x512, .f32⟩
  | 65 => ⟨S_, .f32⟩
  | 66 => ⟨S16x2048x512, .f32⟩
  | 67 => ⟨S16x2048x512, .f32⟩
  | 68 => ⟨S16x2048x512, .f32⟩
  | 69 => ⟨S16x2048x512, .f32⟩
  | 70 => ⟨S512x1024, .f32⟩
  | 71 => ⟨S16x2048x1024, .f32⟩
  | 72 => ⟨S16x2048x512, .f32⟩
  | 73 => ⟨S16x2048x512, .f32⟩
  | 74 => ⟨S16x2048x512, .f32⟩
  | 75 => ⟨S_, .f32⟩
  | 76 => ⟨S16x2048x512, .f32⟩
  | 77 => ⟨S16x2048x512, .f32⟩
  | 78 => ⟨S_, .f32⟩
  | 79 => ⟨S16x2048x512, .f32⟩
  | 80 => ⟨S16x2048x512, .f32⟩
  | 81 => ⟨S16x2048x512, .f32⟩
  | 82 => ⟨S16x2048x512, .f32⟩
  | 83 => ⟨S512x1024, .f32⟩
  | 84 => ⟨S16x2048x1024, .f32⟩
  | 85 => ⟨S16x512x256, .f32⟩
  | 86 => ⟨S16x256x512, .f32⟩
  | 87 => ⟨S16x256x4x128, .f32⟩
  | 88 => ⟨S16x256x512, .f32⟩
  | 89 => ⟨S16x256x4x128, .f32⟩
  | 90 => ⟨S16x2048x4x128, .f32⟩
  | 91 => ⟨S16x4x2048x256, .f32⟩
  | 92 => ⟨S_, .f32⟩
  | 93 => ⟨S16x4x2048x256, .f32⟩
  | 94 => ⟨S16x4x2048x256, .f32⟩
  | 95 => ⟨S_, .f32⟩
  | 96 => ⟨S16x4x2048, .f32⟩
  | 97 => ⟨S_, .f32⟩
  | 98 => ⟨S16x4x2048, .f32⟩
  | 99 => ⟨S16x4x2048, .f32⟩
  | 100 => ⟨S16x4x2048x1, .f32⟩
  | 101 => ⟨S16x4x2048x256, .f32⟩
  | 102 => ⟨S16x4x2048x256, .f32⟩
  | 103 => ⟨S16x4x2048x256, .f32⟩
  | 104 => ⟨S_, .f32⟩
  | 105 => ⟨S16x4x2048, .f32⟩
  | 106 => ⟨S16x4x2048x1, .f32⟩
  | 107 => ⟨S16x4x2048x256, .f32⟩
  | 108 => ⟨S16x4x2048x256, .f32⟩
  | 109 => ⟨S16x4x128x2048, .f32⟩
  | 110 => ⟨S16x2048x4x128, .f32⟩
  | 111 => ⟨S16x2048x512, .f32⟩
  | 112 => ⟨S16x2048x512, .f32⟩
  | 113 => ⟨S16x2048x512, .f32⟩
  | 114 => ⟨S_, .f32⟩
  | 115 => ⟨S16x2048x512, .f32⟩
  | 116 => ⟨S16x2048x512, .f32⟩
  | 117 => ⟨S_, .f32⟩
  | 118 => ⟨S16x2048x512, .f32⟩
  | 119 => ⟨S16x2048x512, .f32⟩
  | 120 => ⟨S16x2048x512, .f32⟩
  | 121 => ⟨S16x2048x512, .f32⟩
  | 122 => ⟨S512x1024, .f32⟩
  | 123 => ⟨S16x2048x1024, .f32⟩
  | 124 => ⟨S16x2048x3x1024, .f32⟩
  | 125 => ⟨S16x2048x3x1024, .f32⟩
  | 126 => ⟨S16x2048x3x1024, .f32⟩
  | 127 => ⟨S_, .f32⟩
  | _ => ⟨S16x2048x1024, .f32⟩

abbrev hbmTy0_1 (i : Nat) : BufTy := match i % 128 with
  | 0 => ⟨S16x2048x3x1024, .f32⟩
  | 1 => ⟨S16x2048x3x1024, .f32⟩
  | 2 => ⟨S_, .f32⟩
  | 3 => ⟨S16x2048x3x1024, .f32⟩
  | 4 => ⟨S16x2048x3x1024, .f32⟩
  | 5 => ⟨S16x2048x1x1024, .f32⟩
  | 6 => ⟨S16x2048x1024, .f32⟩
  | 7 => ⟨S16x2048x1024, .f32⟩
  | 8 => ⟨S16x2048x1x1024, .f32⟩
  | 9 => ⟨S16x2048x1024, .f32⟩
  | 10 => ⟨S16x2048x1024, .f32⟩
  | 11 => ⟨S16x2048x1024, .f32⟩
  | 12 => ⟨S16x2048x1x1024, .f32⟩
  | 13 => ⟨S16x2048x1024, .f32⟩
  | 14 => ⟨S16x2048x1024, .f32⟩
  | 15 => ⟨S16x2048x1024, .f32⟩
  | 16 => ⟨S_, .f32⟩
  | 17 => ⟨S16x2048x1024, .f32⟩
  | 18 => ⟨S16x2048x1024, .f32⟩
  | 19 => ⟨S1024x1024, .f32⟩
  | 20 => ⟨S16x2048x1024, .f32⟩
  | 21 => ⟨S16x2048x1024, .f32⟩
  | 22 => ⟨S1024, .f32⟩
  | 23 => ⟨S1024, .f32⟩
  | 24 => ⟨S_, .f32⟩
  | 25 => ⟨S16x2048, .f32⟩
  | 26 => ⟨S16x2048x1, .f32⟩
  | 27 => ⟨S_, .f32⟩
  | 28 => ⟨S16x2048x1, .f32⟩
  | 29 => ⟨S16x2048x1, .f32⟩
  | 30 => ⟨S16x2048x1024, .f32⟩
  | 31 => ⟨S16x2048x1024, .f32⟩
  | 32 => ⟨S16x2048x1024, .f32⟩
  | 33 => ⟨S_, .f32⟩
  | 34 => ⟨S16x2048, .f32⟩
  | 35 => ⟨S16x2048x1, .f32⟩
  | 36 => ⟨S_, .f32⟩
  | 37 => ⟨S16x2048x1, .f32⟩
  | 38 => ⟨S16x2048x1, .f32⟩
  | 39 => ⟨S16x2048x1024, .f32⟩
  | 40 => ⟨S16x2048x1024, .f32⟩
  | 41 => ⟨S_, .f32⟩
  | 42 => ⟨S16x2048x1, .f32⟩
  | 43 => ⟨S16x2048x1, .f32⟩
  | 44 => ⟨S16x2048x1, .f32⟩
  | 45 => ⟨S16x2048x1024, .f32⟩
  | 46 => ⟨S16x2048x1024, .f32⟩
  | 47 => ⟨S1x1x1024, .f32⟩
  | 48 => ⟨S16x2048x1024, .f32⟩
  | 49 => ⟨S16x2048x1024, .f32⟩
  | 50 => ⟨S1x1x1024, .f32⟩
  | 51 => ⟨S16x2048x1024, .f32⟩
  | 52 => ⟨S16x2048x1024, .f32⟩
  | 53 => ⟨S32768x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_4 : Ref sig .tc := ⟨.hbm, 92, rfl⟩
abbrev main_v57 : Ref sig .tc := ⟨.hbm, 93, rfl⟩
abbrev main_v58 : Ref sig .tc := ⟨.hbm, 94, rfl⟩
abbrev main_cst_5 : Ref sig .tc := ⟨.hbm, 95, rfl⟩
abbrev main_v59 : Ref sig .tc := ⟨.hbm, 96, rfl⟩
abbrev main_cst_6 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_7 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_call2_v0 : Ref sig .tc := ⟨.hbm, 112, rfl⟩
abbrev main_call2_v1 : Ref sig .tc := ⟨.hbm, 113, rfl⟩
abbrev main_call2_cst : Ref sig .tc := ⟨.hbm, 114, rfl⟩
abbrev main_call2_v2 : Ref sig .tc := ⟨.hbm, 115, rfl⟩
abbrev main_call2_v3 : Ref sig .tc := ⟨.hbm, 116, rfl⟩
abbrev main_call2_cst_0 : Ref sig .tc := ⟨.hbm, 117, rfl⟩
abbrev main_call2_v4 : Ref sig .tc := ⟨.hbm, 118, rfl⟩
abbrev main_call2_v5 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_cst_8 : Ref sig .tc := ⟨.hbm, 127, rfl⟩
abbrev main_v80 : Ref sig .tc := ⟨.hbm, 128, rfl⟩
abbrev main_v81 : Ref sig .tc := ⟨.hbm, 129, rfl⟩
abbrev main_cst_9 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_cst_10 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_cst_11 : Ref sig .tc := ⟨.hbm, 152, rfl⟩
abbrev main_v102 : Ref sig .tc := ⟨.hbm, 153, rfl⟩
abbrev main_v103 : Ref sig .tc := ⟨.hbm, 154, rfl⟩
abbrev main_cst_12 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_cst_13 : Ref sig .tc := ⟨.hbm, 161, rfl⟩
abbrev main_v109 : Ref sig .tc := ⟨.hbm, 162, rfl⟩
abbrev main_v110 : Ref sig .tc := ⟨.hbm, 163, rfl⟩
abbrev main_cst_14 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_cst_15 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩

abbrev nD : Nat := 1
abbrev τ : Topo := Topo.v7x

variable {F : FTy → Type} [FloatOps F]
-- ==== Kernel2.lean ====
abbrev S16x256x1024 : Shape := ⟨3, ![16, 256, 1024]⟩
abbrev S1x1024x1024 : Shape := ⟨3, ![1, 1024, 1024]⟩
abbrev S1024x1024 : Shape := ⟨2, ![1024, 1024]⟩
abbrev S1024x512 : Shape := ⟨2, ![1024, 512]⟩
abbrev S512x1024 : Shape := ⟨2, ![512, 1024]⟩
abbrev S16x512x256 : Shape := ⟨3, ![16, 512, 256]⟩
abbrev S16x256x512 : Shape := ⟨3, ![16, 256, 512]⟩
abbrev S4x256x1024 : Shape := ⟨3, ![4, 256, 1024]⟩
abbrev S4x512x256 : Shape := ⟨3, ![4, 512, 256]⟩
abbrev S4x256x512 : Shape := ⟨3, ![4, 256, 512]⟩
abbrev S512x256 : Shape := ⟨2, ![512, 256]⟩
abbrev S1x512x256 : Shape := ⟨3, ![1, 512, 256]⟩

abbrev nBuf : Space → Nat
  | .hbm => 11
  | .vmem => 8
  | .smem => 0
  | _ => 0

abbrev bufTy : (tb : Table) → Fin (tcTables nBuf tb) → BufTy
  | .hbm, ⟨0, _⟩ => ⟨S16x256x1024, .f32⟩
  | .hbm, ⟨1, _⟩ => ⟨S1x1024x1024, .f32⟩
  | .hbm, ⟨2, _⟩ => ⟨S1024x1024, .f32⟩
  | .hbm, ⟨3, _⟩ => ⟨S1024x512, .f32⟩
  | .hbm, ⟨4, _⟩ => ⟨S512x1024, .f32⟩
  | .hbm, ⟨5, _⟩ => ⟨S512x1024, .bf16⟩
  | .hbm, ⟨6, _⟩ => ⟨S1024x1024, .f32⟩
  | .hbm, ⟨7, _⟩ => ⟨S1024x512, .f32⟩
  | .hbm, ⟨8, _⟩ => ⟨S1024x512, .bf16⟩
  | .hbm, ⟨9, _⟩ => ⟨S16x512x256, .bf16⟩
  | .hbm, ⟨10, _⟩ => ⟨S16x256x512, .bf16⟩
  | .local _ .vmem, ⟨0, _⟩ => ⟨S4x256x1024, .f32⟩
  | .local _ .vmem, ⟨1, _⟩ => ⟨S4x256x1024, .f32⟩
  | .local _ .vmem, ⟨2, _⟩ => ⟨S512x1024, .bf16⟩
  | .local _ .vmem, ⟨3, _⟩ => ⟨S1024x512, .bf16⟩
  | .local _ .vmem, ⟨4, _⟩ => ⟨S4x512x256, .bf16⟩
  | .local _ .vmem, ⟨5, _⟩ => ⟨S4x512x256, .bf16⟩
  | .local _ .vmem, ⟨6, _⟩ => ⟨S4x256x512, .bf16⟩
  | .local _ .vmem, ⟨7, _⟩ => ⟨S4x256x512, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S16x256x1024 : Shape := ⟨3, ![16, 256, 1024]⟩
abbrev S1x1024x1024 : Shape := ⟨3, ![1, 1024, 1024]⟩
abbrev S1024x1024 : Shape := ⟨2, ![1024, 1024]⟩
abbrev S16x256x512 : Shape := ⟨3, ![16, 256, 512]⟩
abbrev S16x512x256 : Shape := ⟨3, ![16, 512, 256]⟩

abbrev nBuf : Space → Nat
  | .hbm => 9
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x1024x1024, .f32⟩
  | .hbm, ⟨2, _⟩ => ⟨S1024x1024, .f32⟩
  | .hbm, ⟨3, _⟩ => ⟨S16x256x1024, .f32⟩
  | .hbm, ⟨4, _⟩ => ⟨S16x256x512, .f32⟩
  | .hbm, ⟨5, _⟩ => ⟨S16x256x512, .f32⟩
  | .hbm, ⟨6, _⟩ => ⟨S16x512x256, .f32⟩
  | .hbm, ⟨7, _⟩ => ⟨S16x512x256, .bf16⟩
  | .hbm, ⟨8, _⟩ => ⟨S16x256x512, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024 : Shape := ⟨1, ![1024]⟩
abbrev S1x1024x7592 : Shape := ⟨3, ![1, 1024, 7592]⟩
abbrev S1024x7592 : Shape := ⟨2, ![1024, 7592]⟩
abbrev S7592x1024 : Shape := ⟨2, ![7592, 1024]⟩
abbrev S512x1024 : Shape := ⟨2, ![512, 1024]⟩
abbrev S1024x1024 : Shape := ⟨2, ![1024, 1024]⟩
abbrev S_ : Shape := ⟨0, ![]⟩
abbrev S64x1024 : Shape := ⟨2, ![64, 1024]⟩
abbrev S1664x1024 : Shape := ⟨2, ![1664, 1024]⟩
abbrev S256x1024 : Shape := ⟨2, ![256, 1024]⟩
abbrev S32x1024 : Shape := ⟨2, ![32, 1024]⟩
abbrev S8x1024 : Shape := ⟨2, ![8, 1024]⟩
abbrev S304x1024 : Shape := ⟨2, ![304, 1024]⟩
abbrev S912x1024 : Shape := ⟨2, ![912, 1024]⟩
abbrev S1024x512 : Shape := ⟨2, ![1024, 512]⟩
abbrev S32768x1024 : Shape := ⟨2, ![32768, 1024]⟩
abbrev S2048 : Shape := ⟨1, ![2048]⟩
abbrev S2048x1 : Shape := ⟨2, ![2048, 1]⟩
abbrev S8 : Shape := ⟨1, ![8]⟩
abbrev S1x8 : Shape := ⟨2, ![1, 8]⟩
abbrev S2048x8 : Shape := ⟨2, ![2048, 8]⟩
abbrev S4 : Shape := ⟨1, ![4]⟩
abbrev S1x4 : Shape := ⟨2, ![1, 4]⟩
abbrev S2048x4 : Shape := ⟨2, ![2048, 4]⟩
abbrev S8x2048 : Shape := ⟨2, ![8, 2048]⟩
abbrev S4x2048 : Shape := ⟨2, ![4, 2048]⟩
abbrev S2048x48 : Shape := ⟨2, ![2048, 48]⟩
abbrev S2048x64 : Shape := ⟨2, ![2048, 64]⟩
abbrev S1x2048x64 : Shape := ⟨3, ![1, 2048, 64]⟩
abbrev S3x2048x64 : Shape := ⟨3, ![3, 2048, 64]⟩
abbrev S1x3x1x2048x1x64 : Shape := ⟨6, ![1, 3, 1, 2048, 1, 64]⟩
abbrev S1x3x1x2048x2x64 : Shape := ⟨6, ![1, 3, 1, 2048, 2, 64]⟩
abbrev S3x2048x128 : Shape := ⟨3, ![3, 2048, 128]⟩
abbrev S1x1024 : Shape := ⟨2, ![1, 1024]⟩
abbrev S16x512x2048 : Shape := ⟨3, ![16, 512, 2048]⟩
abbrev S16x1024x2048 : Shape := ⟨3, ![16, 1024, 2048]⟩
abbrev S16x2048x2048 : Shape := ⟨3, ![16, 2048, 2048]⟩
abbrev S16x8x2048 : Shape := ⟨3, ![16, 8, 2048]⟩
abbrev S16x8x80x256 : Shape := ⟨4, ![16, 8, 80, 256]⟩
abbrev S16x8x576x256 : Shape := ⟨4, ![16, 8, 576, 256]⟩
abbrev S32768x512 : Shape := ⟨2, ![32768, 512]⟩
abbrev S32768x64 : Shape := ⟨2, ![32768, 64]⟩
abbrev S32768x256 : Shape := ⟨2, ![32768, 256]⟩
abbrev S8x512 : Shape := ⟨2, ![8, 512]⟩
abbrev S3x512x128 : Shape := ⟨3, ![3, 512, 128]⟩
abbrev S1x512x512 : Shape := ⟨3, ![1, 512, 512]⟩
abbrev S1x1024x512 : Shape := ⟨3, ![1, 1024, 512]⟩
abbrev S1x2048x512 : Shape := ⟨3, ![1, 2048, 512]⟩
abbrev S1x8x512 : Shape := ⟨3, ![1, 8, 512]⟩
abbrev S1x2x80x256 : Shape := ⟨4, ![1, 2, 80, 256]⟩
abbrev S1x2x576x256 : Shape := ⟨4, ![1, 2, 576, 256]⟩
abbrev S512x512 : Shape := ⟨2, ![512, 512]⟩
abbrev S512x64 : Shape := ⟨2, ![512, 64]⟩
abbrev S512x256 : Shape := ⟨2, ![512, 256]⟩
abbrev S512 : Shape := ⟨1, ![512]⟩
abbrev S512x1 : Shape := ⟨2, ![512, 1]⟩
abbrev S1x512x128 : Shape := ⟨3, ![1, 512, 128]⟩
abbrev S512x128 : Shape := ⟨2, ![512, 128]⟩
abbrev S912x512 : Shape := ⟨2, ![912, 512]⟩
abbrev S608x1024 : Shape := ⟨2, ![608, 1024]⟩
abbrev S608x512 : Shape := ⟨2, ![608, 512]⟩
abbrev S304x512 : Shape := ⟨2, ![304, 512]⟩
abbrev S64x512 : Shape := ⟨2, ![64, 512]⟩
abbrev S32x512 : Shape := ⟨2, ![32, 512]⟩
abbrev S24x512 : Shape := ⟨2, ![24, 512]⟩
abbrev S256x512 : Shape := ⟨2, ![256, 512]⟩
abbrev S1x256x512 : Shape := ⟨3, ![1, 256, 512]⟩
abbrev S1664x512 : Shape := ⟨2, ![1664, 512]⟩
abbrev S48x512 : Shape := ⟨2, ![48, 512]⟩
abbrev S128x512 : Shape := ⟨2, ![128, 512]⟩
abbrev S1x64x512 : Shape := ⟨3, ![1, 64, 512]⟩
abbrev S1x128x512 : Shape := ⟨3, ![1, 128, 512]⟩
abbrev S16x256 : Shape := ⟨2, ![16, 256]⟩
abbrev S128x256 : Shape := ⟨2, ![128, 256]⟩
abbrev S144x256 : Shape := ⟨2, ![144, 256]⟩
abbrev S1x1x144x256 : Shape := ⟨4, ![1, 1, 144, 256]⟩
abbrev S64x256 : Shape := ⟨2, ![64, 256]⟩
abbrev S80x256 : Shape := ⟨2, ![80, 256]⟩
abbrev S1x1x80x256 : Shape := ⟨4, ![1, 1, 80, 256]⟩

abbrev nBuf : Space → Nat
  | .hbm => 103
  | .vmem => 35
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024, .f32⟩
  | .hbm, ⟨3, _⟩ => ⟨S1x1024x7592, .f32⟩
  | .hbm, ⟨4, _⟩ => ⟨S1024x7592, .f32⟩
  | .hbm, ⟨5, _⟩ => ⟨S7592x1024, .f32⟩
  | .hbm, ⟨6, _⟩ => ⟨S7592x1024, .bf16⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S512x1024, .bf16⟩
  | .hbm, ⟨15, _⟩ => ⟨S64x1024, .bf16⟩
  | .hbm, ⟨16, _⟩ => ⟨S64x1024, .bf16⟩
  | .hbm, ⟨17, _⟩ => ⟨S1664x1024, .bf16⟩
  | .hbm, ⟨18, _⟩ => ⟨S256x1024, .f32⟩
  | .hbm, ⟨19, _⟩ => ⟨S32x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S304x1024, .f32⟩
  | .hbm, ⟨27, _⟩ => ⟨S304x1024, .bf16⟩
  | .hbm, ⟨28, _⟩ => ⟨S304x1024, .f32⟩
  | .hbm, ⟨29, _⟩ => ⟨S304x1024, .f32⟩
  | .hbm, ⟨30, _⟩ => ⟨S304x1024, .bf16⟩
  | .hbm, ⟨31, _⟩ => ⟨S304x1024, .f32⟩
  | .hbm, ⟨32, _⟩ => ⟨S304x1024, .f32⟩
  | .hbm, ⟨33, _⟩ => ⟨S304x1024, .bf16⟩
  | .hbm, ⟨34, _⟩ => ⟨S912x1024, .bf16⟩
  | .hbm, ⟨35, _⟩ => ⟨S512x1024, .bf16⟩
  | .hbm, ⟨36, _⟩ => ⟨S1024x512, .bf16⟩
  | .hbm, ⟨37, _⟩ => ⟨S32768x1024, .f32⟩
  | .hbm, ⟨38, _⟩ => ⟨S2048, .f32⟩
  | .hbm, ⟨39, _⟩ => ⟨S2048x1, .f32⟩
  | .hbm, ⟨40, _⟩ => ⟨S8, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S1x8, .f32⟩
  | .hbm, ⟨49, _⟩ => ⟨S2048x8, .f32⟩
  | .hbm, ⟨50, _⟩ => ⟨S2048x8, .f32⟩
  | .hbm, ⟨51, _⟩ => ⟨S2048x8, .f32⟩
  | .hbm, ⟨52, _⟩ => ⟨S2048x8, .f32⟩
  | .hbm, ⟨53, _⟩ => ⟨S2048x8, .f32⟩
  | .hbm, ⟨54, _⟩ => ⟨S4, .f32⟩
  | .hbm, ⟨55, _⟩ => ⟨S4, .f32⟩
  | .hbm, ⟨56, _⟩ => ⟨S_, .f32⟩
  | .hbm, ⟨57, _⟩ => ⟨S4, .f32⟩
  | .hbm, ⟨58, _⟩ => ⟨S4, .f32⟩
  | .hbm, ⟨59, _⟩ => ⟨S_, .f32⟩
  | .hbm, ⟨60, _⟩ => ⟨S4, .f32⟩
  | .hbm, ⟨61, _⟩ => ⟨S4, .f32⟩
  | .hbm, ⟨62, _⟩ => ⟨S1x4, .f32⟩
  | .hbm, ⟨63, _⟩ => ⟨S2048x4, .f32⟩
  | .hbm, ⟨64, _⟩ => ⟨S2048x4, .f32⟩
  | .hbm, ⟨65, _⟩ => ⟨S2048x4, .f32⟩
  | .hbm, ⟨66, _⟩ => ⟨S2048x4, .f32⟩
  | .hbm, ⟨67, _⟩ => ⟨S2048x4, .f32⟩
  | .hbm, ⟨68, _⟩ => ⟨S8x2048, .f32⟩
  | .hbm, ⟨69, _⟩ => ⟨S8x2048, .f32⟩
  | .hbm, ⟨70, _⟩ => ⟨S4x2048, .f32⟩
  | .hbm, ⟨71, _⟩ => ⟨S4x2048, .f32⟩
  | .hbm, ⟨72, _⟩ => ⟨S8x2048, .f32⟩
  | .hbm, ⟨73, _⟩ => ⟨S4x2048, .f32⟩
  | .hbm, ⟨74, _⟩ => ⟨S8x2048, .f32⟩
  | .hbm, ⟨75, _⟩ => ⟨S_, .f32⟩
  | .hbm, ⟨76, _⟩ => ⟨S2048x48, .f32⟩
  | .hbm, ⟨77, _⟩ => ⟨S_, .f32⟩
  | .hbm, ⟨78, _⟩ => ⟨S2048x48, .f32⟩
  | .hbm, ⟨79, _⟩ => ⟨S2048x64, .f32⟩
  | .hbm, ⟨80, _⟩ => ⟨S_, .f32⟩
  | .hbm, ⟨81, _⟩ => ⟨S2048x8, .f32⟩
  | .hbm, ⟨82, _⟩ => ⟨S2048x64, .f32⟩
  | .hbm, ⟨83, _⟩ => ⟨S2048x8, .f32⟩
  | .hbm, ⟨84, _⟩ => ⟨S2048x64, .f32⟩
  | .hbm, ⟨85, _⟩ => ⟨S1x2048x64, .f32⟩
  | .hbm, ⟨86, _⟩ => ⟨S1x2048x64, .f32⟩
  | .hbm, ⟨87, _⟩ => ⟨S1x2048x64, .f32⟩
  | .hbm, ⟨88, _⟩ => ⟨S3x2048x64, .f32⟩
  | .hbm, ⟨89, _⟩ => ⟨S1x3x1x2048x1x64, .f32⟩
  | .hbm, ⟨90, _⟩ => ⟨S1x3x1x2048x2x64, .f32⟩
  | .hbm, ⟨91, _⟩ => ⟨S3x2048x128, .f32⟩
  | .hbm, ⟨92, _⟩ => ⟨S1x1024, .f32⟩
  | .hbm, ⟨93, _⟩ => ⟨S1x1024, .f32⟩
  | .hbm, ⟨94, _⟩ => ⟨S16x512x2048, .bf16⟩
  | .hbm, ⟨95, _⟩ => ⟨S16x1024x2048, .bf16⟩
  | .hbm, ⟨96, _⟩ => ⟨S16x2048x2048, .bf16⟩
  | .hbm, ⟨97, _⟩ => ⟨S16x8x2048, .f32⟩
  | .hbm, ⟨98, _⟩ => ⟨S16x8x80x256, .bf16⟩
  | .hbm, ⟨99, _⟩ => ⟨S16x8x576x256, .bf16⟩
  | .hbm, ⟨100, _⟩ => ⟨S32768x512, .bf16⟩
  | .hbm, ⟨101, _⟩ => ⟨S32768x64, .bf16⟩
  | .hbm, ⟨102, _⟩ => ⟨S32768x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x512, .bf16⟩
  | .local _ .vmem, ⟨5, _⟩ => ⟨S1664x1024, .bf16⟩
  | .local _ .vmem, ⟨6, _⟩ => ⟨S912x1024, .bf16⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S3x512x128, .f32⟩
  | .local _ .vmem, ⟨16, _⟩ => ⟨S3x512x128, .f32⟩
  | .local _ .vmem, ⟨17, _⟩ => ⟨S1x512x512, .bf16⟩
  | .local _ .vmem, ⟨18, _⟩ => ⟨S1x512x512, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x2048x512, .bf16⟩
  | .local _ .vmem, ⟨22, _⟩ => ⟨S1x2048x512, .bf16⟩
  | .local _ .vmem, ⟨23, _⟩ => ⟨S1x8x512, .f32⟩
  | .local _ .vmem, ⟨24, _⟩ => ⟨S1x8x512, .f32⟩
  | .local _ .vmem, ⟨25, _⟩ => ⟨S1x2x80x256, .bf16⟩
  | .local _ .vmem, ⟨26, _⟩ => ⟨S1x2x80x256, .bf16⟩
  | .local _ .vmem, ⟨27, _⟩ => ⟨S1x2x576x256, .bf16⟩
  | .local _ .vmem, ⟨28, _⟩ => ⟨S1x2x576x256, .bf16⟩
  | .local _ .vmem, ⟨29, _⟩ => ⟨S512x512, .bf16⟩
  | .local _ .vmem, ⟨30, _⟩ => ⟨S512x512, .bf16⟩
  | .local _ .vmem, ⟨31, _⟩ => ⟨S512x64, .bf16⟩
  | .local _ .vmem, ⟨32, _⟩ => ⟨S512x64, .bf16⟩
  | .local _ .vmem, ⟨33, _⟩ => ⟨S512x256, .bf16⟩
  | .local _ .vmem, ⟨34, _⟩ => ⟨S512x256, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_4 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_6 : Ref sig .tc := ⟨.hbm, 75, rfl⟩
abbrev main_v64 : Ref sig .tc := ⟨.hbm, 76, rfl⟩
abbrev main_cst_7 : Ref sig .tc := ⟨.hbm, 77, rfl⟩
abbrev main_v65 : Ref sig .tc := ⟨.hbm, 78, rfl⟩
abbrev main_v66 : Ref sig .tc := ⟨.hbm, 79, rfl⟩
abbrev main_cst_8 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80_0 : Ref sig .tc := ⟨.hbm, 94, rfl⟩
abbrev main_v80_1 : Ref sig .tc := ⟨.hbm, 95, rfl⟩
abbrev main_v80_2 : Ref sig .tc := ⟨.hbm, 96, rfl⟩
abbrev main_v80_3 : Ref sig .tc := ⟨.hbm, 97, rfl⟩
abbrev main_v80_4 : Ref sig .tc := ⟨.hbm, 98, rfl⟩
abbrev main_v80_5 : Ref sig .tc := ⟨.hbm, 99, rfl⟩
abbrev main_v80_6 : Ref sig .tc := ⟨.hbm, 100, rfl⟩
abbrev main_v80_7 : Ref sig .tc := ⟨.hbm, 101, rfl⟩
abbrev main_v80_8 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_10 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_16 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1664x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S912x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2048x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x2x80x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x2x576x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x64 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference3Ideal.lean ====
abbrev S16x2048x1024 : Shape := ⟨3, ![16, 2048, 1024]⟩
abbrev S1024 : Shape := ⟨1, ![1024]⟩
abbrev S1x1024x7592 : Shape := ⟨3, ![1, 1024, 7592]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x7592 : Shape := ⟨2, ![1024, 7592]⟩
abbrev S16x2048x7592 : Shape := ⟨3, ![16, 2048, 7592]⟩
abbrev S16x2048x512 : Shape := ⟨3, ![16, 2048, 512]⟩
abbrev S16x2048x64 : Shape := ⟨3, ![16, 2048, 64]⟩
abbrev S16x2048x256 : Shape := ⟨3, ![16, 2048, 256]⟩
abbrev S16x2048x32 : Shape := ⟨3, ![16, 2048, 32]⟩
abbrev S16x2048x8 : Shape := ⟨3, ![16, 2048, 8]⟩
abbrev S16x2048x3072 : Shape := ⟨3, ![16, 2048, 3072]⟩
abbrev S8 : Shape := ⟨1, ![8]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S4 : Shape := ⟨1, ![4]⟩
abbrev S1x4 : Shape := ⟨2, ![1, 4]⟩
abbrev S2048x4 : Shape := ⟨2, ![2048, 4]⟩
abbrev S16x2048x8x64 : Shape := ⟨4, ![16, 2048, 8, 64]⟩
abbrev S2048x1x8 : Shape := ⟨3, ![2048, 1, 8]⟩
abbrev S16x2048x8x8 : Shape := ⟨4, ![16, 2048, 8, 8]⟩
abbrev S16x2048x8x48 : Shape := ⟨4, ![16, 2048, 8, 48]⟩
abbrev S1x2048x1x8 : Shape := ⟨4, ![1, 2048, 1, 8]⟩
abbrev S16x2048x1x64 : Shape := ⟨4, ![16, 2048, 1, 64]⟩
abbrev S16x2048x1x8 : Shape := ⟨4, ![16, 2048, 1, 8]⟩
abbrev S16x2048x1x48 : Shape := ⟨4, ![16, 2048, 1, 48]⟩
abbrev S16x2048x8x32 : Shape := ⟨4, ![16, 2048, 8, 32]⟩
abbrev S2048x1x4 : Shape := ⟨3, ![2048, 1, 4]⟩
abbrev S16x2048x8x4 : Shape := ⟨4, ![16, 2048, 8, 4]⟩
abbrev S16x2048x8x24 : Shape := ⟨4, ![16, 2048, 8, 24]⟩
abbrev S1x2048x1x4 : Shape := ⟨4, ![1, 2048, 1, 4]⟩
abbrev S16x2048x1x32 : Shape := ⟨4, ![16, 2048, 1, 32]⟩
abbrev S16x2048x1x4 : Shape := ⟨4, ![16, 2048, 1, 4]⟩
abbrev S16x2048x1x24 : Shape := ⟨4, ![16, 2048, 1, 24]⟩
abbrev S16x2048x4x2x64 : Shape := ⟨5, ![16, 2048, 4, 2, 64]⟩
abbrev S16x2048x4x64 : Shape := ⟨4, ![16, 2048, 4, 64]⟩
abbrev S16x2048x4x1x64 : Shape := ⟨5, ![16, 2048, 4, 1, 64]⟩
abbrev S16x2048x4x128 : Shape := ⟨4, ![16, 2048, 4, 128]⟩
abbrev S16x2048x4x1x128 : Shape := ⟨5, ![16, 2048, 4, 1, 128]⟩
abbrev S16x2048x4x2x128 : Shape := ⟨5, ![16, 2048, 4, 2, 128]⟩
abbrev S16x2048x8x256 : Shape := ⟨4, ![16, 2048, 8, 256]⟩
abbrev S16x512x2048 : Shape := ⟨3, ![16, 512, 2048]⟩
abbrev S16x1024x2048 : Shape := ⟨3, ![16, 1024, 2048]⟩
abbrev S16x2048x2048 : Shape := ⟨3, ![16, 2048, 2048]⟩
abbrev S16x8x2048 : Shape := ⟨3, ![16, 8, 2048]⟩
abbrev S16x2048x1x16 : Shape := ⟨4, ![16, 2048, 1, 16]⟩
abbrev S16x2048x1x80 : Shape := ⟨4, ![16, 2048, 1, 80]⟩
abbrev S16x8x256x80 : Shape := ⟨4, ![16, 8, 256, 80]⟩
abbrev S16x8x80x256 : Shape := ⟨4, ![16, 8, 80, 256]⟩
abbrev S16x2048x4x16 : Shape := ⟨4, ![16, 2048, 4, 16]⟩
abbrev S16x2048x4x144 : Shape := ⟨4, ![16, 2048, 4, 144]⟩
abbrev S16x8x256x576 : Shape := ⟨4, ![16, 8, 256, 576]⟩
abbrev S16x8x576x256 : Shape := ⟨4, ![16, 8, 576, 256]⟩
abbrev S32768x512 : Shape := ⟨2, ![32768, 512]⟩
abbrev S32768x64 : Shape := ⟨2, ![32768, 64]⟩
abbrev S32768x256 : Shape := ⟨2, ![32768, 256]⟩

abbrev nBuf : Space → Nat
  | .hbm => 284
  | .vmem => 0
  | .smem => 0
  | _ => 0

abbrev hbmTy0_0 (i : Nat) : BufTy := match i % 128 with
  | 0 => ⟨S16x2048x1024, .f32⟩
  | 1 => ⟨S1024, .f32⟩
  | 2 => ⟨S1024, .f32⟩
  | 3 => ⟨S1x1024x7592, .f32⟩
  | 4 => ⟨S_, .f32⟩
  | 5 => ⟨S16x2048, .f32⟩
  | 6 => ⟨S16x2048x1, .f32⟩
  | 7 => ⟨S_, .f32⟩
  | 8 => ⟨S16x2048x1, .f32⟩
  | 9 => ⟨S16x2048x1, .f32⟩
  | 10 => ⟨S16x2048x1024, .f32⟩
  | 11 => ⟨S16x2048x1024, .f32⟩
  | 12 => ⟨S16x2048x1024, .f32⟩
  | 13 => ⟨S_, .f32⟩
  | 14 => ⟨S16x2048, .f32⟩
  | 15 => ⟨S16x2048x1, .f32⟩
  | 16 => ⟨S_, .f32⟩
  | 17 => ⟨S16x2048x1, .f32⟩
  | 18 => ⟨S16x2048x1, .f32⟩
  | 19 => ⟨S16x2048x1024, .f32⟩
  | 20 => ⟨S16x2048x1024, .f32⟩
  | 21 => ⟨S_, .f32⟩
  | 22 => ⟨S16x2048x1, .f32⟩
  | 23 => ⟨S16x2048x1, .f32⟩
  | 24 => ⟨S16x2048x1, .f32⟩
  | 25 => ⟨S16x2048x1024, .f32⟩
  | 26 => ⟨S16x2048x1024, .f32⟩
  | 27 => ⟨S1x1x1024, .f32⟩
  | 28 => ⟨S16x2048x1024, .f32⟩
  | 29 => ⟨S16x2048x1024, .f32⟩
  | 30 => ⟨S1x1x1024, .f32⟩
  | 31 => ⟨S16x2048x1024, .f32⟩
  | 32 => ⟨S16x2048x1024, .f32⟩
  | 33 => ⟨S1024x7592, .f32⟩
  | 34 => ⟨S16x2048x7592, .f32⟩
  | 35 => ⟨S16x2048x512, .f32⟩
  | 36 => ⟨S16x2048x64, .f32⟩
  | 37 => ⟨S16x2048x64, .f32⟩
  | 38 => ⟨S16x2048x512, .f32⟩
  | 39 => ⟨S16x2048x256, .f32⟩
  | 40 => ⟨S16x2048x32, .f32⟩
  | 41 => ⟨S16x2048x8, .f32⟩
  | 42 => ⟨S16x2048x512, .f32⟩
  | 43 => ⟨S16x2048x512, .f32⟩
  | 44 => ⟨S16x2048x512, .f32⟩
  | 45 => ⟨S16x2048x512, .f32⟩
  | 46 => ⟨S16x2048x512, .f32⟩
  | 47 => ⟨S16x2048x512, .f32⟩
  | 48 => ⟨S16x2048x3072, .f32⟩
  | 49 => ⟨S8, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S2048, .f32⟩
  | 58 => ⟨S2048x1, .f32⟩
  | 59 => ⟨S1x8, .f32⟩
  | 60 => ⟨S2048x8, .f32⟩
  | 61 => ⟨S2048x8, .f32⟩
  | 62 => ⟨S2048x8, .f32⟩
  | 63 => ⟨S2048x8, .f32⟩
  | 64 => ⟨S2048x8, .f32⟩
  | 65 => ⟨S4, .f32⟩
  | 66 => ⟨S4, .f32⟩
  | 67 => ⟨S_, .f32⟩
  | 68 => ⟨S4, .f32⟩
  | 69 => ⟨S4, .f32⟩
  | 70 => ⟨S_, .f32⟩
  | 71 => ⟨S4, .f32⟩
  | 72 => ⟨S4, .f32⟩
  | 73 => ⟨S2048, .f32⟩
  | 74 => ⟨S2048x1, .f32⟩
  | 75 => ⟨S1x4, .f32⟩
  | 76 => ⟨S2048x4, .f32⟩
  | 77 => ⟨S2048x4, .f32⟩
  | 78 => ⟨S2048x4, .f32⟩
  | 79 => ⟨S2048x4, .f32⟩
  | 80 => ⟨S2048x4, .f32⟩
  | 81 => ⟨S16x2048x8x64, .f32⟩
  | 82 => ⟨S2048x1x8, .f32⟩
  | 83 => ⟨S2048x1x8, .f32⟩
  | 84 => ⟨S16x2048x8x8, .f32⟩
  | 85 => ⟨S16x2048x8x8, .f32⟩
  | 86 => ⟨S16x2048x8x48, .f32⟩
  | 87 => ⟨S1x2048x1x8, .f32⟩
  | 88 => ⟨S16x2048x8x8, .f32⟩
  | 89 => ⟨S16x2048x8x8, .f32⟩
  | 90 => ⟨S1x2048x1x8, .f32⟩
  | 91 => ⟨S16x2048x8x8, .f32⟩
  | 92 => ⟨S16x2048x8x8, .f32⟩
  | 93 => ⟨S16x2048x8x8, .f32⟩
  | 94 => ⟨S1x2048x1x8, .f32⟩
  | 95 => ⟨S16x2048x8x8, .f32⟩
  | 96 => ⟨S16x2048x8x8, .f32⟩
  | 97 => ⟨S1x2048x1x8, .f32⟩
  | 98 => ⟨S16x2048x8x8, .f32⟩
  | 99 => ⟨S16x2048x8x8, .f32⟩
  | 100 => ⟨S16x2048x8x8, .f32⟩
  | 101 => ⟨S16x2048x8x64, .f32⟩
  | 102 => ⟨S_, .f32⟩
  | 103 => ⟨S16x2048x8x64, .f32⟩
  | 104 => ⟨S16x2048x8x64, .f32⟩
  | 105 => ⟨S16x2048x1x64, .f32⟩
  | 106 => ⟨S2048x1x8, .f32⟩
  | 107 => ⟨S2048x1x8, .f32⟩
  | 108 => ⟨S16x2048x1x8, .f32⟩
  | 109 => ⟨S16x2048x1x8, .f32⟩
  | 110 => ⟨S16x2048x1x48, .f32⟩
  | 111 => ⟨S1x2048x1x8, .f32⟩
  | 112 => ⟨S16x2048x1x8, .f32⟩
  | 113 => ⟨S16x2048x1x8, .f32⟩
  | 114 => ⟨S1x2048x1x8, .f32⟩
  | 115 => ⟨S16x2048x1x8, .f32⟩
  | 116 => ⟨S16x2048x1x8, .f32⟩
  | 117 => ⟨S16x2048x1x8, .f32⟩
  | 118 => ⟨S1x2048x1x8, .f32⟩
  | 119 => ⟨S16x2048x1x8, .f32⟩
  | 120 => ⟨S16x2048x1x8, .f32⟩
  | 121 => ⟨S1x2048x1x8, .f32⟩
  | 122 => ⟨S16x2048x1x8, .f32⟩
  | 123 => ⟨S16x2048x1x8, .f32⟩
  | 124 => ⟨S16x2048x1x8, .f32⟩
  | 125 => ⟨S16x2048x1x64, .f32⟩
  | 126 => ⟨S16x2048x64, .f32⟩
  | 127 => ⟨S16x2048x8x32, .f32⟩
  | _ => ⟨S16x2048x1024, .f32⟩

abbrev hbmTy0_1 (i : Nat) : BufTy := match i % 128 with
  | 0 => ⟨S2048x1x4, .f32⟩
  | 1 => ⟨S2048x1x4, .f32⟩
  | 2 => ⟨S16x2048x8x4, .f32⟩
  | 3 => ⟨S16x2048x8x4, .f32⟩
  | 4 => ⟨S16x2048x8x24, .f32⟩
  | 5 => ⟨S1x2048x1x4, .f32⟩
  | 6 => ⟨S16x2048x8x4, .f32⟩
  | 7 => ⟨S16x2048x8x4, .f32⟩
  | 8 => ⟨S1x2048x1x4, .f32⟩
  | 9 => ⟨S16x2048x8x4, .f32⟩
  | 10 => ⟨S16x2048x8x4, .f32⟩
  | 11 => ⟨S16x2048x8x4, .f32⟩
  | 12 => ⟨S1x2048x1x4, .f32⟩
  | 13 => ⟨S16x2048x8x4, .f32⟩
  | 14 => ⟨S16x2048x8x4, .f32⟩
  | 15 => ⟨S1x2048x1x4, .f32⟩
  | 16 => ⟨S16x2048x8x4, .f32⟩
  | 17 => ⟨S16x2048x8x4, .f32⟩
  | 18 => ⟨S16x2048x8x4, .f32⟩
  | 19 => ⟨S16x2048x8x32, .f32⟩
  | 20 => ⟨S16x2048x1x32, .f32⟩
  | 21 => ⟨S2048x1x4, .f32⟩
  | 22 => ⟨S2048x1x4, .f32⟩
  | 23 => ⟨S16x2048x1x4, .f32⟩
  | 24 => ⟨S16x2048x1x4, .f32⟩
  | 25 => ⟨S16x2048x1x24, .f32⟩
  | 26 => ⟨S1x2048x1x4, .f32⟩
  | 27 => ⟨S16x2048x1x4, .f32⟩
  | 28 => ⟨S16x2048x1x4, .f32⟩
  | 29 => ⟨S1x2048x1x4, .f32⟩
  | 30 => ⟨S16x2048x1x4, .f32⟩
  | 31 => ⟨S16x2048x1x4, .f32⟩
  | 32 => ⟨S16x2048x1x4, .f32⟩
  | 33 => ⟨S1x2048x1x4, .f32⟩
  | 34 => ⟨S16x2048x1x4, .f32⟩
  | 35 => ⟨S16x2048x1x4, .f32⟩
  | 36 => ⟨S1x2048x1x4, .f32⟩
  | 37 => ⟨S16x2048x1x4, .f32⟩
  | 38 => ⟨S16x2048x1x4, .f32⟩
  | 39 => ⟨S16x2048x1x4, .f32⟩
  | 40 => ⟨S16x2048x1x32, .f32⟩
  | 41 => ⟨S16x2048x32, .f32⟩
  | 42 => ⟨S_, .f32⟩
  | 43 => ⟨S16x2048x8, .f32⟩
  | 44 => ⟨S16x2048x8, .f32⟩
  | 45 => ⟨S16x2048x8x64, .f32⟩
  | 46 => ⟨S2048x1x8, .f32⟩
  | 47 => ⟨S2048x1x8, .f32⟩
  | 48 => ⟨S16x2048x8x8, .f32⟩
  | 49 => ⟨S16x2048x8x8, .f32⟩
  | 50 => ⟨S16x2048x8x48, .f32⟩
  | 51 => ⟨S1x2048x1x8, .f32⟩
  | 52 => ⟨S16x2048x8x8, .f32⟩
  | 53 => ⟨S16x2048x8x8, .f32⟩
  | 54 => ⟨S1x2048x1x8, .f32⟩
  | 55 => ⟨S16x2048x8x8, .f32⟩
  | 56 => ⟨S16x2048x8x8, .f32⟩
  | 57 => ⟨S16x2048x8x8, .f32⟩
  | 58 => ⟨S1x2048x1x8, .f32⟩
  | 59 => ⟨S16x2048x8x8, .f32⟩
  | 60 => ⟨S16x2048x8x8, .f32⟩
  | 61 => ⟨S1x2048x1x8, .f32⟩
  | 62 => ⟨S16x2048x8x8, .f32⟩
  | 63 => ⟨S16x2048x8x8, .f32⟩
  | 64 => ⟨S16x2048x8x8, .f32⟩
  | 65 => ⟨S16x2048x8x64, .f32⟩
  | 66 => ⟨S16x2048x4x2x64, .f32⟩
  | 67 => ⟨S_, .f32⟩
  | 68 => ⟨S16x2048x4x2x64, .f32⟩
  | 69 => ⟨S16x2048x4x2x64, .f32⟩
  | 70 => ⟨S16x2048x8x64, .f32⟩
  | 71 => ⟨S2048x1x8, .f32⟩
  | 72 => ⟨S2048x1x8, .f32⟩
  | 73 => ⟨S16x2048x8x8, .f32⟩
  | 74 => ⟨S16x2048x8x8, .f32⟩
  | 75 => ⟨S16x2048x8x48, .f32⟩
  | 76 => ⟨S1x2048x1x8, .f32⟩
  | 77 => ⟨S16x2048x8x8, .f32⟩
  | 78 => ⟨S16x2048x8x8, .f32⟩
  | 79 => ⟨S1x2048x1x8, .f32⟩
  | 80 => ⟨S16x2048x8x8, .f32⟩
  | 81 => ⟨S16x2048x8x8, .f32⟩
  | 82 => ⟨S16x2048x8x8, .f32⟩
  | 83 => ⟨S1x2048x1x8, .f32⟩
  | 84 => ⟨S16x2048x8x8, .f32⟩
  | 85 => ⟨S16x2048x8x8, .f32⟩
  | 86 => ⟨S1x2048x1x8, .f32⟩
  | 87 => ⟨S16x2048x8x8, .f32⟩
  | 88 => ⟨S16x2048x8x8, .f32⟩
  | 89 => ⟨S16x2048x8x8, .f32⟩
  | 90 => ⟨S16x2048x8x64, .f32⟩
  | 91 => ⟨S_, .f32⟩
  | 92 => ⟨S16x2048x4x64, .f32⟩
  | 93 => ⟨S16x2048x4x1x64, .f32⟩
  | 94 => ⟨S16x2048x4x64, .f32⟩
  | 95 => ⟨S16x2048x4x128, .f32⟩
  | 96 => ⟨S16x2048x4x1x64, .f32⟩
  | 97 => ⟨S16x2048x4x64, .f32⟩
  | 98 => ⟨S16x2048x4x128, .f32⟩
  | 99 => ⟨S16x2048x4x1x128, .f32⟩
  | 100 => ⟨S16x2048x4x1x128, .f32⟩
  | 101 => ⟨S16x2048x4x2x128, .f32⟩
  | 102 => ⟨S16x2048x8x32, .bf16⟩
  | 103 => ⟨S16x2048x8x32, .f32⟩
  | 104 => ⟨S16x2048x8x32, .f32⟩
  | 105 => ⟨S16x2048x8x32, .bf16⟩
  | 106 => ⟨S16x2048x8x32, .f32⟩
  | 107 => ⟨S16x2048x8x32, .f32⟩
  | 108 => ⟨S16x2048x8x32, .f32⟩
  | 109 => ⟨S16x2048x8x32, .bf16⟩
  | 110 => ⟨S16x2048x8x32, .f32⟩
  | 111 => ⟨S16x2048x32, .bf16⟩
  | 112 => ⟨S16x2048x32, .f32⟩
  | 113 => ⟨S16x2048x32, .f32⟩
  | 114 => ⟨S16x2048x32, .bf16⟩
  | 115 => ⟨S16x2048x32, .f32⟩
  | 116 => ⟨S16x2048x32, .f32⟩
  | 117 => ⟨S16x2048x32, .f32⟩
  | 118 => ⟨S16x2048x32, .bf16⟩
  | 119 => ⟨S16x2048x32, .f32⟩
  | 120 => ⟨S_, .f32⟩
  | 121 => ⟨S16x2048x8x64, .f32⟩
  | 122 => ⟨S16x2048x8x256, .f32⟩
  | 123 => ⟨S_, .f32⟩
  | 124 => ⟨S16x2048x64, .f32⟩
  | 125 => ⟨S16x2048x256, .f32⟩
  | 126 => ⟨S16x2048x512, .f32⟩
  | 127 => ⟨S16x512x2048, .f32⟩
  | _ => ⟨S16x2048x1024, .f32⟩

abbrev hbmTy0_2 (i : Nat) : BufTy := match i % 128 with
  | 0 => ⟨S16x512x2048, .bf16⟩
  | 1 => ⟨S16x2048x1024, .f32⟩
  | 2 => ⟨S16x1024x2048, .f32⟩
  | 3 => ⟨S16x1024x2048, .bf16⟩
  | 4 => ⟨S16x2048x2048, .f32⟩
  | 5 => ⟨S16x2048x2048, .f32⟩
  | 6 => ⟨S16x2048x2048, .bf16⟩
  | 7 => ⟨S16x8x2048, .f32⟩
  | 8 => ⟨S16x2048x1x64, .f32⟩
  | 9 => ⟨S_, .f32⟩
  | 10 => ⟨S16x2048x1x16, .f32⟩
  | 11 => ⟨S16x2048x1x80, .f32⟩
  | 12 => ⟨S16x8x256x80, .f32⟩
  | 13 => ⟨S16x8x80x256, .f32⟩
  | 14 => ⟨S16x8x80x256, .bf16⟩
  | 15 => ⟨S16x2048x4x128, .f32⟩
  | 16 => ⟨S_, .f32⟩
  | 17 => ⟨S16x2048x4x16, .f32⟩
  | 18 => ⟨S16x2048x4x144, .f32⟩
  | 19 => ⟨S16x8x256x576, .f32⟩
  | 20 => ⟨S16x8x576x256, .f32⟩
  | 21 => ⟨S16x8x576x256, .bf16⟩
  | 22 => ⟨S32768x512, .f32⟩
  | 23 => ⟨S32768x512, .bf16⟩
  | 24 => ⟨S32768x64, .f32⟩
  | 25 => ⟨S32768x64, .bf16⟩
  | 26 => ⟨S32768x256, .f32⟩
  | 27 => ⟨S32768x256, .bf16⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_6 : Ref sig .tc := ⟨.hbm, 67, rfl⟩
abbrev main_v56 : Ref sig .tc := ⟨.hbm, 68, rfl⟩
abbrev main_v57 : Ref sig .tc := ⟨.hbm, 69, rfl⟩
abbrev main_cst_7 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_cst_8 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_cst_9 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_cst_10 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_cst_11 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_cst_12 : Ref sig .tc := ⟨.hbm, 248, rfl⟩
abbrev main_v231 : Ref sig .tc := ⟨.hbm, 249, rfl⟩
abbrev main_v232 : Ref sig .tc := ⟨.hbm, 250, rfl⟩
abbrev main_cst_13 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_v237 : Ref sig .tc := ⟨.hbm, 256, rfl⟩
abbrev main_v238 : Ref sig .tc := ⟨.hbm, 257, rfl⟩
abbrev main_v239 : Ref sig .tc := ⟨.hbm, 258, rfl⟩
abbrev main_v240 : Ref sig .tc := ⟨.hbm, 259, rfl⟩
abbrev main_v241 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_cst_14 : Ref sig .tc := ⟨.hbm, 265, rfl⟩
abbrev main_v246 : Ref sig .tc := ⟨.hbm, 266, rfl⟩
abbrev main_v247 : Ref sig .tc := ⟨.hbm, 267, rfl⟩
abbrev main_v248 : Ref sig .tc := ⟨.hbm, 268, rfl⟩
abbrev main_v249 : Ref sig .tc := ⟨.hbm, 269, rfl⟩
abbrev main_v250 : Ref sig .tc := ⟨.hbm, 270, rfl⟩
abbrev main_v251 : Ref sig .tc := ⟨.hbm, 271, rfl⟩
abbrev main_cst_15 : Ref sig .tc := ⟨.hbm, 272, rfl⟩
abbrev main_v252 : Ref sig .tc := ⟨.hbm, 273, rfl⟩
abbrev main_v253 : Ref sig .tc := ⟨.hbm, 274, rfl⟩
abbrev main_v254 : Ref sig .tc := ⟨.hbm, 275, rfl⟩
abbrev main_v255 : Ref sig .tc := ⟨.hbm, 276, rfl⟩
abbrev main_v256 : Ref sig .tc := ⟨.hbm, 277, rfl⟩
abbrev main_v257 : Ref sig .tc := ⟨.hbm, 278, rfl⟩
abbrev main_v258 : Ref sig .tc := ⟨.hbm, 279, rfl⟩
abbrev main_v259 : Ref sig .tc := ⟨.hbm, 280, rfl⟩
abbrev main_v260 : Ref sig .tc := ⟨.hbm, 281, rfl⟩
abbrev main_v261 : Ref sig .tc := ⟨.hbm, 282, rfl⟩
abbrev main_v262 : Ref sig .tc := ⟨.hbm, 283, rfl⟩

abbrev nD : Nat := 1
abbrev τ : Topo := Topo.v7x

variable {F : FTy → Type} [FloatOps F]
-- ==== Proof.Rows.lean ====
/- Vector operations at the ideal values, read at an index by its coordinates, and the row functions the layer is made of.
   (Hand-written, untrusted.) -/
module

public import Idealize.ShloMosaic.Lib.Pipeline.Value
public import Idealize.ShloMosaic.Lib.ValueIdx
public import Idealize.ShloMosaic.PureOps.Ideal.Laws

@[expose] public section

noncomputable section

namespace Cert.Rows

open Idealize.ShloMosaic Idealize.ShloMosaic.ValueIdx

/-! ## Operations at an index -/

/-- A product of two matrices accumulated into zero, at a row and a column, is the sum of the products along the row and
    the column. -/
theorem mm_apply {M K N : Nat} {φ₁ φ₂ : FTy} (d : DotDims ⟨2, ![M, K]⟩ ⟨2, ![K, N]⟩ ⟨2, ![M, N]⟩) (hd : d = DotDims.plain M K N)
    (a : FVec Ideal ⟨2, ![M, K]⟩ φ₁) (b : FVec Ideal ⟨2, ![K, N]⟩ φ₂) (r : Fin M) (c : Fin N) :
    matmul d none a b (constant ⟨2, ![M, N]⟩ .f32 0x00000000#32) (ix2 r c) = ∑ k : Fin K, a (ix2 r k) * b (ix2 k c) := by
  subst hd
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by match a with | ⟨0, _⟩ => rfl | ⟨1, _⟩ => exact hk)
  have er : (DotDims.plain M K N).rhsIdx (ix2 r c) ((contrEquiv1 (DotDims.plain M K N) K rfl rfl).symm k) = ix2 k c :=
    funext fun a => Fin.ext (by match a with | ⟨0, _⟩ => exact hk | ⟨1, _⟩ => rfl)
  rw [el, er]

/-- A product with the right operand's rows contracted: the sum of the products along two rows. -/
theorem mmT_apply {M K N : Nat} {φ₁ φ₂ : FTy} (d : DotDims ⟨2, ![M, K]⟩ ⟨2, ![N, K]⟩ ⟨2, ![M, N]⟩) (hd : d = DotDims.transposedRhs M K N)
    (a : FVec Ideal ⟨2, ![M, K]⟩ φ₁) (b : FVec Ideal ⟨2, ![N, K]⟩ φ₂) (r : Fin M) (c : Fin N) :
    matmul d none a b (constant ⟨2, ![M, N]⟩ .f32 0x00000000#32) (ix2 r c) = ∑ k : Fin K, a (ix2 r k) * b (ix2 c k) := by
  subst hd
  simp only [matmul]
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by match a with | ⟨0, _⟩ => rfl | ⟨1, _⟩ => exact hk)
  have er : (DotDims.transposedRhs M K N).rhsIdx (ix2 r c) ((contrEquiv1 (DotDims.transposedRhs M K N) K rfl rfl).symm k) = ix2 c k :=
    funext fun a => Fin.ext (by match a with | ⟨0, _⟩ => rfl | ⟨1, _⟩ => exact hk)
  rw [el, er]

/-- A row's sum. -/
theorem rowSum_apply {M N : Nat} (x : FVec Ideal ⟨2, ![M, N]⟩ .f32) (h : Shape.Reduces ⟨2, ![M, N]⟩ [1] ⟨1, ![M]⟩)
    (hφ : FKind.Formats .f32) (hacc : (0x00000000#32 : BitVec 32) = FKind.add.neutral .f32 hφ) (r : Fin M) :
    multiReduction .add [1] ⟨1, ![M]⟩ x 0x00000000#32 h hφ hacc (ix1 r) = ∑ k : Fin N, x (ix2 r k) := by
  rw [Ideal.multiReduction_add_single]
  exact Finset.sum_congr rfl fun k _ => congrArg x (funext fun a => Fin.ext (by match a with | ⟨0, _⟩ => rfl | ⟨1, _⟩ => rfl))

/-- A row's largest entry. -/
def rowMax {N : Nat} (f : Fin N → EReal) : EReal := (Finset.univ : Finset (Fin N)).fold max ⊥ f

/-- The float pattern of minus infinity is the least extended real. -/
theorem ofBits_neg_inf : Ideal.ofBits .f32 0xFF800000#32 = ⊥ := by simp [Ideal.ofBits, Ideal.ieee]
/-- The float pattern of one. -/
theorem ofBits_one : Ideal.ofBits .f32 0x3F800000#32 = 1 := by
  simp [Ideal.ofBits, Ideal.ieee, -EReal.coe_mul]; norm_num

/-- A row's largest entry, as a reduction computes it. -/
theorem rowMax_apply {M N : Nat} (x : FVec Ideal ⟨2, ![M, N]⟩ .f32) (h : Shape.Reduces ⟨2, ![M, N]⟩ [1] ⟨1, ![M]⟩)
    (hφ : FKind.Formats .f32) (hacc : (0xFF800000#32 : BitVec 32) = FKind.maximumf.neutral .f32 hφ) (r : Fin M) :
    multiReduction .maximumf [1] ⟨1, ![M]⟩ x 0xFF800000#32 h hφ hacc (ix1 r) = rowMax fun k : Fin N => x (ix2 r k) := by
  rw [Ideal.multiReduction_maximumf_single]
  show Finset.fold max (Ideal.ofBits .f32 0xFF800000#32) _ _ = _
  rw [ofBits_neg_inf]
  refine congrArg (fun f => Finset.fold max ⊥ f Finset.univ) (funext fun k => ?_)
  exact congrArg x (funext fun a => Fin.ext (by match a with | ⟨0, _⟩ => rfl | ⟨1, _⟩ => rfl))

section Layout
variable {α : Type}

/-- A column vector from a vector. -/
theorem col_apply {M : Nat} (x : (⟨1, ![M]⟩ : Shape).Idx → α) (h : (⟨1, ![M]⟩ : Shape).ShapeCasts ⟨2, ![M, 1]⟩) (r : Fin M) (c : Fin 1) :
    shapeCast ⟨2, ![M, 1]⟩ x h (ix2 r c) = x (ix1 r) :=
  shapeCast_apply x h _ _ (by
    rw [Shape.rowMajor_val_one, Shape.rowMajor_val_two]
    show r.val = r.val * 1 + c.val
    omega)
/-- A column repeated along the rows. -/
theorem colBroadcast_apply {M N : Nat} (x : (⟨2, ![M, 1]⟩ : Shape).Idx → α) (h : (⟨2, ![M, 1]⟩ : Shape).Broadcasts ⟨2, ![M, N]⟩) (r : Fin M) (c : Fin N) :
    broadcastTo ⟨2, ![M, N]⟩ x h (ix2 r c) = x (ix2 r 0) :=
  broadcastTo_apply x h _ _ (fun a => match a with
    | ⟨0, _⟩ => by
        show r.val = if M = 1 then 0 else r.val
        split
        · have := r.isLt; omega
        · rfl
    | ⟨1, _⟩ => rfl)
/-- A row repeated down the columns. -/
theorem rowBroadcast_apply {M N : Nat} (x : (⟨2, ![1, N]⟩ : Shape).Idx → α) (h : (⟨2, ![1, N]⟩ : Shape).Broadcasts ⟨2, ![M, N]⟩) (r : Fin M) (c : Fin N) :
    broadcastTo ⟨2, ![M, N]⟩ x h (ix2 r c) = x (ix2 0 c) :=
  broadcastTo_apply x h _ _ (fun a => match a with
    | ⟨0, _⟩ => rfl
    | ⟨1, _⟩ => by
        show c.val = if N = 1 then 0 else c.val
        split
        · have := c.isLt; omega
        · rfl)
/-- A matrix under a leading axis of one. -/
theorem dropLead_apply {M N : Nat} (x : (⟨3, ![1, M, N]⟩ : Shape).Idx → α) (h : (⟨3, ![1, M, N]⟩ : Shape).ShapeCasts ⟨2, ![M, N]⟩) (r : Fin M) (c : Fin N) :
    shapeCast ⟨2, ![M, N]⟩ x h (ix2 r c) = x (ix3 0 r c) :=
  shapeCast_apply x h _ _ (by
    rw [Shape.rowMajor_val_three, Shape.rowMajor_val_two]
    show (0 * M + r.val) * N + c.val = r.val * N + c.val
    rw [Nat.zero_mul, Nat.zero_add])
/-- The columns from `o` on. -/
theorem cols_apply {M N K : Nat} (o : Nat) (x : (⟨2, ![M, N]⟩ : Shape).Idx → α) (h : (⟨2, ![M, N]⟩ : Shape).Slices ![0, o] ⟨2, ![M, K]⟩)
    (hK : o + K ≤ N) (r : Fin M) (c : Fin K) :
    extractStridedSlice ⟨2, ![M, K]⟩ ![0, o] x h (ix2 r c) = x (ix2 r ⟨o + c.val, by omega⟩) :=
  extractStridedSlice_apply ![0, o] x h _ _ (fun a => match a with
    | ⟨0, _⟩ => by show r.val = 0 + r.val; omega
    | ⟨1, _⟩ => rfl)
end Layout

/-! ## The row functions -/

/-- A row of 1024 entries: its mean. -/
def mean (f : Fin 1024 → EReal) : EReal := Ideal.div (∑ k, f k) (Ideal.ofBits .f32 0x44800000#32)
/-- The layer normalisation of a row with its gain and offset. -/
def lnRow (v g b : Fin 1024 → EReal) (c : Fin 1024) : EReal :=
  (v c - mean v) * Ideal.rsqrt (mean (fun k => (v k - mean v) * (v k - mean v)) + Ideal.ofBits .f32 0x3727C5AC#32) * g c + b c
/-- A row times a matrix. -/
def dotRow {K N : Nat} (h : Fin K → EReal) (w : Fin K → Fin N → EReal) (c : Fin N) : EReal := ∑ k, h k * w k c
/-- The gate `x · σ(x)`. -/
def silu (x : EReal) : EReal := x * Ideal.logistic x
/-- One head's scaled logits of a row of queries against the memory's keys. -/
def logitRow (q : Fin 128 → EReal) (mk : Fin 128 → Fin 256 → EReal) (j : Fin 256) : EReal :=
  dotRow q mk j * Ideal.ofBits .f32 0x3DB504F3#32
/-- The softmax of a row. -/
def softRow (s : Fin 256 → EReal) (j : Fin 256) : EReal :=
  Ideal.div (Ideal.exp (s j - rowMax s)) (∑ k, Ideal.exp (s k - rowMax s))
/-- One head's attention over the memory. -/
def headRow (q : Fin 128 → EReal) (mk : Fin 128 → Fin 256 → EReal) (mv : Fin 256 → Fin 128 → EReal) (d : Fin 128) : EReal :=
  dotRow (softRow (logitRow q mk)) mv d
/-- The four heads of a row side by side. -/
def memRow (q : Fin 512 → EReal) (mkt : Fin 512 → Fin 256 → EReal) (mv : Fin 256 → Fin 512 → EReal) (c : Fin 512) : EReal :=
  headRow (fun d => q ⟨c.val / 128 * 128 + d.val, by omega⟩) (fun d j => mkt ⟨c.val / 128 * 128 + d.val, by omega⟩ j)
    (fun j d => mv j ⟨c.val / 128 * 128 + d.val, by omega⟩) ⟨c.val % 128, by omega⟩
/-- The merge of the three branches' gated projections. -/
def mergeRow (ga gb gc ya yb yc : Fin 1024 → EReal) (c : Fin 1024) : EReal := ga c * ya c + gb c * yb c + gc c * yc c
/-- The row the layer ends with, from a row of the input, the two mixers' rows, the memory and the weights. -/
def tailRow (x : Fin 1024 → EReal) (oa ob : Fin 512 → EReal) (mkt : Fin 512 → Fin 256 → EReal) (mv : Fin 256 → Fin 512 → EReal)
    (g b : Fin 1024 → EReal) (wcq wga wgb wgc : Fin 1024 → Fin 512 → EReal) (wma wmb wmc : Fin 1024 → Fin 1024 → EReal)
    (wpa wpb wpc : Fin 512 → Fin 1024 → EReal) (wo : Fin 1024 → Fin 1024 → EReal) (lg lb : Fin 1024 → EReal) : Fin 1024 → EReal :=
  let h := lnRow x g b
  let ya := dotRow (fun k => oa k * silu (dotRow h wga k)) wpa
  let yb := dotRow (fun k => ob k * silu (dotRow h wgb k)) wpb
  let yc := dotRow (fun k => memRow (dotRow h wcq) mkt mv k * silu (dotRow h wgc k)) wpc
  let m := mergeRow (fun c => Ideal.logistic (dotRow h wma c)) (fun c => Ideal.logistic (dotRow h wmb c))
    (fun c => Ideal.logistic (dotRow h wmc c)) ya yb yc
  lnRow (fun c => Ideal.ofBits .f32 0x3F9837F0#32 * h c + dotRow m wo c) lg lb

end Cert.Rows

end
-- ==== Proof.MemKv.lean ====
/- The memory's keys and values: what the kernel of the first call leaves in its two results, and the reference's results,
   as sums over the feature axis. (Hand-written, untrusted.) -/
module

public import proofs.«01_k».proof.Proof.Rows
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit

@[expose] public section

set_option maxRecDepth 16384

noncomputable section

open Idealize.ShloMosaic hiding ix1 ix2 ix3 ix4
open Idealize.ShloMosaic.TcCoe Idealize.SL.Sem Idealize.ShloMosaic.ValueIdx
open Idealize.ShloMosaic.Pipeline (Dat)

namespace Cert.Kernel2Ideal.RefValue

open Cert.Kernel2Ideal Cert.Kernel2Ideal.Gen Cert.Rows

/-- The keys, transposed: at a batch, a feature and a memory slot, the sum over the model's features. -/
def keyFn (mem : FVec Ideal S16x256x1024 .f32) (w : FVec Ideal S1x1024x1024 .f32) : FVec Ideal S16x512x256 .bf16 :=
  fun i => ∑ k : Fin 1024, mem (ix3 (i 0) (i 2) k) * w (ix3 0 k ⟨(i 1).val, (show (i 1).val < 512 from (i 1).isLt).trans (by decide)⟩)
/-- The values: at a batch, a memory slot and a feature. -/
def valFn (mem : FVec Ideal S16x256x1024 .f32) (w : FVec Ideal S1x1024x1024 .f32) : FVec Ideal S16x256x512 .bf16 :=
  fun i => ∑ k : Fin 1024, mem (ix3 (i 0) (i 1) k) * w (ix3 0 k ⟨512 + (i 2).val, by have : (i 2).val < 512 := (i 2).isLt; show 512 + (i 2).val < 1024; omega⟩)

/-- The block of memories as one matrix: its row is a batch and a slot. -/
theorem pay1_apply (v0 : Vec Ideal S4x256x1024 .f32) (r k : Fin 1024) :
    k0_pay1 v0 (ix2 r k) = v0 (ix3 ⟨r.val / 256, by omega⟩ ⟨r.val % 256, by omega⟩ k) := by
  show shapeCast S1024x1024 v0 shapeCasts_S4x256x1024_S1024x1024 (ix2 r k) = _
  refine shapeCast_apply _ _ _ _ ?_
  rw [Shape.rowMajor_val_three, Shape.rowMajor_val_two]
  show (r.val / 256 * 256 + r.val % 256) * 1024 + k.val = r.val * 1024 + k.val
  omega

/-- The keys of the four batches of a block side by side. -/
theorem pay2_apply (v0 : Vec Ideal S4x256x1024 .f32) (v3 : Vec Ideal S512x1024 .bf16) (r : Fin 512) (j : Fin 1024) :
    k0_pay2 v0 v3 (ix2 r j) = ∑ k : Fin 1024, v3 (ix2 r k) * v0 (ix3 ⟨j.val / 256, by omega⟩ ⟨j.val % 256, by omega⟩ k) := by
  show matmul dot_S512x1024_S1024x1024_S512x1024_1_1_0_0_n_n none (shapeCast S512x1024 v3 shapeCasts_S512x1024_S512x1024) (k0_pay1 v0)
    (constant S512x1024 .f32 0x00000000#32) (ix2 r j) = _
  rw [shapeCast_self]
  refine (mmT_apply _ rfl v3 (k0_pay1 v0) r j).trans (Finset.sum_congr rfl fun k _ => ?_)
  rw [pay1_apply]

/-- The values of the block. -/
theorem pay7_apply (v0 : Vec Ideal S4x256x1024 .f32) (v23 : Vec Ideal S1024x512 .bf16) (a : Fin 4) (r : Fin 256) (j : Fin 512) :
    k0_pay7 v0 v23 (ix3 a r j) = ∑ k : Fin 1024, v0 (ix3 a r k) * v23 (ix2 k j) := by
  show shapeCast S4x256x512 (matmul (so := S1024x512) dot_S1024x1024_S1024x512_S1024x512_1_0_0_1_n_n none (k0_pay1 v0)
    (shapeCast S1024x512 v23 shapeCasts_S1024x512_S1024x512) (constant S1024x512 .f32 0x00000000#32)) shapeCasts_S1024x512_S4x256x512 (ix3 a r j) = _
  rw [shapeCast_self]
  refine (shapeCast_apply _ _ _ (ix2 ⟨a.val * 256 + r.val, by omega⟩ j) ?_).trans ?_
  · rw [Shape.rowMajor_val_three, Shape.rowMajor_val_two]; rfl
  refine (mm_apply _ rfl (k0_pay1 v0) v23 _ j).trans (Finset.sum_congr rfl fun k _ => ?_)
  rw [pay1_apply]
  congr 2
  refine congrArg₂ (fun x y => ix3 x y k) (Fin.ext ?_) (Fin.ext ?_)
  · show (a.val * 256 + r.val) / 256 = a.val; omega
  · show (a.val * 256 + r.val) % 256 = r.val; omega

variable (m : (ℓ : Loc nD τ sig) → Buf (Elt Ideal) ℓ) (ρ : Dev nD → PrngReg)

/-- The memories and the weight as the program is given them. -/
abbrev mem (c : Dev nD) : FVec Ideal S16x256x1024 .f32 := m ((c : Thread nD τ).loc main_arg0)
abbrev wkv (c : Dev nD) : FVec Ideal S1x1024x1024 .f32 := m ((c : Thread nD τ).loc main_arg1)

/-- The keys' weight as the call is given it: the first half of the weight's columns, transposed. -/
theorem V_wk (c : Dev nD) (r : Fin 512) (k : Fin 1024) :
    (V m c main_v3 : FVec Ideal S512x1024 .bf16) (ix2 r k) = wkv m c (ix3 0 k ⟨r.val, by omega⟩) := by
  have e : (V m c main_v3 : FVec Ideal S512x1024 .bf16) = truncf .bf16 (transpose S512x1024 [1, 0] (extractStridedSlice S1024x512 ![0, 0] (shapeCast S1024x1024 (wkv m c) shapeCasts_S1x1024x1024_S1024x1024) slices_S1024x1024_S1024x512_0_0) transposes_S1024x512_S512x1024_1_0) bitsLt_bf16_f32 := by
    show StableHlo.after hostOps0 _ _ = _
    after_results <;> rfl
  rw [e, truncf_apply]
  show transpose S512x1024 [1, 0] _ _ _ = _
  refine (transpose_apply [1, 0] _ _ _ (ix2 k r) (fun a => by match a with | ⟨0, _⟩ => rfl | ⟨1, _⟩ => rfl)).trans ?_
  refine (cols_apply 0 _ _ (by decide) k r).trans ?_
  refine (dropLead_apply _ _ _ _).trans (congrArg _ (congrArg (ix3 0 k) (Fin.ext ?_)))
  show 0 + r.val = r.val
  omega

/-- The values' weight as the call is given it: the second half of the columns. -/
theorem V_wv (c : Dev nD) (k : Fin 1024) (r : Fin 512) :
    (V m c main_v6 : FVec Ideal S1024x512 .bf16) (ix2 k r) = wkv m c (ix3 0 k ⟨512 + r.val, by omega⟩) := by
  have e : (V m c main_v6 : FVec Ideal S1024x512 .bf16) = truncf .bf16 (extractStridedSlice S1024x512 ![0, 512] (shapeCast S1024x1024 (wkv m c) shapeCasts_S1x1024x1024_S1024x1024) slices_S1024x1024_S1024x512_0_512) bitsLt_bf16_f32 := by
    show StableHlo.after hostOps0 _ _ = _
    after_results <;> rfl
  rw [e, truncf_apply]
  refine (cols_apply 512 _ _ (by decide) k r).trans ?_
  exact dropLead_apply _ _ _ _

/-- Where each window's block lies at a grid point. -/
theorem idx0 : ∀ t : Fin cfg0.N, win0_0.index t = ![t.val, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0] := (by decide +kernel : ∀ t : Fin grid0.N, _)

/-- The block of memories at a point: four batches. -/
theorem blk0 (c : Dev nD) (t : Fin cfg0.N) (a : Fin 4) (r : Fin 256) (k : Fin 1024) (h : t.val * 4 + a.val < 16) :
    iblk m c 0 t (ix3 a r k) = mem m c (ix3 ⟨t.val * 4 + a.val, h⟩ r k) := by
  blk_simp [iblk]
  rw [show V m c (Pipeline.arrRef spec0 0) = mem m c from V_main_arg0 m c]
  refine congrArg (mem m c) (funext fun b => Fin.ext ?_)
  match b with
  | ⟨0, _⟩ => blk_simp [idx0] <;> rfl
  | ⟨1, _⟩ => blk_simp [idx0] <;> simp
  | ⟨2, _⟩ => blk_simp [idx0] <;> simp

/-- The block of the keys' weight is the weight. -/
theorem blk1 (c : Dev nD) (t : Fin cfg0.N) (r : Fin 512) (k : Fin 1024) :
    iblk m c 1 t (ix2 r k) = wkv m c (ix3 0 k ⟨r.val, by omega⟩) := by
  refine Eq.trans ?_ (V_wk m c r k)
  blk_simp [iblk]
  refine congrArg (V m c main_v3) (funext fun b => Fin.ext ?_)
  match b with
  | ⟨0, _⟩ => blk_simp [idx1] <;> simp
  | ⟨1, _⟩ => blk_simp [idx1] <;> simp

/-- The block of the values' weight is the weight. -/
theorem blk2 (c : Dev nD) (t : Fin cfg0.N) (k : Fin 1024) (r : Fin 512) :
    iblk m c 2 t (ix2 k r) = wkv m c (ix3 0 k ⟨512 + r.val, by omega⟩) := by
  refine Eq.trans ?_ (V_wv m c k r)
  blk_simp [iblk]
  refine congrArg (V m c main_v6) (funext fun b => Fin.ext ?_)
  match b with
  | ⟨0, _⟩ => blk_simp [idx2] <;> simp
  | ⟨1, _⟩ => blk_simp [idx2] <;> simp

theorem hz2 : (![0, 0] : Fin 2 → Nat) = fun _ => 0 := funext fun a => by fin_cases a <;> rfl
theorem hz3 : (![0, 0, 0] : Fin 3 → Nat) = fun _ => 0 := funext fun a => by fin_cases a <;> rfl

/-- The keys' array after the run. -/
theorem final3 (c : Dev nD) : (dats m 0 c).arrAt 3 cfg0.N = keyFn (mem m c) (wkv m c) := by
  refine (dats m 0 c).arrAt_eq_of_covers 3 _ (by decide +kernel) fun t hf y => ?_
  blk_simp
  rw [after0_3]
  unfold out0_3
  rw [View.ld_unit_zero hz3, View.ld_unit_zero hz2]
  refine (Value.canon3_eq _ _ _).trans ?_
  have hN : cfg0.N = 4 := N_0
  have ht : t.val < 4 := lt_of_lt_of_eq t.isLt hN
  have h0 : (y 0).val < 4 := (y 0).isLt
  have h1 : (y 1).val < 512 := (y 1).isLt
  have h2 : (y 2).val < 256 := (y 2).isLt
  show k0_pay2 _ _ (Value.ix3_0 y) = _
  rw [show Value.ix3_0 y = ix2 ⟨(y 1).val, h1⟩ ⟨(y 0).val * 256 + (y 2).val, by omega⟩ from funext fun a => by
    match a with | ⟨0, _⟩ => rfl | ⟨1, _⟩ => rfl]
  rw [pay2_apply]
  unfold keyFn
  refine Finset.sum_congr rfl fun k _ => ?_
  rw [mul_comm]
  rw [blk1]
  have e0 : (⟨((y 0).val * 256 + (y 2).val) / 256, by omega⟩ : Fin 4) = ⟨(y 0).val, h0⟩ := Fin.ext (by show _ / 256 = (y 0).val; omega)
  have e2 : (⟨((y 0).val * 256 + (y 2).val) % 256, by omega⟩ : Fin 256) = ⟨(y 2).val, h2⟩ := Fin.ext (by show _ % 256 = (y 2).val; omega)
  refine congrArg₂ (· * ·) ?_ ?_
  · refine (congrArg₂ (fun a b => iblk m c 0 t (ix3 a b k)) e0 e2).trans ?_
    rw [blk0 m c t _ _ k (by show t.val * 4 + (y 0).val < 16; omega)]
    refine congrArg (mem m c) (congrArg₂ (fun a b => ix3 a b k) (Fin.ext ?_) (Fin.ext ?_))
    · blk_simp [idx3] <;> rfl
    · blk_simp [idx3] <;> simp
  · refine congrArg (wkv m c) (congrArg (ix3 0 k) (Fin.ext ?_))
    blk_simp [idx3] <;> simp

/-- The values' array after the run. -/
theorem final4 (c : Dev nD) : (dats m 0 c).arrAt 4 cfg0.N = valFn (mem m c) (wkv m c) := by
  refine (dats m 0 c).arrAt_eq_of_covers 4 _ (by decide +kernel) fun t hf y => ?_
  blk_simp
  rw [after0_4]
  unfold out0_4
  rw [View.ld_unit_zero hz3, View.ld_unit_zero hz2, View.canon_unit_zero hz3]
  have hN : cfg0.N = 4 := N_0
  have ht : t.val < 4 := lt_of_lt_of_eq t.isLt hN
  have h0 : (y 0).val < 4 := (y 0).isLt
  have h1 : (y 1).val < 256 := (y 1).isLt
  have h2 : (y 2).val < 512 := (y 2).isLt
  have ey : y = ix3 ⟨(y 0).val, h0⟩ ⟨(y 1).val, h1⟩ ⟨(y 2).val, h2⟩ := funext fun a => by
    match a with | ⟨0, _⟩ => rfl | ⟨1, _⟩ => rfl | ⟨2, _⟩ => rfl
  refine (congrArg (k0_pay7 (iblk m c 0 t) (iblk m c 2 t)) ey).trans ?_
  rw [pay7_apply]
  unfold valFn
  refine Finset.sum_congr rfl fun k _ => ?_
  rw [blk2, blk0 m c t _ _ k (by show t.val * 4 + (y 0).val < 16; omega)]
  refine congrArg₂ (· * ·) ?_ ?_
  · refine congrArg (mem m c) (congrArg₂ (fun a b => ix3 a b k) (Fin.ext ?_) (Fin.ext ?_))
    · blk_simp [idx4] <;> rfl
    · blk_simp [idx4] <;> simp
  · refine congrArg (wkv m c) (congrArg (ix3 0 k) (Fin.ext ?_))
    show 512 + (y 2).val = _
    blk_simp [idx4] <;> simp

end Cert.Kernel2Ideal.RefValue

namespace Cert.Reference2Ideal.RefValue

open Cert.Reference2Ideal Cert.Reference2Ideal.Gen Cert.Reference2Ideal.Read Cert.Rows

/-- The reference's keys. -/
theorem keys (x0 : FVec Ideal S16x256x1024 .f32) (x1 : FVec Ideal S1x1024x1024 .f32) :
    val_main_v5 (F := Ideal) x0 x1 = Cert.Kernel2Ideal.RefValue.keyFn x0 x1 := by
  funext i
  rw [val_main_v5_apply]
  show val_main_v4 (F := Ideal) x0 x1 i = _
  rw [val_main_v4_apply, val_main_v2_apply, val_main_v1_apply]
  unfold Cert.Kernel2Ideal.RefValue.keyFn
  refine Finset.sum_congr rfl fun k _ => ?_
  rw [val_main_v0_apply]
  refine congrArg₂ (· * ·) (congrArg x0 ?_) (congrArg x1 ?_)
  · funext a; apply Fin.ext; match a with | ⟨0, _⟩ => simp | ⟨1, _⟩ => simp | ⟨2, _⟩ => simp
  · have hk := k.isLt
    have h1 : (i 1).val < 512 := (i 1).isLt
    funext a; apply Fin.ext
    match a with
    | ⟨0, _⟩ => simp
    | ⟨1, _⟩ => show (k.val * 1024 + (i 1).val) / 1024 % 1024 = k.val; omega
    | ⟨2, _⟩ => show (k.val * 1024 + (i 1).val) % 1024 = (i 1).val; omega

/-- The reference's values. -/
theorem values (x0 : FVec Ideal S16x256x1024 .f32) (x1 : FVec Ideal S1x1024x1024 .f32) :
    val_main_v6 (F := Ideal) x0 x1 = Cert.Kernel2Ideal.RefValue.valFn x0 x1 := by
  funext i
  rw [val_main_v6_apply]
  show val_main_v3 (F := Ideal) x0 x1 i = _
  rw [val_main_v3_apply, val_main_v1_apply]
  unfold Cert.Kernel2Ideal.RefValue.valFn
  refine Finset.sum_congr rfl fun k _ => ?_
  rw [val_main_v0_apply]
  refine congrArg₂ (· * ·) (congrArg x0 ?_) (congrArg x1 ?_)
  · funext a; apply Fin.ext; match a with | ⟨0, _⟩ => simp | ⟨1, _⟩ => simp | ⟨2, _⟩ => simp
  · have hk := k.isLt
    have h2 : (i 2).val < 512 := (i 2).isLt
    funext a; apply Fin.ext
    match a with
    | ⟨0, _⟩ => simp
    | ⟨1, _⟩ => show (k.val * 1024 + (512 + (i 2).val)) / 1024 % 1024 = k.val; omega
    | ⟨2, _⟩ => show (k.val * 1024 + (512 + (i 2).val)) % 1024 = (512 + (i 2).val); omega

end Cert.Reference2Ideal.RefValue

end
-- ==== Proof.Group.lean ====
/- The tail's body on one group of 256 rows: the four groups the body treats are the same vector computation of their
   loads. (Hand-written, untrusted.) -/
module

public import proofs.«01_k».proof.Proof.Gen.KernelIdeal.Frame

@[expose] public section

set_option maxRecDepth 16384

noncomputable section

namespace Cert.KernelIdeal.RefValue

open Cert.KernelIdeal Cert.KernelIdeal.Gen Idealize.ShloMosaic Idealize.ShloMosaic.TcCoe Idealize.SL.Sem

variable {F : FTy → Type} [FloatOps F]

/-- The rows less their means. -/
def gCen (v : FVec F S256x1024 .f32) : FVec F S256x1024 .f32 :=
  subf v (broadcastTo S256x1024 (divf (shapeCast S256x1 (multiReduction .add [1] S256 v 0x00000000#32 reduces_S256x1024_S256 (.inl rfl) rfl) shapeCasts_S256_S256x1) (broadcast S256x1 (Scalar.ofBits .f32 0x44800000#32))) broadcasts_S256x1_S256x1024)
/-- One over the root of the rows' mean squares, with the small constant. -/
def gInv (d : FVec F S256x1024 .f32) : FVec F S256x1 .f32 :=
  rsqrt (addf (divf (shapeCast S256x1 (multiReduction .add [1] S256 (mulf d d) 0x00000000#32 reduces_S256x1024_S256 (.inl rfl) rfl) shapeCasts_S256_S256x1) (broadcast S256x1 (Scalar.ofBits .f32 0x44800000#32))) (broadcast S256x1 (Scalar.ofBits .f32 0x3727C5AC#32)))
/-- The layer normalisation of 256 rows. -/
def gLn (v : FVec F S256x1024 .f32) (g b : FVec F S1x1024 .f32) : FVec F S256x1024 .f32 :=
  addf (mulf (mulf (gCen v) (broadcastTo S256x1024 (gInv (gCen v)) broadcasts_S256x1_S256x1024)) (broadcastTo S256x1024 g broadcasts_S1x1024_S256x1024)) (broadcastTo S256x1024 b broadcasts_S1x1024_S256x1024)
/-- The rows projected to 512 features. -/
def gProj (h : FVec F S256x1024 .bf16) (w : FVec F S1024x512 .bf16) : FVec F S256x512 .f32 :=
  matmul dot_S256x1024_S1024x512_S256x512_1_0_0_1_n_n none h (shapeCast S1024x512 w shapeCasts_S1024x512_S1024x512) (constant S256x512 .f32 0x00000000#32)
/-- The gate of a projection. -/
def gSilu (h : FVec F S256x1024 .bf16) (w : FVec F S1024x512 .bf16) : FVec F S256x512 .f32 :=
  mulf (gProj h w) (logistic (gProj h w))
/-- The merge's gate. -/
def gMerge (h : FVec F S256x1024 .bf16) (w : FVec F S1024x1024 .bf16) : FVec F S256x1024 .f32 :=
  logistic (matmul dot_S256x1024_S1024x1024_S256x1024_1_0_0_1_n_n none h (shapeCast S1024x1024 w shapeCasts_S1024x1024_S1024x1024) (constant S256x1024 .f32 0x00000000#32))
/-- The rows of a branch projected back. -/
def gOut (u : FVec F S256x512 .bf16) (w : FVec F S512x1024 .bf16) : FVec F S256x1024 .f32 :=
  matmul dot_S256x512_S512x1024_S256x1024_1_0_0_1_n_n none u (shapeCast S512x1024 w shapeCasts_S512x1024_S512x1024) (constant S256x1024 .f32 0x00000000#32)
/-- A mixer's rows times their gate. -/
def gMix (o : FVec F S1x256x512 .bf16) (g : FVec F S256x512 .f32) : FVec F S256x512 .bf16 :=
  truncf .bf16 (mulf (extf .f32 (shapeCast S256x512 o shapeCasts_S1x256x512_S256x512) bitsLt_bf16_f32) g) bitsLt_bf16_f32
/-- The scaled logits of one head. -/
def gLogits (q : FVec F S256x128 .bf16) (k : FVec F S1x128x256 .bf16) : FVec F S256x256 .f32 :=
  mulf (matmul dot_S256x128_S128x256_S256x256_1_0_0_1_n_n none q (shapeCast S128x256 k shapeCasts_S1x128x256_S128x256) (constant S256x256 .f32 0x00000000#32)) (broadcast S256x256 (Scalar.ofBits .f32 0x3DB504F3#32))
/-- The exponentials of the logits less their largest. -/
def gExp (s : FVec F S256x256 .f32) : FVec F S256x256 .f32 :=
  exp (subf s (broadcastTo S256x256 (shapeCast S256x1 (multiReduction .maximumf [1] S256 s 0xFF800000#32 reduces_S256x256_S256 (.inl rfl) rfl) shapeCasts_S256_S256x1) broadcasts_S256x1_S256x256))
/-- The rows divided by their sums. -/
def gNorm (e : FVec F S256x256 .f32) : FVec F S256x256 .bf16 :=
  truncf .bf16 (divf e (broadcastTo S256x256 (shapeCast S256x1 (multiReduction .add [1] S256 e 0x00000000#32 reduces_S256x256_S256 (.inl rfl) rfl) shapeCasts_S256_S256x1) broadcasts_S256x1_S256x256)) bitsLt_bf16_f32
/-- One head's attention. -/
def gHead (q : FVec F S256x128 .bf16) (k : FVec F S1x128x256 .bf16) (v : FVec F S1x256x128 .bf16) : FVec F S256x128 .f32 :=
  matmul dot_S256x256_S256x128_S256x128_1_0_0_1_n_n none (gNorm (gExp (gLogits q k))) (shapeCast S256x128 v shapeCasts_S1x256x128_S256x128) (constant S256x128 .f32 0x00000000#32)
/-- The four heads side by side. -/
def gMem (q : FVec F S256x512 .bf16) (k0 k1 k2 k3 : FVec F S1x128x256 .bf16) (v0 v1 v2 v3 : FVec F S1x256x128 .bf16) : FVec F S256x512 .f32 :=
  concatenate S256x512 1 [⟨S256x128, gHead (extractStridedSlice S256x128 ![0, 0] q slices_S256x512_o0_0_S256x128) k0 v0⟩,
    ⟨S256x128, gHead (extractStridedSlice S256x128 ![0, 128] q slices_S256x512_o0_128_S256x128) k1 v1⟩,
    ⟨S256x128, gHead (extractStridedSlice S256x128 ![0, 256] q slices_S256x512_o0_256_S256x128) k2 v2⟩,
    ⟨S256x128, gHead (extractStridedSlice S256x128 ![0, 384] q slices_S256x512_o0_384_S256x128) k3 v3⟩] concatenates_S256x128_S256x128_S256x128_S256x128_S256x512_d1
/-- The merged branches. -/
def gBranches (h : FVec F S256x1024 .bf16) (oa ob : FVec F S1x256x512 .bf16) (oc : FVec F S256x512 .f32)
    (wga wgb wgc : FVec F S1024x512 .bf16) (wma wmb wmc : FVec F S1024x1024 .bf16) (wpa wpb wpc : FVec F S512x1024 .bf16) : FVec F S256x1024 .f32 :=
  addf (addf (mulf (gMerge h wma) (gOut (gMix oa (gSilu h wga)) wpa)) (mulf (gMerge h wmb) (gOut (gMix ob (gSilu h wgb)) wpb)))
    (mulf (gMerge h wmc) (gOut (truncf .bf16 (mulf oc (gSilu h wgc)) bitsLt_bf16_f32) wpc))
/-- The residual and the output projection. -/
def gRes (h m : FVec F S256x1024 .f32) (wo : FVec F S1024x1024 .bf16) : FVec F S256x1024 .f32 :=
  addf (mulf (broadcast S256x1024 (Scalar.ofBits .f32 0x3F9837F0#32)) h)
    (matmul dot_S256x1024_S1024x1024_S256x1024_1_0_0_1_n_n none (truncf .bf16 m bitsLt_bf16_f32) (shapeCast S1024x1024 wo shapeCasts_S1024x1024_S1024x1024) (constant S256x1024 .f32 0x00000000#32))
/-- A group's normalised rows. -/
def gH (x : FVec F S256x1024 .f32) (g b : FVec F S1x1024 .f32) : FVec F S256x1024 .f32 :=
  gLn (shapeCast S256x1024 x shapeCasts_S256x1024_S256x1024) (shapeCast S1x1024 g shapeCasts_S1x1024_S1x1024) (shapeCast S1x1024 b shapeCasts_S1x1024_S1x1024)
/-- A group's rows before the last normalisation. -/
def gZ (h : FVec F S256x1024 .f32) (oa ob : FVec F S1x256x512 .bf16) (k0 k1 k2 k3 : FVec F S1x128x256 .bf16) (v0 v1 v2 v3 : FVec F S1x256x128 .bf16)
    (wcq wga wgb wgc : FVec F S1024x512 .bf16) (wma wmb wmc : FVec F S1024x1024 .bf16)
    (wpa wpb wpc : FVec F S512x1024 .bf16) (wo : FVec F S1024x1024 .bf16) : FVec F S256x1024 .f32 :=
  gRes h (gBranches (truncf .bf16 h bitsLt_bf16_f32) oa ob (gMem (truncf .bf16 (gProj (truncf .bf16 h bitsLt_bf16_f32) wcq) bitsLt_bf16_f32) k0 k1 k2 k3 v0 v1 v2 v3) wga wgb wgc wma wmb wmc wpa wpb wpc) wo
/-- A group's result. -/
def group (x : FVec F S256x1024 .f32) (oa ob : FVec F S1x256x512 .bf16) (k0 k1 k2 k3 : FVec F S1x128x256 .bf16) (v0 v1 v2 v3 : FVec F S1x256x128 .bf16)
    (g b : FVec F S1x1024 .f32) (wcq wga wgb wgc : FVec F S1024x512 .bf16) (wma wmb wmc : FVec F S1024x1024 .bf16)
    (wpa wpb wpc : FVec F S512x1024 .bf16) (wo : FVec F S1024x1024 .bf16) (lg lb : FVec F S1x1024 .f32) : FVec F S256x1024 .f32 :=
  gLn (gZ (gH x g b) oa ob k0 k1 k2 k3 v0 v1 v2 v3 wcq wga wgb wgc wma wmb wmc wpa wpb wpc wo)
    (shapeCast S1x1024 lg shapeCasts_S1x1024_S1x1024) (shapeCast S1x1024 lb shapeCasts_S1x1024_S1x1024)

variable (x0 : Vec F S1024x1024 .f32) (x1 x2 : Vec F S1x1024x512 .bf16) (x3 : Vec F S1x512x256 .bf16) (x4 : Vec F S1x256x512 .bf16) (x5 x6 : Vec F S1x1024 .f32) (x7 : Vec F S1024x512 .bf16) (x8 : Vec F S1024x1536 .bf16) (x9 : Vec F S1024x3072 .bf16) (x10 x11 x12 : Vec F S512x1024 .bf16) (x13 : Vec F S1024x1024 .bf16) (x14 x15 : Vec F S1x1024 .f32)

/-- The group of the rows at `rx` (of the mixers' rows at `ro`). -/
abbrev groupAt (x : FVec F S256x1024 .f32) (oa ob : FVec F S1x256x512 .bf16) : FVec F S256x1024 .f32 :=
  group x oa ob (View.ld x3 r0_13) (View.ld x3 r0_14) (View.ld x3 r0_15) (View.ld x3 r0_16)
    (View.ld x4 r0_18) (View.ld x4 r0_19) (View.ld x4 r0_20) (View.ld x4 r0_21) (View.ld x5 r0_1) (View.ld x6 r0_1) (View.ld x7 r0_5)
    (View.ld x8 r0_6) (View.ld x8 r0_11) (View.ld x8 r0_12) (View.ld x9 r0_17) (View.ld x9 r0_23) (View.ld x9 r0_24)
    (View.ld x10 r0_22) (View.ld x11 r0_22) (View.ld x12 r0_22) (View.ld x13 r0_25) (View.ld x14 r0_1) (View.ld x15 r0_1)

/-- What the body leaves in the result's block: the four groups' results. -/
theorem out_eq : out0_16 x0 x1 x2 x3 x4 x5 x6 x7 x8 x9 x10 x11 x12 x13 x14 x15 = View.canon
    [⟨r0_4, groupAt x3 x4 x5 x6 x7 x8 x9 x10 x11 x12 x13 x14 x15 (View.ld x0 r0_4) (View.ld x1 r0_10) (View.ld x2 r0_10)⟩,
     ⟨r0_3, groupAt x3 x4 x5 x6 x7 x8 x9 x10 x11 x12 x13 x14 x15 (View.ld x0 r0_3) (View.ld x1 r0_9) (View.ld x2 r0_9)⟩,
     ⟨r0_2, groupAt x3 x4 x5 x6 x7 x8 x9 x10 x11 x12 x13 x14 x15 (View.ld x0 r0_2) (View.ld x1 r0_8) (View.ld x2 r0_8)⟩,
     ⟨r0_0, groupAt x3 x4 x5 x6 x7 x8 x9 x10 x11 x12 x13 x14 x15 (View.ld x0 r0_0) (View.ld x1 r0_7) (View.ld x2 r0_7)⟩] := by
  rfl

end Cert.KernelIdeal.RefValue

end
-- ==== Proof.GroupRows.lean ====
/- A group's result read at a row and a column: the tail's row function of the group's loads. (Hand-written, untrusted.) -/
module

public import proofs.«01_k».proof.Proof.Group
public import proofs.«01_k».proof.Proof.Rows

@[expose] public section

set_option maxRecDepth 16384

noncomputable section

namespace Cert.KernelIdeal.RefValue

open Cert.KernelIdeal Cert.KernelIdeal.Gen Cert.Rows Idealize.ShloMosaic Idealize.ShloMosaic.TcCoe Idealize.SL.Sem Idealize.ShloMosaic.ValueIdx

/-- A row less its mean. -/
theorem gCen_apply (v : FVec Ideal S256x1024 .f32) (r : Fin 256) (c : Fin 1024) :
    gCen v (ix2 r c) = v (ix2 r c) - mean fun k => v (ix2 r k) := by
  unfold gCen mean
  rw [subf_apply]
  refine congrArg₂ (· - ·) rfl ?_
  refine (colBroadcast_apply _ _ r c).trans ?_
  rw [divf_apply]
  refine congrArg₂ Ideal.div ?_ rfl
  exact (col_apply _ _ r 0).trans (rowSum_apply v _ _ _ r)

/-- The row's scale. -/
theorem gInv_apply (d : FVec Ideal S256x1024 .f32) (r : Fin 256) :
    gInv d (ix2 r 0) = Ideal.rsqrt (mean (fun k => d (ix2 r k) * d (ix2 r k)) + Ideal.ofBits .f32 0x3727C5AC#32) := by
  unfold gInv mean
  show Ideal.rsqrt _ = _
  refine congrArg Ideal.rsqrt ?_
  rw [addf_apply]
  refine congrArg₂ (· + ·) ?_ rfl
  rw [divf_apply]
  refine congrArg₂ Ideal.div ?_ rfl
  exact (col_apply _ _ r 0).trans (rowSum_apply (mulf d d) _ _ _ r)

/-- The normalisation of the rows is the row function. -/
theorem gLn_apply (v : FVec Ideal S256x1024 .f32) (g b : FVec Ideal S1x1024 .f32) (r : Fin 256) (c : Fin 1024) :
    gLn v g b (ix2 r c) = lnRow (fun k => v (ix2 r k)) (fun k => g (ix2 0 k)) (fun k => b (ix2 0 k)) c := by
  unfold gLn lnRow
  rw [addf_apply, mulf_apply, mulf_apply, gCen_apply]
  refine congrArg₂ (· + ·) (congrArg₂ (· * ·) (congrArg₂ (· * ·) rfl ?_) ?_) ?_
  · refine (colBroadcast_apply _ _ r c).trans ((gInv_apply _ r).trans ?_)
    simp only [gCen_apply]
  · exact rowBroadcast_apply _ _ r c
  · exact rowBroadcast_apply _ _ r c

/-- The projection's rows. -/
theorem gProj_apply (h : FVec Ideal S256x1024 .bf16) (w : FVec Ideal S1024x512 .bf16) (r : Fin 256) (c : Fin 512) :
    gProj h w (ix2 r c) = dotRow (fun k => h (ix2 r k)) (fun k c => w (ix2 k c)) c := by
  unfold gProj dotRow
  rw [shapeCast_self]
  exact mm_apply _ rfl h w r c

/-- The gates' rows. -/
theorem gSilu_apply (h : FVec Ideal S256x1024 .bf16) (w : FVec Ideal S1024x512 .bf16) (r : Fin 256) (c : Fin 512) :
    gSilu h w (ix2 r c) = silu (dotRow (fun k => h (ix2 r k)) (fun k c => w (ix2 k c)) c) := by
  unfold gSilu silu
  rw [mulf_apply]
  show gProj h w (ix2 r c) * Ideal.logistic (gProj h w (ix2 r c)) = _
  rw [gProj_apply]

/-- The merge gates' rows. -/
theorem gMerge_apply (h : FVec Ideal S256x1024 .bf16) (w : FVec Ideal S1024x1024 .bf16) (r : Fin 256) (c : Fin 1024) :
    gMerge h w (ix2 r c) = Ideal.logistic (dotRow (fun k => h (ix2 r k)) (fun k c => w (ix2 k c)) c) := by
  unfold gMerge dotRow
  rw [shapeCast_self]
  exact congrArg Ideal.logistic (mm_apply _ rfl h w r c)

/-- A branch's rows projected back. -/
theorem gOut_apply (u : FVec Ideal S256x512 .bf16) (w : FVec Ideal S512x1024 .bf16) (r : Fin 256) (c : Fin 1024) :
    gOut u w (ix2 r c) = dotRow (fun k => u (ix2 r k)) (fun k c => w (ix2 k c)) c := by
  unfold gOut dotRow
  rw [shapeCast_self]
  exact mm_apply _ rfl u w r c

/-- A mixer's rows with their gates. -/
theorem gMix_apply (o : FVec Ideal S1x256x512 .bf16) (g : FVec Ideal S256x512 .f32) (r : Fin 256) (c : Fin 512) :
    gMix o g (ix2 r c) = o (ix3 0 r c) * g (ix2 r c) := by
  unfold gMix
  show shapeCast S256x512 o _ (ix2 r c) * g (ix2 r c) = _
  rw [dropLead_apply]

/-- A head's logits. -/
theorem gLogits_apply (q : FVec Ideal S256x128 .bf16) (k : FVec Ideal S1x128x256 .bf16) (r j : Fin 256) :
    gLogits q k (ix2 r j) = logitRow (fun d => q (ix2 r d)) (fun d j => k (ix3 0 d j)) j := by
  unfold gLogits logitRow dotRow
  rw [mulf_apply]
  refine congrArg₂ (· * ·) ((mm_apply _ rfl _ _ r j).trans (Finset.sum_congr rfl fun d _ => ?_)) rfl
  rw [dropLead_apply]

/-- A head's exponentials. -/
theorem gExp_apply (s : FVec Ideal S256x256 .f32) (r j : Fin 256) :
    gExp s (ix2 r j) = Ideal.exp (s (ix2 r j) - rowMax fun k => s (ix2 r k)) := by
  unfold gExp
  show Ideal.exp _ = _
  refine congrArg Ideal.exp ?_
  rw [subf_apply]
  refine congrArg₂ (· - ·) rfl ?_
  exact (colBroadcast_apply _ _ r j).trans ((col_apply _ _ r 0).trans (rowMax_apply s _ _ _ r))

/-- A head's weights. -/
theorem gNorm_apply (e : FVec Ideal S256x256 .f32) (r j : Fin 256) :
    gNorm e (ix2 r j) = Ideal.div (e (ix2 r j)) (∑ k, e (ix2 r k)) := by
  unfold gNorm
  rw [truncf_apply, divf_apply]
  refine congrArg₂ Ideal.div rfl ?_
  exact (colBroadcast_apply _ _ r j).trans ((col_apply _ _ r 0).trans (rowSum_apply e _ _ _ r))

/-- A head's rows. -/
theorem gHead_apply (q : FVec Ideal S256x128 .bf16) (k : FVec Ideal S1x128x256 .bf16) (v : FVec Ideal S1x256x128 .bf16) (r : Fin 256) (d : Fin 128) :
    gHead q k v (ix2 r d) = headRow (fun d => q (ix2 r d)) (fun d j => k (ix3 0 d j)) (fun j d => v (ix3 0 j d)) d := by
  unfold gHead headRow
  refine (mm_apply _ rfl _ _ r d).trans ?_
  unfold dotRow softRow
  refine Finset.sum_congr rfl fun j _ => congrArg₂ (· * ·) ?_ ?_
  · simp only [gNorm_apply, gExp_apply, gLogits_apply]
  · rw [dropLead_apply]

/-- The head a column lies in. -/
theorem memRow_at (q : Fin 512 → EReal) (mkt : Fin 512 → Fin 256 → EReal) (mv : Fin 256 → Fin 512 → EReal) (o : Nat) (ho : o + 128 ≤ 512) (h128 : o % 128 = 0)
    (c : Fin 512) (d : Fin 128) (hc : c.val = o + d.val) :
    memRow q mkt mv c = headRow (fun d => q ⟨o + d.val, by omega⟩) (fun d j => mkt ⟨o + d.val, by omega⟩ j) (fun j d => mv j ⟨o + d.val, by omega⟩) d := by
  have h1 : c.val / 128 * 128 = o := by omega
  have h2 : c.val % 128 = d.val := by omega
  unfold memRow
  simp only [h1, h2]

/-- One of four pieces set side by side, read at a column it covers. -/
theorem cat_piece (a0 a1 a2 a3 : FVec Ideal S256x128 .f32)
    (h : S256x512.Concatenates [S256x128, S256x128, S256x128, S256x128] 1) (k : Nat) (hk : k < 4) (p : FVec Ideal S256x128 .f32) (hp : [a0, a1, a2, a3][k] = p)
    (o : Nat) (ho : 128 * k = o) (r : Fin 256) (c : Fin 512) (d : Fin 128) (hd : o + d.val = c.val) :
    concatenate S256x512 1 [⟨S256x128, a0⟩, ⟨S256x128, a1⟩, ⟨S256x128, a2⟩, ⟨S256x128, a3⟩] h (ix2 r c) = p (ix2 r d) := by
  subst hp ho
  have hi : ∀ b : Fin S256x128.rank, b.cast (rfl : S256x128.rank = S256x512.rank) ≠ 1 → ((ix2 r d : S256x128.Idx) b).val = ((ix2 r c : S256x512.Idx) (b.cast rfl)).val :=
    fun b hb => by match b with | ⟨0, _⟩ => rfl | ⟨1, _⟩ => exact absurd rfl hb
  match k, hk with
  | 0, _ => exact concatenate_apply_piece (1 : Fin S256x512.rank) [⟨S256x128, a0⟩, ⟨S256x128, a1⟩, ⟨S256x128, a2⟩, ⟨S256x128, a3⟩] h (ix2 r c) 0 (by simp) S256x128 a0 rfl rfl 0 rfl (ix2 r d) hi hd
  | 1, _ => exact concatenate_apply_piece (1 : Fin S256x512.rank) [⟨S256x128, a0⟩, ⟨S256x128, a1⟩, ⟨S256x128, a2⟩, ⟨S256x128, a3⟩] h (ix2 r c) 1 (by simp) S256x128 a1 rfl rfl 128 rfl (ix2 r d) hi hd
  | 2, _ => exact concatenate_apply_piece (1 : Fin S256x512.rank) [⟨S256x128, a0⟩, ⟨S256x128, a1⟩, ⟨S256x128, a2⟩, ⟨S256x128, a3⟩] h (ix2 r c) 2 (by simp) S256x128 a2 rfl rfl 256 rfl (ix2 r d) hi hd
  | 3, _ => exact concatenate_apply_piece (1 : Fin S256x512.rank) [⟨S256x128, a0⟩, ⟨S256x128, a1⟩, ⟨S256x128, a2⟩, ⟨S256x128, a3⟩] h (ix2 r c) 3 (by simp) S256x128 a3 rfl rfl 384 rfl (ix2 r d) hi hd

/-- Four pieces set side by side, each of which holds its part of a row, hold the row. -/
theorem cat_rows (a0 a1 a2 a3 : FVec Ideal S256x128 .f32) (h : S256x512.Concatenates [S256x128, S256x128, S256x128, S256x128] 1) (r : Fin 256) (f : Fin 512 → EReal)
    (f0 : ∀ (c : Fin 512) (d : Fin 128), c.val = 0 + d.val → a0 (ix2 r d) = f c) (f1 : ∀ (c : Fin 512) (d : Fin 128), c.val = 128 + d.val → a1 (ix2 r d) = f c)
    (f2 : ∀ (c : Fin 512) (d : Fin 128), c.val = 256 + d.val → a2 (ix2 r d) = f c) (f3 : ∀ (c : Fin 512) (d : Fin 128), c.val = 384 + d.val → a3 (ix2 r d) = f c) (c : Fin 512) :
    concatenate S256x512 1 [⟨S256x128, a0⟩, ⟨S256x128, a1⟩, ⟨S256x128, a2⟩, ⟨S256x128, a3⟩] h (ix2 r c) = f c := by
  have hc := c.isLt
  rcases (by omega : c.val < 128 ∨ (128 ≤ c.val ∧ c.val < 256) ∨ (256 ≤ c.val ∧ c.val < 384) ∨ 384 ≤ c.val) with hh | hh | hh | hh
  · have e : 0 + (c.val - 0) = c.val := by omega
    exact (cat_piece a0 a1 a2 a3 h 0 (by decide) a0 rfl 0 rfl r c ⟨c.val - 0, by omega⟩ e).trans (f0 c _ e.symm)
  · have e : 128 + (c.val - 128) = c.val := by omega
    exact (cat_piece a0 a1 a2 a3 h 1 (by decide) a1 rfl 128 rfl r c ⟨c.val - 128, by omega⟩ e).trans (f1 c _ e.symm)
  · have e : 256 + (c.val - 256) = c.val := by omega
    exact (cat_piece a0 a1 a2 a3 h 2 (by decide) a2 rfl 256 rfl r c ⟨c.val - 256, by omega⟩ e).trans (f2 c _ e.symm)
  · have e : 384 + (c.val - 384) = c.val := by omega
    exact (cat_piece a0 a1 a2 a3 h 3 (by decide) a3 rfl 384 rfl r c ⟨c.val - 384, by omega⟩ e).trans (f3 c _ e.symm)

/-- The four heads' rows. -/
theorem gMem_apply (q : FVec Ideal S256x512 .bf16) (k0 k1 k2 k3 : FVec Ideal S1x128x256 .bf16) (v0 v1 v2 v3 : FVec Ideal S1x256x128 .bf16)
    (mkt : Fin 512 → Fin 256 → EReal) (mv : Fin 256 → Fin 512 → EReal)
    (hk0 : ∀ (d : Fin 128) j, k0 (ix3 0 d j) = mkt ⟨0 + d.val, by omega⟩ j) (hk1 : ∀ (d : Fin 128) j, k1 (ix3 0 d j) = mkt ⟨128 + d.val, by omega⟩ j)
    (hk2 : ∀ (d : Fin 128) j, k2 (ix3 0 d j) = mkt ⟨256 + d.val, by omega⟩ j) (hk3 : ∀ (d : Fin 128) j, k3 (ix3 0 d j) = mkt ⟨384 + d.val, by omega⟩ j)
    (hv0 : ∀ j (d : Fin 128), v0 (ix3 0 j d) = mv j ⟨0 + d.val, by omega⟩) (hv1 : ∀ j (d : Fin 128), v1 (ix3 0 j d) = mv j ⟨128 + d.val, by omega⟩)
    (hv2 : ∀ j (d : Fin 128), v2 (ix3 0 j d) = mv j ⟨256 + d.val, by omega⟩) (hv3 : ∀ j (d : Fin 128), v3 (ix3 0 j d) = mv j ⟨384 + d.val, by omega⟩)
    (r : Fin 256) (c : Fin 512) :
    gMem q k0 k1 k2 k3 v0 v1 v2 v3 (ix2 r c) = memRow (fun c => q (ix2 r c)) mkt mv c := by
  unfold gMem
  have head (o : Nat) (ho : o + 128 ≤ 512) (hs : S256x512.Slices ![0, o] S256x128) (k : FVec Ideal S1x128x256 .bf16) (v : FVec Ideal S1x256x128 .bf16)
      (hk : ∀ (d : Fin 128) j, k (ix3 0 d j) = mkt ⟨o + d.val, by omega⟩ j) (hv : ∀ j (d : Fin 128), v (ix3 0 j d) = mv j ⟨o + d.val, by omega⟩) (d : Fin 128) :
      gHead (extractStridedSlice S256x128 ![0, o] q hs) k v (ix2 r d)
        = headRow (fun d => q (ix2 r ⟨o + d.val, by omega⟩)) (fun d j => mkt ⟨o + d.val, by omega⟩ j) (fun j d => mv j ⟨o + d.val, by omega⟩) d := by
    rw [gHead_apply]
    simp only [hk, hv]
    refine congrArg (fun f => headRow f _ _ d) (funext fun e => ?_)
    exact cols_apply o q hs (by omega) r e
  have h0 := fun (c : Fin 512) (d : Fin 128) (hc : c.val = 0 + d.val) =>
    (head 0 (by omega) slices_S256x512_o0_0_S256x128 k0 v0 hk0 hv0 d).trans (memRow_at (fun c => q (ix2 r c)) mkt mv 0 (by omega) rfl c d hc).symm
  have h1 := fun (c : Fin 512) (d : Fin 128) (hc : c.val = 128 + d.val) =>
    (head 128 (by omega) slices_S256x512_o0_128_S256x128 k1 v1 hk1 hv1 d).trans (memRow_at (fun c => q (ix2 r c)) mkt mv 128 (by omega) rfl c d hc).symm
  have h2 := fun (c : Fin 512) (d : Fin 128) (hc : c.val = 256 + d.val) =>
    (head 256 (by omega) slices_S256x512_o0_256_S256x128 k2 v2 hk2 hv2 d).trans (memRow_at (fun c => q (ix2 r c)) mkt mv 256 (by omega) rfl c d hc).symm
  have h3 := fun (c : Fin 512) (d : Fin 128) (hc : c.val = 384 + d.val) =>
    (head 384 (by omega) slices_S256x512_o0_384_S256x128 k3 v3 hk3 hv3 d).trans (memRow_at (fun c => q (ix2 r c)) mkt mv 384 (by omega) rfl c d hc).symm
  generalize gHead (extractStridedSlice S256x128 ![0, 0] q slices_S256x512_o0_0_S256x128) k0 v0 = a0 at h0 ⊢
  generalize gHead (extractStridedSlice S256x128 ![0, 128] q slices_S256x512_o0_128_S256x128) k1 v1 = a1 at h1 ⊢
  generalize gHead (extractStridedSlice S256x128 ![0, 256] q slices_S256x512_o0_256_S256x128) k2 v2 = a2 at h2 ⊢
  generalize gHead (extractStridedSlice S256x128 ![0, 384] q slices_S256x512_o0_384_S256x128) k3 v3 = a3 at h3 ⊢
  exact cat_rows a0 a1 a2 a3 _ r _ h0 h1 h2 h3 c

/-- The merged branches' rows. -/
theorem gBranches_apply (h : FVec Ideal S256x1024 .bf16) (oa ob : FVec Ideal S1x256x512 .bf16) (oc : FVec Ideal S256x512 .f32)
    (wga wgb wgc : FVec Ideal S1024x512 .bf16) (wma wmb wmc : FVec Ideal S1024x1024 .bf16) (wpa wpb wpc : FVec Ideal S512x1024 .bf16) (r : Fin 256) (c : Fin 1024) :
    gBranches h oa ob oc wga wgb wgc wma wmb wmc wpa wpb wpc (ix2 r c) =
      mergeRow (fun c => Ideal.logistic (dotRow (fun k => h (ix2 r k)) (fun k c => wma (ix2 k c)) c)) (fun c => Ideal.logistic (dotRow (fun k => h (ix2 r k)) (fun k c => wmb (ix2 k c)) c))
        (fun c => Ideal.logistic (dotRow (fun k => h (ix2 r k)) (fun k c => wmc (ix2 k c)) c))
        (dotRow (fun k => oa (ix3 0 r k) * silu (dotRow (fun k => h (ix2 r k)) (fun k c => wga (ix2 k c)) k)) (fun k c => wpa (ix2 k c)))
        (dotRow (fun k => ob (ix3 0 r k) * silu (dotRow (fun k => h (ix2 r k)) (fun k c => wgb (ix2 k c)) k)) (fun k c => wpb (ix2 k c)))
        (dotRow (fun k => oc (ix2 r k) * silu (dotRow (fun k => h (ix2 r k)) (fun k c => wgc (ix2 k c)) k)) (fun k c => wpc (ix2 k c))) c := by
  unfold gBranches mergeRow
  simp only [addf_apply, mulf_apply, gMerge_apply, gOut_apply, gMix_apply, gSilu_apply, truncf_apply]

/-- The rows before the last normalisation. -/
theorem gRes_apply (h m : FVec Ideal S256x1024 .f32) (wo : FVec Ideal S1024x1024 .bf16) (r : Fin 256) (c : Fin 1024) :
    gRes h m wo (ix2 r c) = Ideal.ofBits .f32 0x3F9837F0#32 * h (ix2 r c) + dotRow (fun k => m (ix2 r k)) (fun k c => wo (ix2 k c)) c := by
  unfold gRes dotRow
  rw [addf_apply, mulf_apply, shapeCast_self]
  refine congrArg₂ (· + ·) rfl ?_
  exact mm_apply _ rfl _ wo r c

/-- A group's row is the row function of its loads' rows. -/
theorem group_apply (x : FVec Ideal S256x1024 .f32) (oa ob : FVec Ideal S1x256x512 .bf16) (k0 k1 k2 k3 : FVec Ideal S1x128x256 .bf16) (v0 v1 v2 v3 : FVec Ideal S1x256x128 .bf16)
    (g b : FVec Ideal S1x1024 .f32) (wcq wga wgb wgc : FVec Ideal S1024x512 .bf16) (wma wmb wmc : FVec Ideal S1024x1024 .bf16)
    (wpa wpb wpc : FVec Ideal S512x1024 .bf16) (wo : FVec Ideal S1024x1024 .bf16) (lg lb : FVec Ideal S1x1024 .f32)
    (mkt : Fin 512 → Fin 256 → EReal) (mv : Fin 256 → Fin 512 → EReal)
    (hk0 : ∀ (d : Fin 128) j, k0 (ix3 0 d j) = mkt ⟨0 + d.val, by omega⟩ j) (hk1 : ∀ (d : Fin 128) j, k1 (ix3 0 d j) = mkt ⟨128 + d.val, by omega⟩ j)
    (hk2 : ∀ (d : Fin 128) j, k2 (ix3 0 d j) = mkt ⟨256 + d.val, by omega⟩ j) (hk3 : ∀ (d : Fin 128) j, k3 (ix3 0 d j) = mkt ⟨384 + d.val, by omega⟩ j)
    (hv0 : ∀ j (d : Fin 128), v0 (ix3 0 j d) = mv j ⟨0 + d.val, by omega⟩) (hv1 : ∀ j (d : Fin 128), v1 (ix3 0 j d) = mv j ⟨128 + d.val, by omega⟩)
    (hv2 : ∀ j (d : Fin 128), v2 (ix3 0 j d) = mv j ⟨256 + d.val, by omega⟩) (hv3 : ∀ j (d : Fin 128), v3 (ix3 0 j d) = mv j ⟨384 + d.val, by omega⟩)
    (r : Fin 256) (c : Fin 1024) :
    group x oa ob k0 k1 k2 k3 v0 v1 v2 v3 g b wcq wga wgb wgc wma wmb wmc wpa wpb wpc wo lg lb (ix2 r c) =
      tailRow (fun k => x (ix2 r k)) (fun k => oa (ix3 0 r k)) (fun k => ob (ix3 0 r k)) mkt mv (fun k => g (ix2 0 k)) (fun k => b (ix2 0 k))
        (fun k c => wcq (ix2 k c)) (fun k c => wga (ix2 k c)) (fun k c => wgb (ix2 k c)) (fun k c => wgc (ix2 k c))
        (fun k c => wma (ix2 k c)) (fun k c => wmb (ix2 k c)) (fun k c => wmc (ix2 k c))
        (fun k c => wpa (ix2 k c)) (fun k c => wpb (ix2 k c)) (fun k c => wpc (ix2 k c)) (fun k c => wo (ix2 k c))
        (fun k => lg (ix2 0 k)) (fun k => lb (ix2 0 k)) c := by
  unfold group gH
  rw [gLn_apply]
  simp only [shapeCast_self]
  unfold tailRow gZ
  have hH : ∀ k, gLn x g b (ix2 r k) = lnRow (fun k => x (ix2 r k)) (fun k => g (ix2 0 k)) (fun k => b (ix2 0 k)) k := gLn_apply x g b r
  have hHe : (fun k => gLn x g b (ix2 r k)) = lnRow (fun k => x (ix2 r k)) (fun k => g (ix2 0 k)) (fun k => b (ix2 0 k)) := funext hH
  simp only [gRes_apply, gBranches_apply, truncf_apply, gMem_apply _ k0 k1 k2 k3 v0 v1 v2 v3 mkt mv hk0 hk1 hk2 hk3 hv0 hv1 hv2 hv3, gProj_apply, hH]

end Cert.KernelIdeal.RefValue

end
-- ==== Proof.TailSpec.lean ====
/- What the last call leaves in its result, as a function of the arrays it is given. (Hand-written, untrusted.) -/
module

public import proofs.«01_k».proof.Proof.Rows

@[expose] public section

noncomputable section

namespace Cert.Rows

open Idealize.ShloMosaic
open Idealize.ShloMosaic.ValueIdx

/-- The result's row of a batch and a position. -/
def tailAt (x : FVec Ideal ⟨3, ![16, 2048, 1024]⟩ .f32) (oa ob : FVec Ideal ⟨3, ![16, 2048, 512]⟩ .bf16)
    (mkt : FVec Ideal ⟨3, ![16, 512, 256]⟩ .bf16) (mv : FVec Ideal ⟨3, ![16, 256, 512]⟩ .bf16) (g b : FVec Ideal ⟨1, ![1024]⟩ .f32)
    (w : FVec Ideal ⟨3, ![1, 1024, 7592]⟩ .f32) (wpa wpb wpc : FVec Ideal ⟨3, ![1, 512, 1024]⟩ .f32) (wo : FVec Ideal ⟨3, ![1, 1024, 1024]⟩ .f32)
    (lg lb : FVec Ideal ⟨2, ![1, 1024]⟩ .f32) (e : Fin 16) (p : Fin 2048) : Fin 1024 → EReal :=
  tailRow (fun k => x (ix3 e p k)) (fun k => oa (ix3 e p k)) (fun k => ob (ix3 e p k)) (fun d j => mkt (ix3 e d j)) (fun j d => mv (ix3 e j d))
    (fun k => g (ix1 k)) (fun k => b (ix1 k)) (fun k c => w (ix3 0 k ⟨3496 + c.val, by omega⟩))
    (fun k c => w (ix3 0 k ⟨640 + c.val, by omega⟩)) (fun k c => w (ix3 0 k ⟨2984 + c.val, by omega⟩)) (fun k c => w (ix3 0 k ⟨4008 + c.val, by omega⟩))
    (fun k c => w (ix3 0 k ⟨4520 + c.val, by omega⟩)) (fun k c => w (ix3 0 k ⟨5544 + c.val, by omega⟩)) (fun k c => w (ix3 0 k ⟨6568 + c.val, by omega⟩))
    (fun k c => wpa (ix3 0 k c)) (fun k c => wpb (ix3 0 k c)) (fun k c => wpc (ix3 0 k c)) (fun k c => wo (ix3 0 k c)) (fun k => lg (ix2 0 k)) (fun k => lb (ix2 0 k))

/-- The result: its row is a batch and a position. -/
def tailFn (x : FVec Ideal ⟨3, ![16, 2048, 1024]⟩ .f32) (oa ob : FVec Ideal ⟨3, ![16, 2048, 512]⟩ .bf16)
    (mkt : FVec Ideal ⟨3, ![16, 512, 256]⟩ .bf16) (mv : FVec Ideal ⟨3, ![16, 256, 512]⟩ .bf16) (g b : FVec Ideal ⟨1, ![1024]⟩ .f32)
    (w : FVec Ideal ⟨3, ![1, 1024, 7592]⟩ .f32) (wpa wpb wpc : FVec Ideal ⟨3, ![1, 512, 1024]⟩ .f32) (wo : FVec Ideal ⟨3, ![1, 1024, 1024]⟩ .f32)
    (lg lb : FVec Ideal ⟨2, ![1, 1024]⟩ .f32) : FVec Ideal ⟨2, ![32768, 1024]⟩ .f32 := fun i =>
  tailAt x oa ob mkt mv g b w wpa wpb wpc wo lg lb ⟨(i 0).val / 2048, by have : (i 0).val < 32768 := (i 0).isLt; omega⟩ ⟨(i 0).val % 2048, by omega⟩ ⟨(i 1).val, (i 1).isLt⟩

end Cert.Rows

end
-- ==== Proof.Tail.lean ====
/- What the last call leaves in its result: the blocks it is given, read at an index, and the groups' results put together.
   (Hand-written, untrusted.) -/
module

public import proofs.«01_k».proof.Proof.GroupRows
public import proofs.«01_k».proof.Proof.TailSpec
public import proofs.«01_k».proof.Proof.Gen.KernelIdeal.Value
public import Idealize.ShloMosaic.Lib.Pipeline.ValueKit

@[expose] public section

set_option maxRecDepth 16384

noncomputable section

open Idealize.ShloMosaic hiding ix1 ix2 ix3 ix4
open Idealize.ShloMosaic.TcCoe Idealize.SL.Sem Idealize.ShloMosaic.ValueIdx
open Idealize.ShloMosaic.Pipeline (Dat)

namespace Cert.KernelIdeal.RefValue

open Cert.KernelIdeal Cert.KernelIdeal.Gen Cert.Rows

variable (m : (ℓ : Loc nD τ sig) → Buf (Elt Ideal) ℓ) (ρ : Dev nD → PrngReg)

section Arguments
variable (c : Dev nD)
/-- The arguments as the program is given them. -/
abbrev a0 : FVec Ideal S16x2048x1024 .f32 := m ((c : Thread nD τ).loc main_arg0)
abbrev a1 : FVec Ideal S16x2048x512 .bf16 := m ((c : Thread nD τ).loc main_arg1)
abbrev a2 : FVec Ideal S16x2048x512 .bf16 := m ((c : Thread nD τ).loc main_arg2)
abbrev a3 : FVec Ideal S16x512x256 .bf16 := m ((c : Thread nD τ).loc main_arg3)
abbrev a4 : FVec Ideal S16x256x512 .bf16 := m ((c : Thread nD τ).loc main_arg4)
abbrev a5 : FVec Ideal S1024 .f32 := m ((c : Thread nD τ).loc main_arg5)
abbrev a6 : FVec Ideal S1024 .f32 := m ((c : Thread nD τ).loc main_arg6)
abbrev a7 : FVec Ideal S1x1024x7592 .f32 := m ((c : Thread nD τ).loc main_arg7)
abbrev a8 : FVec Ideal S1x512x1024 .f32 := m ((c : Thread nD τ).loc main_arg8)
abbrev a9 : FVec Ideal S1x512x1024 .f32 := m ((c : Thread nD τ).loc main_arg9)
abbrev a10 : FVec Ideal S1x512x1024 .f32 := m ((c : Thread nD τ).loc main_arg10)
abbrev a11 : FVec Ideal S1x1024x1024 .f32 := m ((c : Thread nD τ).loc main_arg11)
abbrev a12 : FVec Ideal S1x1024 .f32 := m ((c : Thread nD τ).loc main_arg12)
abbrev a13 : FVec Ideal S1x1024 .f32 := m ((c : Thread nD τ).loc main_arg13)
end Arguments

/-- Rows of a matrix from a row on. -/
theorem rows_apply {α : Type} {M N K : Nat} (o : Nat) (x : (⟨2, ![M, N]⟩ : Shape).Idx → α) (h : (⟨2, ![M, N]⟩ : Shape).Slices ![o, 0] ⟨2, ![K, N]⟩) (hK : o + K ≤ M)
    (r : Fin K) (c : Fin N) : extractStridedSlice ⟨2, ![K, N]⟩ ![o, 0] x h (ix2 r c) = x (ix2 ⟨o + r.val, by omega⟩ c) :=
  extractStridedSlice_apply ![o, 0] x h _ _ (fun a => by match a with | ⟨0, _⟩ => rfl | ⟨1, _⟩ => exact (Nat.zero_add _).symm)

/-- A matrix transposed. -/
theorem tr_apply {α : Type} {M N : Nat} (x : (⟨2, ![M, N]⟩ : Shape).Idx → α) (h : (⟨2, ![M, N]⟩ : Shape).Transposes [1, 0] ⟨2, ![N, M]⟩) (r : Fin N) (c : Fin M) :
    transpose ⟨2, ![N, M]⟩ [1, 0] x h (ix2 r c) = x (ix2 c r) :=
  transpose_apply [1, 0] x h _ (ix2 c r) (fun a => by match a with | ⟨0, _⟩ => rfl | ⟨1, _⟩ => rfl)

/-- A vector as a matrix of one row. -/
theorem row_of_vec {α : Type} {N : Nat} (x : (⟨1, ![N]⟩ : Shape).Idx → α) (h : (⟨1, ![N]⟩ : Shape).ShapeCasts ⟨2, ![1, N]⟩) (c : Fin N) :
    shapeCast ⟨2, ![1, N]⟩ x h (ix2 0 c) = x (ix1 c) :=
  shapeCast_apply x h _ _ (by rw [Shape.rowMajor_val_two, Shape.rowMajor_val_one]; show c.val = 0 * N + c.val; omega)

/-- A matrix of one row as a vector. -/
theorem vec_of_row {α : Type} {N : Nat} (x : (⟨2, ![1, N]⟩ : Shape).Idx → α) (h : (⟨2, ![1, N]⟩ : Shape).ShapeCasts ⟨1, ![N]⟩) (c : Fin N) :
    shapeCast ⟨1, ![N]⟩ x h (ix1 c) = x (ix2 0 c) :=
  shapeCast_apply x h _ _ (by rw [Shape.rowMajor_val_two, Shape.rowMajor_val_one]; show 0 * N + c.val = c.val; omega)

/-- The input projection's weight, transposed. -/
abbrev wT (c : Dev nD) : FVec Ideal S7592x1024 .bf16 :=
  truncf .bf16 (transpose S7592x1024 [1, 0] (shapeCast S1024x7592 (a7 m c) shapeCasts_S1x1024x7592_S1024x7592) transposes_S1024x7592_S7592x1024_1_0) bitsLt_bf16_f32

/-- Read at an entry. -/
theorem wT_apply (c : Dev nD) (q : Fin 7592) (k : Fin 1024) : wT m c (ix2 q k) = a7 m c (ix3 0 k q) := by
  show transpose S7592x1024 [1, 0] (shapeCast S1024x7592 (a7 m c) shapeCasts_S1x1024x7592_S1024x7592) transposes_S1024x7592_S7592x1024_1_0 (ix2 q k) = _
  exact (tr_apply _ _ q k).trans (dropLead_apply _ _ k q)

/-! What the host prepares for the call. -/

/-- The memory queries' weight. -/
theorem V_v9 (c : Dev nD) (k : Fin 1024) (q : Fin 512) :
    (V m c main_v9 : FVec Ideal S1024x512 .bf16) (ix2 k q) = a7 m c (ix3 0 k ⟨3496 + q.val, by omega⟩) := by
  have e : (V m c main_v9 : FVec Ideal S1024x512 .bf16) = transpose S1024x512 [1, 0] (extractStridedSlice S512x1024 ![3496, 0] (wT m c) slices_S7592x1024_S512x1024_3496_0) transposes_S512x1024_S1024x512_1_0 := by
    show StableHlo.after hostOps0 _ _ = _
    after_results <;> rfl
  rw [e]
  refine (tr_apply _ _ k q).trans ((rows_apply 3496 _ _ (by decide) q k).trans ?_)
  exact wT_apply m c _ k

/-- The merge gates' weights. -/
theorem V_v11 (c : Dev nD) (k : Fin 1024) (q : Fin 3072) :
    (V m c main_v11 : FVec Ideal S1024x3072 .bf16) (ix2 k q) = a7 m c (ix3 0 k ⟨4520 + q.val, by omega⟩) := by
  have e : (V m c main_v11 : FVec Ideal S1024x3072 .bf16) = transpose S1024x3072 [1, 0] (extractStridedSlice S3072x1024 ![4520, 0] (wT m c) slices_S7592x1024_S3072x1024_4520_0) transposes_S3072x1024_S1024x3072_1_0 := by
    show StableHlo.after hostOps0 _ _ = _
    after_results <;> rfl
  rw [e]
  refine (tr_apply _ _ k q).trans ((rows_apply 4520 _ _ (by decide) q k).trans ?_)
  exact wT_apply m c _ k

/-- One of three pieces stacked, read at a row it covers. -/
theorem stack_piece3 (b0 b1 b2 : FVec Ideal S512x1024 .bf16) (h : S1536x1024.Concatenates [S512x1024, S512x1024, S512x1024] 0) (q : Fin 512) (k : Fin 1024) :
    concatenate S1536x1024 0 [⟨S512x1024, b0⟩, ⟨S512x1024, b1⟩, ⟨S512x1024, b2⟩] h (ix2 ⟨0 + q.val, by omega⟩ k) = b0 (ix2 q k)
    ∧ concatenate S1536x1024 0 [⟨S512x1024, b0⟩, ⟨S512x1024, b1⟩, ⟨S512x1024, b2⟩] h (ix2 ⟨512 + q.val, by omega⟩ k) = b1 (ix2 q k)
    ∧ concatenate S1536x1024 0 [⟨S512x1024, b0⟩, ⟨S512x1024, b1⟩, ⟨S512x1024, b2⟩] h (ix2 ⟨1024 + q.val, by omega⟩ k) = b2 (ix2 q k) := by
  have hi (z : Fin 1536) : ∀ b : Fin S512x1024.rank, b.cast (rfl : S512x1024.rank = S1536x1024.rank) ≠ 0 → ((ix2 q k : S512x1024.Idx) b).val = ((ix2 z k : S1536x1024.Idx) (b.cast rfl)).val :=
    fun b hb => by match b with | ⟨0, _⟩ => exact absurd rfl hb | ⟨1, _⟩ => rfl
  refine ⟨?_, ?_, ?_⟩
  · exact concatenate_apply_piece (0 : Fin S1536x1024.rank) [⟨S512x1024, b0⟩, ⟨S512x1024, b1⟩, ⟨S512x1024, b2⟩] h _ 0 (by simp) S512x1024 b0 rfl rfl 0 rfl (ix2 q k) (hi _) rfl
  · exact concatenate_apply_piece (0 : Fin S1536x1024.rank) [⟨S512x1024, b0⟩, ⟨S512x1024, b1⟩, ⟨S512x1024, b2⟩] h _ 1 (by simp) S512x1024 b1 rfl rfl 512 rfl (ix2 q k) (hi _) rfl
  · exact concatenate_apply_piece (0 : Fin S1536x1024.rank) [⟨S512x1024, b0⟩, ⟨S512x1024, b1⟩, ⟨S512x1024, b2⟩] h _ 2 (by simp) S512x1024 b2 rfl rfl 1024 rfl (ix2 q k) (hi _) rfl

/-- The gates' weights: three ranges of columns side by side. -/
theorem V_v7 (c : Dev nD) : (V m c main_v7 : FVec Ideal S1024x1536 .bf16) = transpose S1024x1536 [1, 0] (concatenate S1536x1024 0
      [⟨S512x1024, extractStridedSlice S512x1024 ![640, 0] (wT m c) slices_S7592x1024_S512x1024_640_0⟩, ⟨S512x1024, extractStridedSlice S512x1024 ![2984, 0] (wT m c) slices_S7592x1024_S512x1024_2984_0⟩,
       ⟨S512x1024, extractStridedSlice S512x1024 ![4008, 0] (wT m c) slices_S7592x1024_S512x1024_4008_0⟩] concatenates_S512x1024_S512x1024_S512x1024_S1536x1024_d0) transposes_S1536x1024_S1024x1536_1_0 := by
  show StableHlo.after hostOps0 _ _ = _
  after_results <;> rfl

theorem V_v7a (c : Dev nD) (k : Fin 1024) (q : Fin 512) :
    (V m c main_v7 : FVec Ideal S1024x1536 .bf16) (ix2 k ⟨0 + q.val, by omega⟩) = a7 m c (ix3 0 k ⟨640 + q.val, by omega⟩) := by
  rw [V_v7]
  refine (tr_apply _ _ k _).trans ((stack_piece3 _ _ _ _ q k).1.trans ((rows_apply 640 _ _ (by decide) q k).trans ?_))
  exact wT_apply m c _ k
theorem V_v7b (c : Dev nD) (k : Fin 1024) (q : Fin 512) :
    (V m c main_v7 : FVec Ideal S1024x1536 .bf16) (ix2 k ⟨512 + q.val, by omega⟩) = a7 m c (ix3 0 k ⟨2984 + q.val, by omega⟩) := by
  rw [V_v7]
  refine (tr_apply _ _ k _).trans ((stack_piece3 _ _ _ _ q k).2.1.trans ((rows_apply 2984 _ _ (by decide) q k).trans ?_))
  exact wT_apply m c _ k
theorem V_v7c (c : Dev nD) (k : Fin 1024) (q : Fin 512) :
    (V m c main_v7 : FVec Ideal S1024x1536 .bf16) (ix2 k ⟨1024 + q.val, by omega⟩) = a7 m c (ix3 0 k ⟨4008 + q.val, by omega⟩) := by
  rw [V_v7]
  refine (tr_apply _ _ k _).trans ((stack_piece3 _ _ _ _ q k).2.2.trans ((rows_apply 4008 _ _ (by decide) q k).trans ?_))
  exact wT_apply m c _ k

/-- The input's rows. -/
theorem V_v12 (c : Dev nD) (e : Fin 16) (p : Fin 2048) (k : Fin 1024) (r : Fin 32768) (h : r.val = e.val * 2048 + p.val) :
    (V m c main_v12 : FVec Ideal S32768x1024 .f32) (ix2 r k) = a0 m c (ix3 e p k) := by
  have e' : (V m c main_v12 : FVec Ideal S32768x1024 .f32) = shapeCast S32768x1024 (a0 m c) shapeCasts_S16x2048x1024_S32768x1024 := by
    show StableHlo.after hostOps0 _ _ = _
    after_results <;> rfl
  rw [e']
  refine shapeCast_apply _ _ _ _ ?_
  rw [Shape.rowMajor_val_three, Shape.rowMajor_val_two]
  show (e.val * 2048 + p.val) * 1024 + k.val = r.val * 1024 + k.val
  rw [h]

theorem V_v13 (c : Dev nD) (k : Fin 1024) : (V m c main_v13 : FVec Ideal S1x1024 .f32) (ix2 0 k) = a5 m c (ix1 k) := by
  have e : (V m c main_v13 : FVec Ideal S1x1024 .f32) = shapeCast S1x1024 (a5 m c) shapeCasts_S1024_S1x1024 := by
    show StableHlo.after hostOps0 _ _ = _
    after_results <;> rfl
  rw [e]
  exact row_of_vec _ _ k
theorem V_v14 (c : Dev nD) (k : Fin 1024) : (V m c main_v14 : FVec Ideal S1x1024 .f32) (ix2 0 k) = a6 m c (ix1 k) := by
  have e : (V m c main_v14 : FVec Ideal S1x1024 .f32) = shapeCast S1x1024 (a6 m c) shapeCasts_S1024_S1x1024 := by
    show StableHlo.after hostOps0 _ _ = _
    after_results <;> rfl
  rw [e]
  exact row_of_vec _ _ k
theorem V_v24 (c : Dev nD) (k : Fin 1024) : (V m c main_v24 : FVec Ideal S1x1024 .f32) (ix2 0 k) = a12 m c (ix2 0 k) := by
  have e : (V m c main_v24 : FVec Ideal S1x1024 .f32) = shapeCast S1x1024 (shapeCast S1024 (a12 m c) shapeCasts_S1x1024_S1024) shapeCasts_S1024_S1x1024 := by
    show StableHlo.after hostOps0 _ _ = _
    after_results <;> rfl
  rw [e]
  exact (row_of_vec _ _ k).trans (vec_of_row _ _ k)
theorem V_v26 (c : Dev nD) (k : Fin 1024) : (V m c main_v26 : FVec Ideal S1x1024 .f32) (ix2 0 k) = a13 m c (ix2 0 k) := by
  have e : (V m c main_v26 : FVec Ideal S1x1024 .f32) = shapeCast S1x1024 (shapeCast S1024 (a13 m c) shapeCasts_S1x1024_S1024) shapeCasts_S1024_S1x1024 := by
    show StableHlo.after hostOps0 _ _ = _
    after_results <;> rfl
  rw [e]
  exact (row_of_vec _ _ k).trans (vec_of_row _ _ k)
theorem V_v16 (c : Dev nD) (k : Fin 512) (q : Fin 1024) : (V m c main_v16 : FVec Ideal S512x1024 .bf16) (ix2 k q) = a8 m c (ix3 0 k q) := by
  have e : (V m c main_v16 : FVec Ideal S512x1024 .bf16) = truncf .bf16 (shapeCast S512x1024 (a8 m c) shapeCasts_S1x512x1024_S512x1024) bitsLt_bf16_f32 := by
    show StableHlo.after hostOps0 _ _ = _
    after_results <;> rfl
  rw [e, truncf_apply]
  exact dropLead_apply _ _ k q
theorem V_v18 (c : Dev nD) (k : Fin 512) (q : Fin 1024) : (V m c main_v18 : FVec Ideal S512x1024 .bf16) (ix2 k q) = a9 m c (ix3 0 k q) := by
  have e : (V m c main_v18 : FVec Ideal S512x1024 .bf16) = truncf .bf16 (shapeCast S512x1024 (a9 m c) shapeCasts_S1x512x1024_S512x1024) bitsLt_bf16_f32 := by
    show StableHlo.after hostOps0 _ _ = _
    after_results <;> rfl
  rw [e, truncf_apply]
  exact dropLead_apply _ _ k q
theorem V_v20 (c : Dev nD) (k : Fin 512) (q : Fin 1024) : (V m c main_v20 : FVec Ideal S512x1024 .bf16) (ix2 k q) = a10 m c (ix3 0 k q) := by
  have e : (V m c main_v20 : FVec Ideal S512x1024 .bf16) = truncf .bf16 (shapeCast S512x1024 (a10 m c) shapeCasts_S1x512x1024_S512x1024) bitsLt_bf16_f32 := by
    show StableHlo.after hostOps0 _ _ = _
    after_results <;> rfl
  rw [e, truncf_apply]
  exact dropLead_apply _ _ k q
theorem V_v22 (c : Dev nD) (k : Fin 1024) (q : Fin 1024) : (V m c main_v22 : FVec Ideal S1024x1024 .bf16) (ix2 k q) = a11 m c (ix3 0 k q) := by
  have e : (V m c main_v22 : FVec Ideal S1024x1024 .bf16) = truncf .bf16 (shapeCast S1024x1024 (a11 m c) shapeCasts_S1x1024x1024_S1024x1024) bitsLt_bf16_f32 := by
    show StableHlo.after hostOps0 _ _ = _
    after_results <;> rfl
  rw [e, truncf_apply]
  exact dropLead_apply _ _ k q

/-! Where each window's block lies at a grid point. -/
theorem idx0 : ∀ t : Fin cfg0.N, win0_0.index t = ![t.val, 0] := (by decide +kernel : ∀ t : Fin grid0.N, _)
theorem idx1 : ∀ t : Fin cfg0.N, win0_1.index t = ![t.val / 2, t.val % 2, 0] := (by decide +kernel : ∀ t : Fin grid0.N, _)
theorem idx2 : ∀ t : Fin cfg0.N, win0_2.index t = ![t.val / 2, t.val % 2, 0] := (by decide +kernel : ∀ t : Fin grid0.N, _)
theorem idx3 : ∀ t : Fin cfg0.N, win0_3.index t = ![t.val / 2, 0, 0] := (by decide +kernel : ∀ t : Fin grid0.N, _)
theorem idx4 : ∀ t : Fin cfg0.N, win0_4.index t = ![t.val / 2, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![t.val, 0] := (by decide +kernel : ∀ t : Fin grid0.N, _)

/-- The batch of a grid point, and the position of a row of its block. -/
abbrev bat (t : Fin cfg0.N) : Fin 16 := ⟨t.val / 2, by have h : t.val < 32 := lt_of_lt_of_eq t.isLt N_0; omega⟩
abbrev pos (t : Fin cfg0.N) (r : Nat) (h : r < 1024) : Fin 2048 := ⟨t.val % 2 * 1024 + r, by omega⟩

/-! The blocks read at an index. -/

theorem blk0 (c : Dev nD) (t : Fin cfg0.N) (r k : Fin 1024) : iblk m c 0 t (ix2 r k) = a0 m c (ix3 (bat t) (pos t r.val r.isLt) k) := by
  have ht : t.val < 32 := lt_of_lt_of_eq t.isLt N_0
  refine Eq.trans ?_ (V_v12 m c (bat t) (pos t r.val r.isLt) k ⟨t.val * 1024 + r.val, by omega⟩ (by show t.val * 1024 + r.val = t.val / 2 * 2048 + (t.val % 2 * 1024 + r.val); omega))
  blk_simp [iblk]
  refine congrArg (V m c main_v12) (funext fun b => Fin.ext ?_)
  match b with
  | ⟨0, _⟩ => blk_simp [idx0] <;> simp
  | ⟨1, _⟩ => blk_simp [idx0] <;> simp
theorem blk1 (c : Dev nD) (t : Fin cfg0.N) (r : Fin 1024) (k : Fin 512) : iblk m c 1 t (ix3 0 r k) = a1 m c (ix3 (bat t) (pos t r.val r.isLt) k) := by
  blk_simp [iblk]
  rw [show V m c (Pipeline.arrRef spec0 1) = a1 m c from V_main_arg1 m c]
  refine congrArg (a1 m c) (funext fun b => Fin.ext ?_)
  match b with
  | ⟨0, _⟩ => blk_simp [idx1] <;> simp
  | ⟨1, _⟩ => blk_simp [idx1] <;> simp
  | ⟨2, _⟩ => blk_simp [idx1] <;> simp
theorem blk2 (c : Dev nD) (t : Fin cfg0.N) (r : Fin 1024) (k : Fin 512) : iblk m c 2 t (ix3 0 r k) = a2 m c (ix3 (bat t) (pos t r.val r.isLt) k) := by
  blk_simp [iblk]
  rw [show V m c (Pipeline.arrRef spec0 2) = a2 m c from V_main_arg2 m c]
  refine congrArg (a2 m c) (funext fun b => Fin.ext ?_)
  match b with
  | ⟨0, _⟩ => blk_simp [idx2] <;> simp
  | ⟨1, _⟩ => blk_simp [idx2] <;> simp
  | ⟨2, _⟩ => blk_simp [idx2] <;> simp
theorem blk3 (c : Dev nD) (t : Fin cfg0.N) (r : Fin 512) (k : Fin 256) : iblk m c 3 t (ix3 0 r k) = a3 m c (ix3 (bat t) r k) := by
  blk_simp [iblk]
  rw [show V m c (Pipeline.arrRef spec0 3) = a3 m c from V_main_arg3 m c]
  refine congrArg (a3 m c) (funext fun b => Fin.ext ?_)
  match b with
  | ⟨0, _⟩ => blk_simp [idx3] <;> simp
  | ⟨1, _⟩ => blk_simp [idx3] <;> simp
  | ⟨2, _⟩ => blk_simp [idx3] <;> simp
theorem blk4 (c : Dev nD) (t : Fin cfg0.N) (r : Fin 256) (k : Fin 512) : iblk m c 4 t (ix3 0 r k) = a4 m c (ix3 (bat t) r k) := by
  blk_simp [iblk]
  rw [show V m c (Pipeline.arrRef spec0 4) = a4 m c from V_main_arg4 m c]
  refine congrArg (a4 m c) (funext fun b => Fin.ext ?_)
  match b with
  | ⟨0, _⟩ => blk_simp [idx4] <;> simp
  | ⟨1, _⟩ => blk_simp [idx4] <;> simp
  | ⟨2, _⟩ => blk_simp [idx4] <;> simp
theorem blk5 (c : Dev nD) (t : Fin cfg0.N) (r : Fin 1) (k : Fin 1024) : iblk m c 5 t (ix2 r k) = (V m c main_v13 : FVec Ideal S1x1024 .f32) (ix2 r k) := by
  blk_simp [iblk]
  refine congrArg (V m c main_v13) (funext fun b => Fin.ext ?_)
  match b with
  | ⟨0, _⟩ => blk_simp [idx5] <;> simp
  | ⟨1, _⟩ => blk_simp [idx5] <;> simp
theorem blk6 (c : Dev nD) (t : Fin cfg0.N) (r : Fin 1) (k : Fin 1024) : iblk m c 6 t (ix2 r k) = (V m c main_v14 : FVec Ideal S1x1024 .f32) (ix2 r k) := by
  blk_simp [iblk]
  refine congrArg (V m c main_v14) (funext fun b => Fin.ext ?_)
  match b with
  | ⟨0, _⟩ => blk_simp [idx6] <;> simp
  | ⟨1, _⟩ => blk_simp [idx6] <;> simp
theorem blk7 (c : Dev nD) (t : Fin cfg0.N) (r : Fin 1024) (k : Fin 512) : iblk m c 7 t (ix2 r k) = (V m c main_v9 : FVec Ideal S1024x512 .bf16) (ix2 r k) := by
  blk_simp [iblk]
  refine congrArg (V m c main_v9) (funext fun b => Fin.ext ?_)
  match b with
  | ⟨0, _⟩ => blk_simp [idx7] <;> simp
  | ⟨1, _⟩ => blk_simp [idx7] <;> simp
theorem blk8 (c : Dev nD) (t : Fin cfg0.N) (r : Fin 1024) (k : Fin 1536) : iblk m c 8 t (ix2 r k) = (V m c main_v7 : FVec Ideal S1024x1536 .bf16) (ix2 r k) := by
  blk_simp [iblk]
  refine congrArg (V m c main_v7) (funext fun b => Fin.ext ?_)
  match b with
  | ⟨0, _⟩ => blk_simp [idx8] <;> simp
  | ⟨1, _⟩ => blk_simp [idx8] <;> simp
theorem blk9 (c : Dev nD) (t : Fin cfg0.N) (r : Fin 1024) (k : Fin 3072) : iblk m c 9 t (ix2 r k) = (V m c main_v11 : FVec Ideal S1024x3072 .bf16) (ix2 r k) := by
  blk_simp [iblk]
  refine congrArg (V m c main_v11) (funext fun b => Fin.ext ?_)
  match b with
  | ⟨0, _⟩ => blk_simp [idx9] <;> simp
  | ⟨1, _⟩ => blk_simp [idx9] <;> simp
theorem blk10 (c : Dev nD) (t : Fin cfg0.N) (r : Fin 512) (k : Fin 1024) : iblk m c 10 t (ix2 r k) = (V m c main_v16 : FVec Ideal S512x1024 .bf16) (ix2 r k) := by
  blk_simp [iblk]
  refine congrArg (V m c main_v16) (funext fun b => Fin.ext ?_)
  match b with
  | ⟨0, _⟩ => blk_simp [idx10] <;> simp
  | ⟨1, _⟩ => blk_simp [idx10] <;> simp
theorem blk11 (c : Dev nD) (t : Fin cfg0.N) (r : Fin 512) (k : Fin 1024) : iblk m c 11 t (ix2 r k) = (V m c main_v18 : FVec Ideal S512x1024 .bf16) (ix2 r k) := by
  blk_simp [iblk]
  refine congrArg (V m c main_v18) (funext fun b => Fin.ext ?_)
  match b with
  | ⟨0, _⟩ => blk_simp [idx11] <;> simp
  | ⟨1, _⟩ => blk_simp [idx11] <;> simp
theorem blk12 (c : Dev nD) (t : Fin cfg0.N) (r : Fin 512) (k : Fin 1024) : iblk m c 12 t (ix2 r k) = (V m c main_v20 : FVec Ideal S512x1024 .bf16) (ix2 r k) := by
  blk_simp [iblk]
  refine congrArg (V m c main_v20) (funext fun b => Fin.ext ?_)
  match b with
  | ⟨0, _⟩ => blk_simp [idx12] <;> simp
  | ⟨1, _⟩ => blk_simp [idx12] <;> simp
theorem blk13 (c : Dev nD) (t : Fin cfg0.N) (r : Fin 1024) (k : Fin 1024) : iblk m c 13 t (ix2 r k) = (V m c main_v22 : FVec Ideal S1024x1024 .bf16) (ix2 r k) := by
  blk_simp [iblk]
  refine congrArg (V m c main_v22) (funext fun b => Fin.ext ?_)
  match b with
  | ⟨0, _⟩ => blk_simp [idx13] <;> simp
  | ⟨1, _⟩ => blk_simp [idx13] <;> simp
theorem blk14 (c : Dev nD) (t : Fin cfg0.N) (r : Fin 1) (k : Fin 1024) : iblk m c 14 t (ix2 r k) = (V m c main_v24 : FVec Ideal S1x1024 .f32) (ix2 r k) := by
  blk_simp [iblk]
  refine congrArg (V m c main_v24) (funext fun b => Fin.ext ?_)
  match b with
  | ⟨0, _⟩ => blk_simp [idx14] <;> simp
  | ⟨1, _⟩ => blk_simp [idx14] <;> simp
theorem blk15 (c : Dev nD) (t : Fin cfg0.N) (r : Fin 1) (k : Fin 1024) : iblk m c 15 t (ix2 r k) = (V m c main_v26 : FVec Ideal S1x1024 .f32) (ix2 r k) := by
  blk_simp [iblk]
  refine congrArg (V m c main_v26) (funext fun b => Fin.ext ?_)
  match b with
  | ⟨0, _⟩ => blk_simp [idx15] <;> simp
  | ⟨1, _⟩ => blk_simp [idx15] <;> simp

/-! The body's loads read at an index. -/

theorem ld_g (c : Dev nD) (t : Fin cfg0.N) (q : Fin 1024) : View.ld (iblk m c 5 t) r0_1 (ix2 0 q) = a5 m c (ix1 q) :=
  (View.ld_unit_apply_of _ _ _ _ _ (ix2 0 q) (fun a => by match a with | ⟨0, _⟩ => rfl | ⟨1, _⟩ => exact (Nat.zero_add _).symm)).trans ((blk5 m c t 0 q).trans (V_v13 m c q))
theorem ld_b (c : Dev nD) (t : Fin cfg0.N) (q : Fin 1024) : View.ld (iblk m c 6 t) r0_1 (ix2 0 q) = a6 m c (ix1 q) :=
  (View.ld_unit_apply_of _ _ _ _ _ (ix2 0 q) (fun a => by match a with | ⟨0, _⟩ => rfl | ⟨1, _⟩ => exact (Nat.zero_add _).symm)).trans ((blk6 m c t 0 q).trans (V_v14 m c q))
theorem ld_lg (c : Dev nD) (t : Fin cfg0.N) (q : Fin 1024) : View.ld (iblk m c 14 t) r0_1 (ix2 0 q) = a12 m c (ix2 0 q) :=
  (View.ld_unit_apply_of _ _ _ _ _ (ix2 0 q) (fun a => by match a with | ⟨0, _⟩ => rfl | ⟨1, _⟩ => exact (Nat.zero_add _).symm)).trans ((blk14 m c t 0 q).trans (V_v24 m c q))
theorem ld_lb (c : Dev nD) (t : Fin cfg0.N) (q : Fin 1024) : View.ld (iblk m c 15 t) r0_1 (ix2 0 q) = a13 m c (ix2 0 q) :=
  (View.ld_unit_apply_of _ _ _ _ _ (ix2 0 q) (fun a => by match a with | ⟨0, _⟩ => rfl | ⟨1, _⟩ => exact (Nat.zero_add _).symm)).trans ((blk15 m c t 0 q).trans (V_v26 m c q))
theorem ld_wcq (c : Dev nD) (t : Fin cfg0.N) (k : Fin 1024) (q : Fin 512) : View.ld (iblk m c 7 t) r0_5 (ix2 k q) = a7 m c (ix3 0 k ⟨3496 + q.val, by omega⟩) :=
  (View.ld_unit_apply_of _ _ _ _ _ (ix2 k q) (fun a => by match a with | ⟨0, _⟩ => exact (Nat.zero_add _).symm | ⟨1, _⟩ => exact (Nat.zero_add _).symm)).trans ((blk7 m c t k q).trans (V_v9 m c k q))
theorem ld_wga (c : Dev nD) (t : Fin cfg0.N) (k : Fin 1024) (q : Fin 512) : View.ld (iblk m c 8 t) r0_6 (ix2 k q) = a7 m c (ix3 0 k ⟨640 + q.val, by omega⟩) :=
  (View.ld_unit_apply_of _ _ _ _ _ (ix2 k ⟨0 + q.val, by omega⟩) (fun a => by match a with | ⟨0, _⟩ => exact (Nat.zero_add _).symm | ⟨1, _⟩ => rfl)).trans ((blk8 m c t k _).trans (V_v7a m c k q))
theorem ld_wgb (c : Dev nD) (t : Fin cfg0.N) (k : Fin 1024) (q : Fin 512) : View.ld (iblk m c 8 t) r0_11 (ix2 k q) = a7 m c (ix3 0 k ⟨2984 + q.val, by omega⟩) :=
  (View.ld_unit_apply_of _ _ _ _ _ (ix2 k ⟨512 + q.val, by omega⟩) (fun a => by match a with | ⟨0, _⟩ => exact (Nat.zero_add _).symm | ⟨1, _⟩ => rfl)).trans ((blk8 m c t k _).trans (V_v7b m c k q))
theorem ld_wgc (c : Dev nD) (t : Fin cfg0.N) (k : Fin 1024) (q : Fin 512) : View.ld (iblk m c 8 t) r0_12 (ix2 k q) = a7 m c (ix3 0 k ⟨4008 + q.val, by omega⟩) :=
  (View.ld_unit_apply_of _ _ _ _ _ (ix2 k ⟨1024 + q.val, by omega⟩) (fun a => by match a with | ⟨0, _⟩ => exact (Nat.zero_add _).symm | ⟨1, _⟩ => rfl)).trans ((blk8 m c t k _).trans (V_v7c m c k q))
theorem ld_wma (c : Dev nD) (t : Fin cfg0.N) (k : Fin 1024) (q : Fin 1024) : View.ld (iblk m c 9 t) r0_17 (ix2 k q) = a7 m c (ix3 0 k ⟨4520 + q.val, by omega⟩) :=
  (View.ld_unit_apply_of _ _ _ _ _ (ix2 k ⟨0 + q.val, by omega⟩) (fun a => by match a with | ⟨0, _⟩ => exact (Nat.zero_add _).symm | ⟨1, _⟩ => rfl)).trans ((blk9 m c t k _).trans ((V_v11 m c k _).trans (congrArg (a7 m c) (congrArg (ix3 0 k) (Fin.ext (by show 4520 + (0 + q.val) = 4520 + q.val; omega))))))
theorem ld_wmb (c : Dev nD) (t : Fin cfg0.N) (k : Fin 1024) (q : Fin 1024) : View.ld (iblk m c 9 t) r0_23 (ix2 k q) = a7 m c (ix3 0 k ⟨5544 + q.val, by omega⟩) :=
  (View.ld_unit_apply_of _ _ _ _ _ (ix2 k ⟨1024 + q.val, by omega⟩) (fun a => by match a with | ⟨0, _⟩ => exact (Nat.zero_add _).symm | ⟨1, _⟩ => rfl)).trans ((blk9 m c t k _).trans ((V_v11 m c k _).trans (congrArg (a7 m c) (congrArg (ix3 0 k) (Fin.ext (by show 4520 + (1024 + q.val) = 5544 + q.val; omega))))))
theorem ld_wmc (c : Dev nD) (t : Fin cfg0.N) (k : Fin 1024) (q : Fin 1024) : View.ld (iblk m c 9 t) r0_24 (ix2 k q) = a7 m c (ix3 0 k ⟨6568 + q.val, by omega⟩) :=
  (View.ld_unit_apply_of _ _ _ _ _ (ix2 k ⟨2048 + q.val, by omega⟩) (fun a => by match a with | ⟨0, _⟩ => exact (Nat.zero_add _).symm | ⟨1, _⟩ => rfl)).trans ((blk9 m c t k _).trans ((V_v11 m c k _).trans (congrArg (a7 m c) (congrArg (ix3 0 k) (Fin.ext (by show 4520 + (2048 + q.val) = 6568 + q.val; omega))))))
theorem ld_wpa (c : Dev nD) (t : Fin cfg0.N) (k : Fin 512) (q : Fin 1024) : View.ld (iblk m c 10 t) r0_22 (ix2 k q) = a8 m c (ix3 0 k q) :=
  (View.ld_unit_apply_of _ _ _ _ _ (ix2 k q) (fun a => by match a with | ⟨0, _⟩ => exact (Nat.zero_add _).symm | ⟨1, _⟩ => exact (Nat.zero_add _).symm)).trans ((blk10 m c t k q).trans (V_v16 m c k q))
theorem ld_wpb (c : Dev nD) (t : Fin cfg0.N) (k : Fin 512) (q : Fin 1024) : View.ld (iblk m c 11 t) r0_22 (ix2 k q) = a9 m c (ix3 0 k q) :=
  (View.ld_unit_apply_of _ _ _ _ _ (ix2 k q) (fun a => by match a with | ⟨0, _⟩ => exact (Nat.zero_add _).symm | ⟨1, _⟩ => exact (Nat.zero_add _).symm)).trans ((blk11 m c t k q).trans (V_v18 m c k q))
theorem ld_wpc (c : Dev nD) (t : Fin cfg0.N) (k : Fin 512) (q : Fin 1024) : View.ld (iblk m c 12 t) r0_22 (ix2 k q) = a10 m c (ix3 0 k q) :=
  (View.ld_unit_apply_of _ _ _ _ _ (ix2 k q) (fun a => by match a with | ⟨0, _⟩ => exact (Nat.zero_add _).symm | ⟨1, _⟩ => exact (Nat.zero_add _).symm)).trans ((blk12 m c t k q).trans (V_v20 m c k q))
theorem ld_wo (c : Dev nD) (t : Fin cfg0.N) (k : Fin 1024) (q : Fin 1024) : View.ld (iblk m c 13 t) r0_25 (ix2 k q) = a11 m c (ix3 0 k q) :=
  (View.ld_unit_apply_of _ _ _ _ _ (ix2 k q) (fun a => by match a with | ⟨0, _⟩ => exact (Nat.zero_add _).symm | ⟨1, _⟩ => exact (Nat.zero_add _).symm)).trans ((blk13 m c t k q).trans (V_v22 m c k q))
theorem ld_k0 (c : Dev nD) (t : Fin cfg0.N) (d : Fin 128) (j : Fin 256) : View.ld (iblk m c 3 t) r0_13 (ix3 0 d j) = a3 m c (ix3 (bat t) ⟨0 + d.val, by omega⟩ j) :=
  (View.ld_unit_apply_of _ _ _ _ _ (ix3 0 ⟨0 + d.val, by omega⟩ j) (fun a => by match a with | ⟨0, _⟩ => rfl | ⟨1, _⟩ => rfl | ⟨2, _⟩ => exact (Nat.zero_add _).symm)).trans (blk3 m c t _ j)
theorem ld_v0 (c : Dev nD) (t : Fin cfg0.N) (j : Fin 256) (d : Fin 128) : View.ld (iblk m c 4 t) r0_18 (ix3 0 j d) = a4 m c (ix3 (bat t) j ⟨0 + d.val, by omega⟩) :=
  (View.ld_unit_apply_of _ _ _ _ _ (ix3 0 j ⟨0 + d.val, by omega⟩) (fun a => by match a with | ⟨0, _⟩ => rfl | ⟨1, _⟩ => exact (Nat.zero_add _).symm | ⟨2, _⟩ => rfl)).trans (blk4 m c t j _)
theorem ld_k1 (c : Dev nD) (t : Fin cfg0.N) (d : Fin 128) (j : Fin 256) : View.ld (iblk m c 3 t) r0_14 (ix3 0 d j) = a3 m c (ix3 (bat t) ⟨128 + d.val, by omega⟩ j) :=
  (View.ld_unit_apply_of _ _ _ _ _ (ix3 0 ⟨128 + d.val, by omega⟩ j) (fun a => by match a with | ⟨0, _⟩ => rfl | ⟨1, _⟩ => rfl | ⟨2, _⟩ => exact (Nat.zero_add _).symm)).trans (blk3 m c t _ j)
theorem ld_v1 (c : Dev nD) (t : Fin cfg0.N) (j : Fin 256) (d : Fin 128) : View.ld (iblk m c 4 t) r0_19 (ix3 0 j d) = a4 m c (ix3 (bat t) j ⟨128 + d.val, by omega⟩) :=
  (View.ld_unit_apply_of _ _ _ _ _ (ix3 0 j ⟨128 + d.val, by omega⟩) (fun a => by match a with | ⟨0, _⟩ => rfl | ⟨1, _⟩ => exact (Nat.zero_add _).symm | ⟨2, _⟩ => rfl)).trans (blk4 m c t j _)
theorem ld_k2 (c : Dev nD) (t : Fin cfg0.N) (d : Fin 128) (j : Fin 256) : View.ld (iblk m c 3 t) r0_15 (ix3 0 d j) = a3 m c (ix3 (bat t) ⟨256 + d.val, by omega⟩ j) :=
  (View.ld_unit_apply_of _ _ _ _ _ (ix3 0 ⟨256 + d.val, by omega⟩ j) (fun a => by match a with | ⟨0, _⟩ => rfl | ⟨1, _⟩ => rfl | ⟨2, _⟩ => exact (Nat.zero_add _).symm)).trans (blk3 m c t _ j)
theorem ld_v2 (c : Dev nD) (t : Fin cfg0.N) (j : Fin 256) (d : Fin 128) : View.ld (iblk m c 4 t) r0_20 (ix3 0 j d) = a4 m c (ix3 (bat t) j ⟨256 + d.val, by omega⟩) :=
  (View.ld_unit_apply_of _ _ _ _ _ (ix3 0 j ⟨256 + d.val, by omega⟩) (fun a => by match a with | ⟨0, _⟩ => rfl | ⟨1, _⟩ => exact (Nat.zero_add _).symm | ⟨2, _⟩ => rfl)).trans (blk4 m c t j _)
theorem ld_k3 (c : Dev nD) (t : Fin cfg0.N) (d : Fin 128) (j : Fin 256) : View.ld (iblk m c 3 t) r0_16 (ix3 0 d j) = a3 m c (ix3 (bat t) ⟨384 + d.val, by omega⟩ j) :=
  (View.ld_unit_apply_of _ _ _ _ _ (ix3 0 ⟨384 + d.val, by omega⟩ j) (fun a => by match a with | ⟨0, _⟩ => rfl | ⟨1, _⟩ => rfl | ⟨2, _⟩ => exact (Nat.zero_add _).symm)).trans (blk3 m c t _ j)
theorem ld_v3 (c : Dev nD) (t : Fin cfg0.N) (j : Fin 256) (d : Fin 128) : View.ld (iblk m c 4 t) r0_21 (ix3 0 j d) = a4 m c (ix3 (bat t) j ⟨384 + d.val, by omega⟩) :=
  (View.ld_unit_apply_of _ _ _ _ _ (ix3 0 j ⟨384 + d.val, by omega⟩) (fun a => by match a with | ⟨0, _⟩ => rfl | ⟨1, _⟩ => exact (Nat.zero_add _).symm | ⟨2, _⟩ => rfl)).trans (blk4 m c t j _)
theorem ld_x0 (c : Dev nD) (t : Fin cfg0.N) (r : Fin 256) (k : Fin 1024) : View.ld (iblk m c 0 t) r0_0 (ix2 r k) = a0 m c (ix3 (bat t) (pos t (0 + r.val) (by omega)) k) :=
  (View.ld_unit_apply_of _ _ _ _ _ (ix2 ⟨0 + r.val, by omega⟩ k) (fun a => by match a with | ⟨0, _⟩ => rfl | ⟨1, _⟩ => exact (Nat.zero_add _).symm)).trans (blk0 m c t _ k)
theorem ld_oa0 (c : Dev nD) (t : Fin cfg0.N) (r : Fin 256) (k : Fin 512) : View.ld (iblk m c 1 t) r0_7 (ix3 0 r k) = a1 m c (ix3 (bat t) (pos t (0 + r.val) (by omega)) k) :=
  (View.ld_unit_apply_of _ _ _ _ _ (ix3 0 ⟨0 + r.val, by omega⟩ k) (fun a => by match a with | ⟨0, _⟩ => rfl | ⟨1, _⟩ => rfl | ⟨2, _⟩ => exact (Nat.zero_add _).symm)).trans (blk1 m c t _ k)
theorem ld_ob0 (c : Dev nD) (t : Fin cfg0.N) (r : Fin 256) (k : Fin 512) : View.ld (iblk m c 2 t) r0_7 (ix3 0 r k) = a2 m c (ix3 (bat t) (pos t (0 + r.val) (by omega)) k) :=
  (View.ld_unit_apply_of _ _ _ _ _ (ix3 0 ⟨0 + r.val, by omega⟩ k) (fun a => by match a with | ⟨0, _⟩ => rfl | ⟨1, _⟩ => rfl | ⟨2, _⟩ => exact (Nat.zero_add _).symm)).trans (blk2 m c t _ k)
theorem ld_x256 (c : Dev nD) (t : Fin cfg0.N) (r : Fin 256) (k : Fin 1024) : View.ld (iblk m c 0 t) r0_2 (ix2 r k) = a0 m c (ix3 (bat t) (pos t (256 + r.val) (by omega)) k) :=
  (View.ld_unit_apply_of _ _ _ _ _ (ix2 ⟨256 + r.val, by omega⟩ k) (fun a => by match a with | ⟨0, _⟩ => rfl | ⟨1, _⟩ => exact (Nat.zero_add _).symm)).trans (blk0 m c t _ k)
theorem ld_oa256 (c : Dev nD) (t : Fin cfg0.N) (r : Fin 256) (k : Fin 512) : View.ld (iblk m c 1 t) r0_8 (ix3 0 r k) = a1 m c (ix3 (bat t) (pos t (256 + r.val) (by omega)) k) :=
  (View.ld_unit_apply_of _ _ _ _ _ (ix3 0 ⟨256 + r.val, by omega⟩ k) (fun a => by match a with | ⟨0, _⟩ => rfl | ⟨1, _⟩ => rfl | ⟨2, _⟩ => exact (Nat.zero_add _).symm)).trans (blk1 m c t _ k)
theorem ld_ob256 (c : Dev nD) (t : Fin cfg0.N) (r : Fin 256) (k : Fin 512) : View.ld (iblk m c 2 t) r0_8 (ix3 0 r k) = a2 m c (ix3 (bat t) (pos t (256 + r.val) (by omega)) k) :=
  (View.ld_unit_apply_of _ _ _ _ _ (ix3 0 ⟨256 + r.val, by omega⟩ k) (fun a => by match a with | ⟨0, _⟩ => rfl | ⟨1, _⟩ => rfl | ⟨2, _⟩ => exact (Nat.zero_add _).symm)).trans (blk2 m c t _ k)
theorem ld_x512 (c : Dev nD) (t : Fin cfg0.N) (r : Fin 256) (k : Fin 1024) : View.ld (iblk m c 0 t) r0_3 (ix2 r k) = a0 m c (ix3 (bat t) (pos t (512 + r.val) (by omega)) k) :=
  (View.ld_unit_apply_of _ _ _ _ _ (ix2 ⟨512 + r.val, by omega⟩ k) (fun a => by match a with | ⟨0, _⟩ => rfl | ⟨1, _⟩ => exact (Nat.zero_add _).symm)).trans (blk0 m c t _ k)
theorem ld_oa512 (c : Dev nD) (t : Fin cfg0.N) (r : Fin 256) (k : Fin 512) : View.ld (iblk m c 1 t) r0_9 (ix3 0 r k) = a1 m c (ix3 (bat t) (pos t (512 + r.val) (by omega)) k) :=
  (View.ld_unit_apply_of _ _ _ _ _ (ix3 0 ⟨512 + r.val, by omega⟩ k) (fun a => by match a with | ⟨0, _⟩ => rfl | ⟨1, _⟩ => rfl | ⟨2, _⟩ => exact (Nat.zero_add _).symm)).trans (blk1 m c t _ k)
theorem ld_ob512 (c : Dev nD) (t : Fin cfg0.N) (r : Fin 256) (k : Fin 512) : View.ld (iblk m c 2 t) r0_9 (ix3 0 r k) = a2 m c (ix3 (bat t) (pos t (512 + r.val) (by omega)) k) :=
  (View.ld_unit_apply_of _ _ _ _ _ (ix3 0 ⟨512 + r.val, by omega⟩ k) (fun a => by match a with | ⟨0, _⟩ => rfl | ⟨1, _⟩ => rfl | ⟨2, _⟩ => exact (Nat.zero_add _).symm)).trans (blk2 m c t _ k)
theorem ld_x768 (c : Dev nD) (t : Fin cfg0.N) (r : Fin 256) (k : Fin 1024) : View.ld (iblk m c 0 t) r0_4 (ix2 r k) = a0 m c (ix3 (bat t) (pos t (768 + r.val) (by omega)) k) :=
  (View.ld_unit_apply_of _ _ _ _ _ (ix2 ⟨768 + r.val, by omega⟩ k) (fun a => by match a with | ⟨0, _⟩ => rfl | ⟨1, _⟩ => exact (Nat.zero_add _).symm)).trans (blk0 m c t _ k)
theorem ld_oa768 (c : Dev nD) (t : Fin cfg0.N) (r : Fin 256) (k : Fin 512) : View.ld (iblk m c 1 t) r0_10 (ix3 0 r k) = a1 m c (ix3 (bat t) (pos t (768 + r.val) (by omega)) k) :=
  (View.ld_unit_apply_of _ _ _ _ _ (ix3 0 ⟨768 + r.val, by omega⟩ k) (fun a => by match a with | ⟨0, _⟩ => rfl | ⟨1, _⟩ => rfl | ⟨2, _⟩ => exact (Nat.zero_add _).symm)).trans (blk1 m c t _ k)
theorem ld_ob768 (c : Dev nD) (t : Fin cfg0.N) (r : Fin 256) (k : Fin 512) : View.ld (iblk m c 2 t) r0_10 (ix3 0 r k) = a2 m c (ix3 (bat t) (pos t (768 + r.val) (by omega)) k) :=
  (View.ld_unit_apply_of _ _ _ _ _ (ix3 0 ⟨768 + r.val, by omega⟩ k) (fun a => by match a with | ⟨0, _⟩ => rfl | ⟨1, _⟩ => rfl | ⟨2, _⟩ => exact (Nat.zero_add _).symm)).trans (blk2 m c t _ k)

/-- A group's result is the reference's rows of its positions. -/
theorem group_at (c : Dev nD) (t : Fin cfg0.N) (o : Nat) (ho : o + 256 ≤ 1024) (x : FVec Ideal S256x1024 .f32) (oa ob : FVec Ideal S1x256x512 .bf16)
    (hx : ∀ (r : Fin 256) k, x (ix2 r k) = a0 m c (ix3 (bat t) (pos t (o + r.val) (by omega)) k))
    (hoa : ∀ (r : Fin 256) k, oa (ix3 0 r k) = a1 m c (ix3 (bat t) (pos t (o + r.val) (by omega)) k))
    (hob : ∀ (r : Fin 256) k, ob (ix3 0 r k) = a2 m c (ix3 (bat t) (pos t (o + r.val) (by omega)) k)) (r : Fin 256) (q : Fin 1024) :
    groupAt (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) x oa ob (ix2 r q) = tailAt (a0 m c) (a1 m c) (a2 m c) (a3 m c) (a4 m c) (a5 m c) (a6 m c) (a7 m c) (a8 m c) (a9 m c) (a10 m c) (a11 m c) (a12 m c) (a13 m c) (bat t) (pos t (o + r.val) (by omega)) q := by
  refine (group_apply _ _ _ _ _ _ _ _ _ _ _ _ _ _ _ _ _ _ _ _ _ _ _ _ _ _ (fun d j => a3 m c (ix3 (bat t) d j)) (fun j d => a4 m c (ix3 (bat t) j d))
    (ld_k0 m c t) (ld_k1 m c t) (ld_k2 m c t) (ld_k3 m c t) (ld_v0 m c t) (ld_v1 m c t) (ld_v2 m c t) (ld_v3 m c t) r q).trans ?_
  unfold tailAt
  simp only [hx, hoa, hob, ld_g, ld_b, ld_lg, ld_lb, ld_wcq, ld_wga, ld_wgb, ld_wgc, ld_wma, ld_wmb, ld_wmc, ld_wpa, ld_wpb, ld_wpc, ld_wo]

/-- The result's array after the run. -/
theorem final16 (c : Dev nD) : (dats m 0 c).arrAt 16 cfg0.N = tailFn (a0 m c) (a1 m c) (a2 m c) (a3 m c) (a4 m c) (a5 m c) (a6 m c) (a7 m c) (a8 m c) (a9 m c) (a10 m c) (a11 m c) (a12 m c) (a13 m c) := by
  refine (dats m 0 c).arrAt_eq_of_covers 16 _ (by decide +kernel) fun t hf y => ?_
  blk_simp
  rw [after0_16, out_eq]
  have ht : t.val < 32 := lt_of_lt_of_eq t.isLt N_0
  have hy0 : (y 0).val < 1024 := (y 0).isLt
  have hy1 : (y 1).val < 1024 := (y 1).isLt
  have key (o : Nat) (ho : o + 256 ≤ 1024) (r : Fin 256) (q : Fin 1024) (h0 : (y 0).val = o + r.val) (h1 : (y 1).val = q.val) :
      tailAt (a0 m c) (a1 m c) (a2 m c) (a3 m c) (a4 m c) (a5 m c) (a6 m c) (a7 m c) (a8 m c) (a9 m c) (a10 m c) (a11 m c) (a12 m c) (a13 m c) (bat t) (pos t (o + r.val) (by omega)) q = tailFn (a0 m c) (a1 m c) (a2 m c) (a3 m c) (a4 m c) (a5 m c) (a6 m c) (a7 m c) (a8 m c) (a9 m c) (a10 m c) (a11 m c) (a12 m c) (a13 m c) ((win0_16.blk t).view.emb y) := by
    have e0 : (((win0_16.blk t).view.emb y) 0).val = t.val * 1024 + (y 0).val := by blk_simp [idx16] <;> simp
    have e1 : (((win0_16.blk t).view.emb y) 1).val = (y 1).val := by blk_simp [idx16] <;> simp
    unfold tailFn
    have f0 : bat t = ⟨(((win0_16.blk t).view.emb y) 0).val / 2048, by rw [e0]; omega⟩ := Fin.ext (by show t.val / 2 = _ / 2048; rw [e0]; omega)
    have f1 : pos t (o + r.val) (by omega) = ⟨(((win0_16.blk t).view.emb y) 0).val % 2048, by omega⟩ := Fin.ext (by show t.val % 2 * 1024 + (o + r.val) = _ % 2048; rw [e0]; omega)
    have f2 : q = ⟨(((win0_16.blk t).view.emb y) 1).val, by rw [e1]; exact hy1⟩ := Fin.ext (by show q.val = _; rw [e1]; omega)
    rw [f0, f1, f2]
  have piece (o : Nat) (ho : o + 256 ≤ 1024) (x : FVec Ideal S256x1024 .f32) (oa ob : FVec Ideal S1x256x512 .bf16)
      (hx : ∀ (r : Fin 256) k, x (ix2 r k) = a0 m c (ix3 (bat t) (pos t (o + r.val) (by omega)) k))
      (hoa : ∀ (r : Fin 256) k, oa (ix3 0 r k) = a1 m c (ix3 (bat t) (pos t (o + r.val) (by omega)) k))
      (hob : ∀ (r : Fin 256) k, ob (ix3 0 r k) = a2 m c (ix3 (bat t) (pos t (o + r.val) (by omega)) k))
      (z : S256x1024.Idx) (h0 : (y 0).val = o + (z 0).val) (h1 : (y 1).val = (z 1).val) :
      groupAt (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) x oa ob z = tailFn (a0 m c) (a1 m c) (a2 m c) (a3 m c) (a4 m c) (a5 m c) (a6 m c) (a7 m c) (a8 m c) (a9 m c) (a10 m c) (a11 m c) (a12 m c) (a13 m c) ((win0_16.blk t).view.emb y) := by
    have ez : z = ix2 ⟨(z 0).val, (z 0).isLt⟩ ⟨(z 1).val, (z 1).isLt⟩ := funext fun a => by match a with | ⟨0, _⟩ => rfl | ⟨1, _⟩ => rfl
    rw [ez]
    exact (group_at m c t o ho x oa ob hx hoa hob _ _).trans (key o ho _ _ h0 h1)
  canon_tiles z h using cover0_16 ..
  · exact piece 768 (by omega) _ _ _ (ld_x768 m c t) (ld_oa768 m c t) (ld_ob768 m c t) z (by omega) (by omega)
  · exact piece 512 (by omega) _ _ _ (ld_x512 m c t) (ld_oa512 m c t) (ld_ob512 m c t) z (by omega) (by omega)
  · exact piece 256 (by omega) _ _ _ (ld_x256 m c t) (ld_oa256 m c t) (ld_ob256 m c t) z (by omega) (by omega)
  · exact piece 0 (by omega) _ _ _ (ld_x0 m c t) (ld_oa0 m c t) (ld_ob0 m c t) z (by omega) (by omega)

end Cert.KernelIdeal.RefValue

end
-- ==== Proof.TailRef.lean ====
/- The reference of the last call, read at a batch, a position and a feature: the tail's row function. (Hand-written, untrusted.) -/
module

public import proofs.«01_k».proof.Proof.TailSpec
public import proofs.«01_k».proof.Proof.Gen.ReferenceIdeal.Read
public import Idealize.ShloMosaic.Lib.KernelVsHost

@[expose] public section

set_option maxRecDepth 16384

noncomputable section

namespace Cert.ReferenceIdeal.RefValue

open Idealize.ShloMosaic
open Idealize.ShloMosaic.TcCoe Idealize.SL.Sem Idealize.ShloMosaic.ValueIdx
open Cert.ReferenceIdeal Cert.ReferenceIdeal.Gen Cert.ReferenceIdeal.Read Cert.Rows

section Indices
variable (b : Fin 16) (p : Fin 2048) (c k : Fin 1024) (f : Fin 512) (h : Fin 4) (d : Fin 128) (j : Fin 256) (z : Fin 1)

theorem i0 : idx_main_v0 (ix2 b p) k = ix3 b p k := funext fun a => Fin.ext (by match a with | ⟨0, _⟩ => rfl | ⟨1, _⟩ => rfl | ⟨2, _⟩ => rfl)
theorem i1 : idx_main_v1 (ix3 b p z) = ix2 b p := funext fun a => Fin.ext (by match a with | ⟨0, _⟩ => rfl | ⟨1, _⟩ => rfl)
theorem i4 : idx_main_v4 (ix3 b p c) = ix3 b p 0 := funext fun a => Fin.ext (by match a with | ⟨0, _⟩ => rfl | ⟨1, _⟩ => rfl | ⟨2, _⟩ => rfl)
theorem i7 : idx_main_v7 (ix2 b p) k = ix3 b p k := funext fun a => Fin.ext (by match a with | ⟨0, _⟩ => rfl | ⟨1, _⟩ => rfl | ⟨2, _⟩ => rfl)
theorem i8 : idx_main_v8 (ix3 b p z) = ix2 b p := funext fun a => Fin.ext (by match a with | ⟨0, _⟩ => rfl | ⟨1, _⟩ => rfl)
theorem i11 : idx_main_v11 (ix3 b p c) = ix3 b p 0 := funext fun a => Fin.ext (by match a with | ⟨0, _⟩ => rfl | ⟨1, _⟩ => rfl | ⟨2, _⟩ => rfl)
theorem i16 : idx_main_v16 (ix3 b p c) = ix3 b p 0 := funext fun a => Fin.ext (by match a with | ⟨0, _⟩ => rfl | ⟨1, _⟩ => rfl | ⟨2, _⟩ => rfl)
theorem i18 : idx_main_v18 (ix3 0 0 c) = ix1 c := funext fun a => Fin.ext (by match a with | ⟨0, _⟩ => rfl)
theorem i19 : idx_main_v19 (ix3 b p c) = ix3 0 0 c := funext fun a => Fin.ext (by match a with | ⟨0, _⟩ => rfl | ⟨1, _⟩ => rfl | ⟨2, _⟩ => rfl)
theorem i21 : idx_main_v21 (ix3 0 0 c) = ix1 c := funext fun a => Fin.ext (by match a with | ⟨0, _⟩ => rfl)
theorem i22 : idx_main_v22 (ix3 b p c) = ix3 0 0 c := funext fun a => Fin.ext (by match a with | ⟨0, _⟩ => rfl | ⟨1, _⟩ => rfl | ⟨2, _⟩ => rfl)
theorem i102 : idx_main_v102 (ix2 b p) k = ix3 b p k := funext fun a => Fin.ext (by match a with | ⟨0, _⟩ => rfl | ⟨1, _⟩ => rfl | ⟨2, _⟩ => rfl)
theorem i103 : idx_main_v103 (ix3 b p z) = ix2 b p := funext fun a => Fin.ext (by match a with | ⟨0, _⟩ => rfl | ⟨1, _⟩ => rfl)
theorem i106 : idx_main_v106 (ix3 b p c) = ix3 b p 0 := funext fun a => Fin.ext (by match a with | ⟨0, _⟩ => rfl | ⟨1, _⟩ => rfl | ⟨2, _⟩ => rfl)
theorem i109 : idx_main_v109 (ix2 b p) k = ix3 b p k := funext fun a => Fin.ext (by match a with | ⟨0, _⟩ => rfl | ⟨1, _⟩ => rfl | ⟨2, _⟩ => rfl)
theorem i110 : idx_main_v110 (ix3 b p z) = ix2 b p := funext fun a => Fin.ext (by match a with | ⟨0, _⟩ => rfl | ⟨1, _⟩ => rfl)
theorem i113 : idx_main_v113 (ix3 b p c) = ix3 b p 0 := funext fun a => Fin.ext (by match a with | ⟨0, _⟩ => rfl | ⟨1, _⟩ => rfl | ⟨2, _⟩ => rfl)
theorem i118 : idx_main_v118 (ix3 b p c) = ix3 b p 0 := funext fun a => Fin.ext (by match a with | ⟨0, _⟩ => rfl | ⟨1, _⟩ => rfl | ⟨2, _⟩ => rfl)
theorem i120 : idx_main_v120 (ix3 0 0 c) = ix1 c := funext fun a => Fin.ext (by match a with | ⟨0, _⟩ => rfl)
theorem i121 : idx_main_v121 (ix3 b p c) = ix3 0 0 c := funext fun a => Fin.ext (by match a with | ⟨0, _⟩ => rfl | ⟨1, _⟩ => rfl | ⟨2, _⟩ => rfl)
theorem i123 : idx_main_v123 (ix3 0 0 c) = ix1 c := funext fun a => Fin.ext (by match a with | ⟨0, _⟩ => rfl)
theorem i124 : idx_main_v124 (ix3 b p c) = ix3 0 0 c := funext fun a => Fin.ext (by match a with | ⟨0, _⟩ => rfl | ⟨1, _⟩ => rfl | ⟨2, _⟩ => rfl)
theorem i100 : idx_main_v100 (ix1 c) = ix2 0 c := funext fun a => Fin.ext (by match a with | ⟨0, _⟩ => rfl | ⟨1, _⟩ => show c.val % 1024 = c.val; omega)
theorem i101 : idx_main_v101 (ix1 c) = ix2 0 c := funext fun a => Fin.ext (by match a with | ⟨0, _⟩ => rfl | ⟨1, _⟩ => show c.val % 1024 = c.val; omega)
theorem i24 (q : Fin 7592) : idx_main_v24 (ix2 k q) = ix3 0 k q := funext fun a => Fin.ext (by
  match a with
  | ⟨0, _⟩ => rfl
  | ⟨1, _⟩ => show (k.val * 7592 + q.val) / 7592 % 1024 = k.val; omega
  | ⟨2, _⟩ => show (k.val * 7592 + q.val) % 7592 = q.val; omega)
theorem il25 (q : Fin 7592) : lidx_main_v25 (ix3 b p q) k = ix3 b p k := funext fun a => Fin.ext (by match a with | ⟨0, _⟩ => rfl | ⟨1, _⟩ => rfl | ⟨2, _⟩ => rfl)
theorem ir25 (q : Fin 7592) : ridx_main_v25 (ix3 b p q) k = ix2 k q := funext fun a => Fin.ext (by match a with | ⟨0, _⟩ => rfl | ⟨1, _⟩ => rfl)
theorem i29 : idx_main_v29 (ix3 b p f) = ix3 b p ⟨640 + f.val, by omega⟩ := funext fun a => Fin.ext (by match a with | ⟨0, _⟩ => rfl | ⟨1, _⟩ => rfl | ⟨2, _⟩ => rfl)
theorem i36 : idx_main_v36 (ix3 b p f) = ix3 b p ⟨2984 + f.val, by omega⟩ := funext fun a => Fin.ext (by match a with | ⟨0, _⟩ => rfl | ⟨1, _⟩ => rfl | ⟨2, _⟩ => rfl)
theorem i37 : idx_main_v37 (ix3 b p f) = ix3 b p ⟨3496 + f.val, by omega⟩ := funext fun a => Fin.ext (by match a with | ⟨0, _⟩ => rfl | ⟨1, _⟩ => rfl | ⟨2, _⟩ => rfl)
theorem i38 : idx_main_v38 (ix3 b p f) = ix3 b p ⟨4008 + f.val, by omega⟩ := funext fun a => Fin.ext (by match a with | ⟨0, _⟩ => rfl | ⟨1, _⟩ => rfl | ⟨2, _⟩ => rfl)
theorem i39 (q : Fin 3072) : idx_main_v39 (ix3 b p q) = ix3 b p ⟨4520 + q.val, by omega⟩ := funext fun a => Fin.ext (by match a with | ⟨0, _⟩ => rfl | ⟨1, _⟩ => rfl | ⟨2, _⟩ => rfl)
theorem i43 : idx_main_v43 (ix2 f c) = ix3 0 f c := funext fun a => Fin.ext (by
  match a with
  | ⟨0, _⟩ => rfl
  | ⟨1, _⟩ => show (f.val * 1024 + c.val) / 1024 % 512 = f.val; omega
  | ⟨2, _⟩ => show (f.val * 1024 + c.val) % 1024 = c.val; omega)
theorem il44 : lidx_main_v44 (ix3 b p c) f = ix3 b p f := funext fun a => Fin.ext (by match a with | ⟨0, _⟩ => rfl | ⟨1, _⟩ => rfl | ⟨2, _⟩ => rfl)
theorem ir44 : ridx_main_v44 (ix3 b p c) f = ix2 f c := funext fun a => Fin.ext (by match a with | ⟨0, _⟩ => rfl | ⟨1, _⟩ => rfl)
theorem i48 : idx_main_v48 (ix2 f c) = ix3 0 f c := funext fun a => Fin.ext (by
  match a with
  | ⟨0, _⟩ => rfl
  | ⟨1, _⟩ => show (f.val * 1024 + c.val) / 1024 % 512 = f.val; omega
  | ⟨2, _⟩ => show (f.val * 1024 + c.val) % 1024 = c.val; omega)
theorem il49 : lidx_main_v49 (ix3 b p c) f = ix3 b p f := funext fun a => Fin.ext (by match a with | ⟨0, _⟩ => rfl | ⟨1, _⟩ => rfl | ⟨2, _⟩ => rfl)
theorem ir49 : ridx_main_v49 (ix3 b p c) f = ix2 f c := funext fun a => Fin.ext (by match a with | ⟨0, _⟩ => rfl | ⟨1, _⟩ => rfl)
theorem i75 : idx_main_v75 (ix2 f c) = ix3 0 f c := funext fun a => Fin.ext (by
  match a with
  | ⟨0, _⟩ => rfl
  | ⟨1, _⟩ => show (f.val * 1024 + c.val) / 1024 % 512 = f.val; omega
  | ⟨2, _⟩ => show (f.val * 1024 + c.val) % 1024 = c.val; omega)
theorem il76 : lidx_main_v76 (ix3 b p c) f = ix3 b p f := funext fun a => Fin.ext (by match a with | ⟨0, _⟩ => rfl | ⟨1, _⟩ => rfl | ⟨2, _⟩ => rfl)
theorem ir76 : ridx_main_v76 (ix3 b p c) f = ix2 f c := funext fun a => Fin.ext (by match a with | ⟨0, _⟩ => rfl | ⟨1, _⟩ => rfl)
theorem i97 : idx_main_v97 (ix2 k c) = ix3 0 k c := funext fun a => Fin.ext (by
  match a with
  | ⟨0, _⟩ => rfl
  | ⟨1, _⟩ => show (k.val * 1024 + c.val) / 1024 % 1024 = k.val; omega
  | ⟨2, _⟩ => show (k.val * 1024 + c.val) % 1024 = c.val; omega)
theorem il98 : lidx_main_v98 (ix3 b p c) k = ix3 b p k := funext fun a => Fin.ext (by match a with | ⟨0, _⟩ => rfl | ⟨1, _⟩ => rfl | ⟨2, _⟩ => rfl)
theorem ir98 : ridx_main_v98 (ix3 b p c) k = ix2 k c := funext fun a => Fin.ext (by match a with | ⟨0, _⟩ => rfl | ⟨1, _⟩ => rfl)
theorem i51 : idx_main_v51 (ix3 b j f) = ix3 b f j := funext fun a => Fin.ext (by match a with | ⟨0, _⟩ => rfl | ⟨1, _⟩ => rfl | ⟨2, _⟩ => rfl)
theorem i52 : idx_main_v52 (ix4 b j h d) = ix3 b j ⟨h.val * 128 + d.val, by omega⟩ := funext fun a => Fin.ext (by
  match a with
  | ⟨0, _⟩ => show (((b.val * 256 + j.val) * 4 + h.val) * 128 + d.val) / 131072 = b.val; omega
  | ⟨1, _⟩ => show (((b.val * 256 + j.val) * 4 + h.val) * 128 + d.val) / 512 % 256 = j.val; omega
  | ⟨2, _⟩ => show (((b.val * 256 + j.val) * 4 + h.val) * 128 + d.val) % 512 = h.val * 128 + d.val; omega)
theorem i54 : idx_main_v54 (ix4 b j h d) = ix3 b j ⟨h.val * 128 + d.val, by omega⟩ := funext fun a => Fin.ext (by
  match a with
  | ⟨0, _⟩ => show (((b.val * 256 + j.val) * 4 + h.val) * 128 + d.val) / 131072 = b.val; omega
  | ⟨1, _⟩ => show (((b.val * 256 + j.val) * 4 + h.val) * 128 + d.val) / 512 % 256 = j.val; omega
  | ⟨2, _⟩ => show (((b.val * 256 + j.val) * 4 + h.val) * 128 + d.val) % 512 = h.val * 128 + d.val; omega)
theorem i55 : idx_main_v55 (ix4 b p h d) = ix3 b p ⟨h.val * 128 + d.val, by omega⟩ := funext fun a => Fin.ext (by
  match a with
  | ⟨0, _⟩ => show (((b.val * 2048 + p.val) * 4 + h.val) * 128 + d.val) / 1048576 = b.val; omega
  | ⟨1, _⟩ => show (((b.val * 2048 + p.val) * 4 + h.val) * 128 + d.val) / 512 % 2048 = p.val; omega
  | ⟨2, _⟩ => show (((b.val * 2048 + p.val) * 4 + h.val) * 128 + d.val) % 512 = h.val * 128 + d.val; omega)
theorem il56 : lidx_main_v56 (ix4 b h p j) d = ix4 b p h d := funext fun a => Fin.ext (by match a with | ⟨0, _⟩ => rfl | ⟨1, _⟩ => rfl | ⟨2, _⟩ => rfl | ⟨3, _⟩ => rfl)
theorem ir56 : ridx_main_v56 (ix4 b h p j) d = ix4 b j h d := funext fun a => Fin.ext (by match a with | ⟨0, _⟩ => rfl | ⟨1, _⟩ => rfl | ⟨2, _⟩ => rfl | ⟨3, _⟩ => rfl)
theorem i62 : idx_main_v62 (ix4 b h p z) = ix3 b h p := funext fun a => Fin.ext (by match a with | ⟨0, _⟩ => rfl | ⟨1, _⟩ => rfl | ⟨2, _⟩ => rfl)
theorem i63 : idx_main_v63 (ix4 b h p j) = ix4 b h p 0 := funext fun a => Fin.ext (by match a with | ⟨0, _⟩ => rfl | ⟨1, _⟩ => rfl | ⟨2, _⟩ => rfl | ⟨3, _⟩ => rfl)
theorem i66 : idx_main_v66 (ix3 b h p) j = ix4 b h p j := funext fun a => Fin.ext (by match a with | ⟨0, _⟩ => rfl | ⟨1, _⟩ => rfl | ⟨2, _⟩ => rfl | ⟨3, _⟩ => rfl)
theorem i67 : idx_main_v67 (ix4 b h p z) = ix3 b h p := funext fun a => Fin.ext (by match a with | ⟨0, _⟩ => rfl | ⟨1, _⟩ => rfl | ⟨2, _⟩ => rfl)
theorem i68 : idx_main_v68 (ix4 b h p j) = ix4 b h p 0 := funext fun a => Fin.ext (by match a with | ⟨0, _⟩ => rfl | ⟨1, _⟩ => rfl | ⟨2, _⟩ => rfl | ⟨3, _⟩ => rfl)
theorem il70 : lidx_main_v70 (ix4 b h d p) j = ix4 b j h d := funext fun a => Fin.ext (by match a with | ⟨0, _⟩ => rfl | ⟨1, _⟩ => rfl | ⟨2, _⟩ => rfl | ⟨3, _⟩ => rfl)
theorem ir70 : ridx_main_v70 (ix4 b h d p) j = ix4 b h p j := funext fun a => Fin.ext (by match a with | ⟨0, _⟩ => rfl | ⟨1, _⟩ => rfl | ⟨2, _⟩ => rfl | ⟨3, _⟩ => rfl)
theorem i71 : idx_main_v71 (ix4 b p h d) = ix4 b h d p := funext fun a => Fin.ext (by match a with | ⟨0, _⟩ => rfl | ⟨1, _⟩ => rfl | ⟨2, _⟩ => rfl | ⟨3, _⟩ => rfl)
theorem i72 : idx_main_v72 (ix3 b p f) = ix4 b p ⟨f.val / 128, by omega⟩ ⟨f.val % 128, by omega⟩ := funext fun a => Fin.ext (by
  match a with
  | ⟨0, _⟩ => show ((b.val * 2048 + p.val) * 512 + f.val) / 1048576 = b.val; omega
  | ⟨1, _⟩ => show ((b.val * 2048 + p.val) * 512 + f.val) / 512 % 2048 = p.val; omega
  | ⟨2, _⟩ => show ((b.val * 2048 + p.val) * 512 + f.val) / 128 % 4 = f.val / 128; omega
  | ⟨3, _⟩ => show ((b.val * 2048 + p.val) * 512 + f.val) % 128 = f.val % 128; omega)
theorem i77 (n : Fin 3) : idx_main_v77 (ix4 b p n c) = ix3 b p ⟨n.val * 1024 + c.val, by omega⟩ := funext fun a => Fin.ext (by
  match a with
  | ⟨0, _⟩ => show (((b.val * 2048 + p.val) * 3 + n.val) * 1024 + c.val) / 6291456 = b.val; omega
  | ⟨1, _⟩ => show (((b.val * 2048 + p.val) * 3 + n.val) * 1024 + c.val) / 3072 % 2048 = p.val; omega
  | ⟨2, _⟩ => show (((b.val * 2048 + p.val) * 3 + n.val) * 1024 + c.val) % 3072 = n.val * 1024 + c.val; omega)
theorem i84 : idx_main_v84 (ix4 b p z c) = ix4 b p 0 c := funext fun a => Fin.ext (by match a with | ⟨0, _⟩ => rfl | ⟨1, _⟩ => rfl | ⟨2, _⟩ => show z.val = 0; omega | ⟨3, _⟩ => rfl)
theorem i85 : idx_main_v85 (ix3 b p c) = ix4 b p 0 c := funext fun a => Fin.ext (by
  match a with
  | ⟨0, _⟩ => show ((b.val * 2048 + p.val) * 1024 + c.val) / 2097152 = b.val; omega
  | ⟨1, _⟩ => show ((b.val * 2048 + p.val) * 1024 + c.val) / 1024 % 2048 = p.val; omega
  | ⟨2, _⟩ => rfl
  | ⟨3, _⟩ => show ((b.val * 2048 + p.val) * 1024 + c.val) % 1024 = c.val; omega)
theorem i87 : idx_main_v87 (ix4 b p z c) = ix4 b p 1 c := funext fun a => Fin.ext (by match a with | ⟨0, _⟩ => rfl | ⟨1, _⟩ => rfl | ⟨2, _⟩ => show 1 + z.val = 1; omega | ⟨3, _⟩ => rfl)
theorem i88 : idx_main_v88 (ix3 b p c) = ix4 b p 0 c := funext fun a => Fin.ext (by
  match a with
  | ⟨0, _⟩ => show ((b.val * 2048 + p.val) * 1024 + c.val) / 2097152 = b.val; omega
  | ⟨1, _⟩ => show ((b.val * 2048 + p.val) * 1024 + c.val) / 1024 % 2048 = p.val; omega
  | ⟨2, _⟩ => rfl
  | ⟨3, _⟩ => show ((b.val * 2048 + p.val) * 1024 + c.val) % 1024 = c.val; omega)
theorem i91 : idx_main_v91 (ix4 b p z c) = ix4 b p 2 c := funext fun a => Fin.ext (by match a with | ⟨0, _⟩ => rfl | ⟨1, _⟩ => rfl | ⟨2, _⟩ => show 2 + z.val = 2; omega | ⟨3, _⟩ => rfl)
theorem i92 : idx_main_v92 (ix3 b p c) = ix4 b p 0 c := funext fun a => Fin.ext (by
  match a with
  | ⟨0, _⟩ => show ((b.val * 2048 + p.val) * 1024 + c.val) / 2097152 = b.val; omega
  | ⟨1, _⟩ => show ((b.val * 2048 + p.val) * 1024 + c.val) / 1024 % 2048 = p.val; omega
  | ⟨2, _⟩ => rfl
  | ⟨3, _⟩ => show ((b.val * 2048 + p.val) * 1024 + c.val) % 1024 = c.val; omega)
theorem i126 (r : Fin 32768) : idx_main_v126 (ix2 r c) = ix3 ⟨r.val / 2048, by omega⟩ ⟨r.val % 2048, by omega⟩ c := funext fun a => Fin.ext (by
  match a with
  | ⟨0, _⟩ => show (r.val * 1024 + c.val) / 2097152 = r.val / 2048; omega
  | ⟨1, _⟩ => show (r.val * 1024 + c.val) / 1024 % 2048 = r.val % 2048; omega
  | ⟨2, _⟩ => show (r.val * 1024 + c.val) % 1024 = c.val; omega)

end Indices

/-- The host's maximum over the last of four axes. -/
theorem hostMax_apply {A B C D : Nat} (x : FVec Ideal ⟨4, ![A, B, C, D]⟩ .f32) (h : Shape.ReducesTo ⟨4, ![A, B, C, D]⟩ [3] ⟨3, ![A, B, C]⟩) (hu : 0 < Shape.numel ⟨0, ![]⟩)
    (h' : Shape.Reduces ⟨4, ![A, B, C, D]⟩ [3] ⟨3, ![A, B, C]⟩) (a : Fin A) (b : Fin B) (c : Fin C) :
    Host.reduce FloatOps.maximumf x (constant ⟨0, ![]⟩ .f32 0xFF800000#32) h hu (ix3 a b c) = rowMax fun k : Fin D => x (ix4 a b c k) := by
  rw [hostReduce_maximumf_eq_multiReduction _ _ _ _ h' (by decide) (by decide), Ideal.multiReduction_maximumf_single]
  show Finset.fold max (Ideal.ofBits .f32 0xFF800000#32) _ _ = _
  rw [ofBits_neg_inf]
  refine congrArg (fun f => Finset.fold max ⊥ f Finset.univ) (funext fun k => ?_)
  exact congrArg x (funext fun a => Fin.ext (by match a with | ⟨0, _⟩ => rfl | ⟨1, _⟩ => rfl | ⟨2, _⟩ => rfl | ⟨3, _⟩ => rfl))

/-- The maximum with the least float is the other operand. -/
theorem max_bot (y : EReal) : FloatOps.maximumf (F := Ideal) (φ := .f32) (FloatOps.ofBits .f32 0xFF800000#32) y = y := by
  show max (Ideal.ofBits .f32 0xFF800000#32) y = y
  rw [ofBits_neg_inf, max_eq_right bot_le]

/-- The host's `1 / (1 + e⁻ˣ)` is the logistic function. -/
theorem sigmoid_eq (x : EReal) : Ideal.div (Ideal.ofBits .f32 0x3F800000#32) (Ideal.ofBits .f32 0x3F800000#32 + Ideal.exp (-x)) = Ideal.logistic x := by
  rw [ofBits_one]; rfl

variable (x0 : FVec Ideal S16x2048x1024 .f32) (x1 x2 : FVec Ideal S16x2048x512 .bf16) (x3 : FVec Ideal S16x512x256 .bf16) (x4 : FVec Ideal S16x256x512 .bf16)
  (x5 x6 : FVec Ideal S1024 .f32) (x7 : FVec Ideal S1x1024x7592 .f32) (x8 x9 x10 : FVec Ideal S1x512x1024 .f32) (x11 : FVec Ideal S1x1024x1024 .f32) (x12 x13 : FVec Ideal S1x1024 .f32)
  (b : Fin 16) (p : Fin 2048)

/-- A row of the input, normalised. -/
abbrev hRow : Fin 1024 → EReal := lnRow (fun k => x0 (ix3 b p k)) (fun k => x5 (ix1 k)) (fun k => x6 (ix1 k))

/-- The mean's column. -/
theorem v3_at (z : Fin 1) : val_main_v3 (F := Ideal) x0 (ix3 b p z) = mean fun k => x0 (ix3 b p k) := by
  simp only [val_main_v3_apply, val_main_v1_apply, i1, val_main_v0_apply, i0, val_main_cst_apply, val_main_v2_apply, val_main_cst_0_apply]
  show Ideal.div (Ideal.ofBits .f32 0x00000000#32 + _) _ = _
  rw [Ideal.ofBits_zero_f32, zero_add]; rfl

/-- The first normalisation. -/
theorem v23_at (c : Fin 1024) : val_main_v23 (F := Ideal) x0 x5 x6 (ix3 b p c) = hRow x0 x5 x6 b p c := by
  simp only [val_main_v23_apply, val_main_v22_apply, val_main_v21_apply, val_main_v20_apply, val_main_v19_apply, val_main_v18_apply, val_main_v17_apply, val_main_v16_apply,
    val_main_v15_apply, val_main_v14_apply, val_main_v13_apply, val_main_cst_3_apply, val_main_v12_apply, val_main_v11_apply, val_main_v10_apply, val_main_v9_apply, val_main_cst_2_apply,
    val_main_v8_apply, val_main_v7_apply, val_main_cst_1_apply, val_main_v6_apply, val_main_v5_apply, val_main_v4_apply, i4, i7, i8, i11, i16, i18, i19, i21, i22, v3_at]
  rw [show ∀ y : EReal, FloatOps.ofBits (F := Ideal) .f32 0x00000000#32 + y = y from fun y => by
    show Ideal.ofBits .f32 0x00000000#32 + y = y; rw [Ideal.ofBits_zero_f32, zero_add]]
  rfl

/-- The projection of a row by the whole weight. -/
theorem v25_at (q : Fin 7592) : val_main_v25 (F := Ideal) x0 x5 x6 x7 (ix3 b p q) = dotRow (hRow x0 x5 x6 b p) (fun k q => x7 (ix3 0 k q)) q := by
  rw [val_main_v25_apply]
  refine Finset.sum_congr rfl fun k _ => ?_
  rw [il25, ir25, v23_at, val_main_v24_apply, i24]

theorem v29_at (f : Fin 512) : val_main_v29 (F := Ideal) x0 x5 x6 x7 (ix3 b p f) = dotRow (hRow x0 x5 x6 b p) (fun k (c : Fin 512) => x7 (ix3 0 k ⟨640 + c.val, by omega⟩)) f := by
  rw [val_main_v29_apply, i29, v25_at]; rfl
theorem v36_at (f : Fin 512) : val_main_v36 (F := Ideal) x0 x5 x6 x7 (ix3 b p f) = dotRow (hRow x0 x5 x6 b p) (fun k (c : Fin 512) => x7 (ix3 0 k ⟨2984 + c.val, by omega⟩)) f := by
  rw [val_main_v36_apply, i36, v25_at]; rfl
theorem v37_at (f : Fin 512) : val_main_v37 (F := Ideal) x0 x5 x6 x7 (ix3 b p f) = dotRow (hRow x0 x5 x6 b p) (fun k (c : Fin 512) => x7 (ix3 0 k ⟨3496 + c.val, by omega⟩)) f := by
  rw [val_main_v37_apply, i37, v25_at]; rfl
theorem v38_at (f : Fin 512) : val_main_v38 (F := Ideal) x0 x5 x6 x7 (ix3 b p f) = dotRow (hRow x0 x5 x6 b p) (fun k (c : Fin 512) => x7 (ix3 0 k ⟨4008 + c.val, by omega⟩)) f := by
  rw [val_main_v38_apply, i38, v25_at]; rfl
theorem v39_at (q : Fin 3072) : val_main_v39 (F := Ideal) x0 x5 x6 x7 (ix3 b p q) = dotRow (hRow x0 x5 x6 b p) (fun k (c : Fin 3072) => x7 (ix3 0 k ⟨4520 + c.val, by omega⟩)) q := by
  rw [val_main_v39_apply, i39, v25_at]; rfl

theorem v41_at (f : Fin 512) : val_main_v41 (F := Ideal) x0 x5 x6 x7 (ix3 b p f) = silu (val_main_v29 (F := Ideal) x0 x5 x6 x7 (ix3 b p f)) := by
  simp only [val_main_v41_apply, val_main_call0_v5_apply, val_main_call0_v4_apply, val_main_call0_cst_0_apply, val_main_call0_v3_apply, val_main_call0_v2_apply,
    val_main_call0_cst_apply, val_main_call0_v1_apply, val_main_call0_v0_apply]
  exact congrArg (_ * ·) (sigmoid_eq _)
theorem v46_at (f : Fin 512) : val_main_v46 (F := Ideal) x0 x5 x6 x7 (ix3 b p f) = silu (val_main_v36 (F := Ideal) x0 x5 x6 x7 (ix3 b p f)) := by
  simp only [val_main_v46_apply, val_main_call1_v5_apply, val_main_call1_v4_apply, val_main_call1_cst_0_apply, val_main_call1_v3_apply, val_main_call1_v2_apply,
    val_main_call1_cst_apply, val_main_call1_v1_apply, val_main_call1_v0_apply]
  exact congrArg (_ * ·) (sigmoid_eq _)
theorem v73_at (f : Fin 512) : val_main_v73 (F := Ideal) x0 x5 x6 x7 (ix3 b p f) = silu (val_main_v38 (F := Ideal) x0 x5 x6 x7 (ix3 b p f)) := by
  simp only [val_main_v73_apply, val_main_call2_v5_apply, val_main_call2_v4_apply, val_main_call2_cst_0_apply, val_main_call2_v3_apply, val_main_call2_v2_apply,
    val_main_call2_cst_apply, val_main_call2_v1_apply, val_main_call2_v0_apply]
  exact congrArg (_ * ·) (sigmoid_eq _)
/-- A mixer's branch projected back. -/
theorem v44_at (c : Fin 1024) : val_main_v44 (F := Ideal) x0 x1 x5 x6 x7 x8 (ix3 b p c) =
    dotRow (fun k => x1 (ix3 b p k) * silu (val_main_v29 (F := Ideal) x0 x5 x6 x7 (ix3 b p k))) (fun k c => x8 (ix3 0 k c)) c := by
  rw [val_main_v44_apply]
  refine Finset.sum_congr rfl fun f _ => ?_
  rw [il44, ir44, val_main_v42_apply, val_main_v43_apply, i43, v41_at]; rfl

/-- A mixer's branch projected back. -/
theorem v49_at (c : Fin 1024) : val_main_v49 (F := Ideal) x0 x2 x5 x6 x7 x9 (ix3 b p c) =
    dotRow (fun k => x2 (ix3 b p k) * silu (val_main_v36 (F := Ideal) x0 x5 x6 x7 (ix3 b p k))) (fun k c => x9 (ix3 0 k c)) c := by
  rw [val_main_v49_apply]
  refine Finset.sum_congr rfl fun f _ => ?_
  rw [il49, ir49, val_main_v47_apply, val_main_v48_apply, i48, v46_at]; rfl

/-- A head's keys, a row of queries and the values. -/
abbrev kRow (e : Fin 16) (h : Fin 4) (d : Fin 128) (j : Fin 256) : EReal := x3 (ix3 e ⟨h.val * 128 + d.val, by omega⟩ j)
abbrev qRow (h : Fin 4) (d : Fin 128) : EReal := val_main_v37 (F := Ideal) x0 x5 x6 x7 (ix3 b p ⟨h.val * 128 + d.val, by omega⟩)

theorem v52_at (j : Fin 256) (h : Fin 4) (d : Fin 128) : val_main_v52 (F := Ideal) x3 (ix4 b j h d) = kRow x3 b h d j := by
  rw [val_main_v52_apply, i52, val_main_v51_apply, i51, val_main_v50_apply]; rfl
theorem v54_at (j : Fin 256) (h : Fin 4) (d : Fin 128) : val_main_v54 (F := Ideal) x4 (ix4 b j h d) = x4 (ix3 b j ⟨h.val * 128 + d.val, by omega⟩) := by
  rw [val_main_v54_apply, i54, val_main_v53_apply]; rfl

/-- A head's scaled logits. -/
theorem v58_at (h : Fin 4) (j : Fin 256) : val_main_v58 (F := Ideal) x0 x3 x5 x6 x7 (ix4 b h p j) = logitRow (qRow x0 x5 x6 x7 b p h) (kRow x3 b h) j := by
  rw [val_main_v58_apply, val_main_v57_apply, val_main_cst_4_apply, val_main_v56_apply]
  refine congrArg (· * Ideal.ofBits .f32 0x3DB504F3#32) (Finset.sum_congr rfl fun d _ => ?_)
  rw [il56, ir56, v52_at, val_main_v55_apply, i55]

/-- A head's largest logit. -/
theorem v59_at (h : Fin 4) : val_main_v59 (F := Ideal) x0 x3 x5 x6 x7 (ix3 b h p) = rowMax (logitRow (qRow x0 x5 x6 x7 b p h) (kRow x3 b h)) := by
  unfold val_main_v59 val_main_cst_5
  refine (hostMax_apply (A := 16) (B := 4) (C := 2048) (D := 256) _ _ _ (by decide) b h p).trans ?_
  exact congrArg rowMax (funext fun j => v58_at x0 x3 x5 x6 x7 b p h j)

theorem v65_at (h : Fin 4) (j : Fin 256) : val_main_v65 (F := Ideal) x0 x3 x5 x6 x7 (ix4 b h p j) =
    Ideal.exp (logitRow (qRow x0 x5 x6 x7 b p h) (kRow x3 b h) j - rowMax (logitRow (qRow x0 x5 x6 x7 b p h) (kRow x3 b h))) := by
  rw [val_main_v65_apply, val_main_v64_apply, val_main_v63_apply, i63, val_main_v62_apply, i62, val_main_v61_apply, v59_at, v58_at, val_main_v60_apply, val_main_cst_6_apply, max_bot]
  rfl

/-- A head's weights. -/
theorem v69_at (h : Fin 4) (j : Fin 256) : val_main_v69 (F := Ideal) x0 x3 x5 x6 x7 (ix4 b h p j) = softRow (logitRow (qRow x0 x5 x6 x7 b p h) (kRow x3 b h)) j := by
  simp only [val_main_v69_apply, val_main_v68_apply, i68, val_main_v67_apply, i67, val_main_v66_apply, i66, val_main_cst_7_apply, v65_at]
  show Ideal.div _ (Ideal.ofBits .f32 0x00000000#32 + _) = _
  rw [Ideal.ofBits_zero_f32, zero_add]; rfl

/-- The four heads side by side. -/
theorem v72_at (f : Fin 512) : val_main_v72 (F := Ideal) x0 x3 x4 x5 x6 x7 (ix3 b p f) =
    memRow (fun c => val_main_v37 (F := Ideal) x0 x5 x6 x7 (ix3 b p c)) (fun d j => x3 (ix3 b d j)) (fun j d => x4 (ix3 b j d)) f := by
  rw [val_main_v72_apply, i72, val_main_v71_apply, i71, val_main_v70_apply]
  unfold memRow headRow dotRow
  refine Finset.sum_congr rfl fun j _ => ?_
  rw [il70, ir70, v54_at, v69_at, mul_comm]

/-- The memory's branch projected back. -/
theorem v76_at (c : Fin 1024) : val_main_v76 (F := Ideal) x0 x3 x4 x5 x6 x7 x10 (ix3 b p c) =
    dotRow (fun k => memRow (fun c => val_main_v37 (F := Ideal) x0 x5 x6 x7 (ix3 b p c)) (fun d j => x3 (ix3 b d j)) (fun j d => x4 (ix3 b j d)) k
      * silu (val_main_v38 (F := Ideal) x0 x5 x6 x7 (ix3 b p k))) (fun k c => x10 (ix3 0 k c)) c := by
  rw [val_main_v76_apply]
  refine Finset.sum_congr rfl fun f _ => ?_
  rw [il76, ir76, val_main_v74_apply, val_main_v75_apply, i75, v72_at, v73_at]; rfl

/-- The merge gates. -/
theorem v83_at (n : Fin 3) (c : Fin 1024) : val_main_v83 (F := Ideal) x0 x5 x6 x7 (ix4 b p n c) =
    Ideal.logistic (val_main_v39 (F := Ideal) x0 x5 x6 x7 (ix3 b p ⟨n.val * 1024 + c.val, by omega⟩)) := by
  simp only [val_main_v83_apply, val_main_v82_apply, val_main_cst_9_apply, val_main_v81_apply, val_main_v80_apply, val_main_cst_8_apply, val_main_v79_apply, val_main_v78_apply,
    val_main_v77_apply, i77]
  exact sigmoid_eq _

theorem v85_at (c : Fin 1024) : val_main_v85 (F := Ideal) x0 x5 x6 x7 (ix3 b p c) =
    Ideal.logistic (dotRow (hRow x0 x5 x6 b p) (fun k (c : Fin 1024) => x7 (ix3 0 k ⟨4520 + c.val, by omega⟩)) c) := by
  rw [val_main_v85_apply, i85, val_main_v84_apply, i84, v83_at, v39_at]
  refine congrArg Ideal.logistic (Finset.sum_congr rfl fun k _ => congrArg (_ * ·) (congrArg x7 (congrArg (ix3 0 k) (Fin.ext ?_))))
  show 4520 + (0 * 1024 + c.val) = 4520 + c.val
  omega
theorem v88_at (c : Fin 1024) : val_main_v88 (F := Ideal) x0 x5 x6 x7 (ix3 b p c) =
    Ideal.logistic (dotRow (hRow x0 x5 x6 b p) (fun k (c : Fin 1024) => x7 (ix3 0 k ⟨5544 + c.val, by omega⟩)) c) := by
  rw [val_main_v88_apply, i88, val_main_v87_apply, i87, v83_at, v39_at]
  refine congrArg Ideal.logistic (Finset.sum_congr rfl fun k _ => congrArg (_ * ·) (congrArg x7 (congrArg (ix3 0 k) (Fin.ext ?_))))
  show 4520 + (1 * 1024 + c.val) = 5544 + c.val
  omega
theorem v92_at (c : Fin 1024) : val_main_v92 (F := Ideal) x0 x5 x6 x7 (ix3 b p c) =
    Ideal.logistic (dotRow (hRow x0 x5 x6 b p) (fun k (c : Fin 1024) => x7 (ix3 0 k ⟨6568 + c.val, by omega⟩)) c) := by
  rw [val_main_v92_apply, i92, val_main_v91_apply, i91, v83_at, v39_at]
  refine congrArg Ideal.logistic (Finset.sum_congr rfl fun k _ => congrArg (_ * ·) (congrArg x7 (congrArg (ix3 0 k) (Fin.ext ?_))))
  show 4520 + (2 * 1024 + c.val) = 6568 + c.val
  omega

/-- The merged row. -/
abbrev mRow : Fin 1024 → EReal := fun c => val_main_v94 (F := Ideal) x0 x1 x2 x3 x4 x5 x6 x7 x8 x9 x10 (ix3 b p c)

/-- The merged branches. -/
theorem v94_at (c : Fin 1024) : val_main_v94 (F := Ideal) x0 x1 x2 x3 x4 x5 x6 x7 x8 x9 x10 (ix3 b p c) =
    mergeRow (fun c => val_main_v85 (F := Ideal) x0 x5 x6 x7 (ix3 b p c)) (fun c => val_main_v88 (F := Ideal) x0 x5 x6 x7 (ix3 b p c)) (fun c => val_main_v92 (F := Ideal) x0 x5 x6 x7 (ix3 b p c))
      (fun c => val_main_v44 (F := Ideal) x0 x1 x5 x6 x7 x8 (ix3 b p c)) (fun c => val_main_v49 (F := Ideal) x0 x2 x5 x6 x7 x9 (ix3 b p c))
      (fun c => val_main_v76 (F := Ideal) x0 x3 x4 x5 x6 x7 x10 (ix3 b p c)) c := by
  rw [val_main_v94_apply, val_main_v93_apply, val_main_v90_apply, val_main_v89_apply, val_main_v86_apply]; rfl

/-- The row before the last normalisation. -/
theorem v99_at (c : Fin 1024) : val_main_v99 (F := Ideal) x0 x1 x2 x3 x4 x5 x6 x7 x8 x9 x10 x11 (ix3 b p c) =
    Ideal.ofBits .f32 0x3F9837F0#32 * hRow x0 x5 x6 b p c + dotRow (mRow x0 x1 x2 x3 x4 x5 x6 x7 x8 x9 x10 b p) (fun k c => x11 (ix3 0 k c)) c := by
  rw [val_main_v99_apply, val_main_v96_apply, val_main_v95_apply, val_main_cst_10_apply, v23_at, val_main_v98_apply]
  refine congrArg (_ + ·) (Finset.sum_congr rfl fun k _ => ?_)
  rw [il98, ir98, val_main_v97_apply, i97]

/-- The last mean's column. -/
theorem v105_at (z : Fin 1) : val_main_v105 (F := Ideal) x0 x1 x2 x3 x4 x5 x6 x7 x8 x9 x10 x11 (ix3 b p z) = mean fun k => val_main_v99 (F := Ideal) x0 x1 x2 x3 x4 x5 x6 x7 x8 x9 x10 x11 (ix3 b p k) := by
  simp only [val_main_v105_apply, val_main_v103_apply, i103, val_main_v102_apply, i102, val_main_cst_11_apply, val_main_v104_apply, val_main_cst_12_apply]
  show Ideal.div (Ideal.ofBits .f32 0x00000000#32 + _) _ = _
  rw [Ideal.ofBits_zero_f32, zero_add]; rfl

/-- The last normalisation. -/
theorem v125_at (c : Fin 1024) : val_main_v125 (F := Ideal) x0 x1 x2 x3 x4 x5 x6 x7 x8 x9 x10 x11 x12 x13 (ix3 b p c) =
    lnRow (fun c => val_main_v99 (F := Ideal) x0 x1 x2 x3 x4 x5 x6 x7 x8 x9 x10 x11 (ix3 b p c)) (fun k => x12 (ix2 0 k)) (fun k => x13 (ix2 0 k)) c := by
  simp only [val_main_v125_apply, val_main_v124_apply, val_main_v123_apply, val_main_v122_apply, val_main_v121_apply, val_main_v120_apply, val_main_v119_apply, val_main_v118_apply, val_main_v117_apply, val_main_v116_apply, val_main_v115_apply, val_main_v114_apply, val_main_v113_apply, val_main_v112_apply, val_main_v111_apply, val_main_v110_apply, val_main_v109_apply, val_main_v108_apply, val_main_v107_apply, val_main_v106_apply, val_main_v100_apply, val_main_v101_apply, val_main_cst_13_apply,
    val_main_cst_14_apply, val_main_cst_15_apply, i106, i109, i110, i113, i118, i120, i121, i123, i124, i100, i101, v105_at]
  rw [show ∀ y : EReal, FloatOps.ofBits (F := Ideal) .f32 0x00000000#32 + y = y from fun y => by
    show Ideal.ofBits .f32 0x00000000#32 + y = y; rw [Ideal.ofBits_zero_f32, zero_add]]
  rfl

/-- The reference's row of a batch and a position. -/
theorem row_at (c : Fin 1024) : val_main_v125 (F := Ideal) x0 x1 x2 x3 x4 x5 x6 x7 x8 x9 x10 x11 x12 x13 (ix3 b p c) = tailAt x0 x1 x2 x3 x4 x5 x6 x7 x8 x9 x10 x11 x12 x13 b p c := by
  have e (k : Fin 1024) : mRow x0 x1 x2 x3 x4 x5 x6 x7 x8 x9 x10 b p k = _ := v94_at x0 x1 x2 x3 x4 x5 x6 x7 x8 x9 x10 b p k
  rw [v125_at]
  unfold tailAt tailRow
  simp only [v99_at, funext e, v85_at, v88_at, v92_at, v44_at, v49_at, v76_at, v29_at, v36_at, v37_at, v38_at]

/-- The reference's result. -/
theorem result : val_main_v126 (F := Ideal) x0 x1 x2 x3 x4 x5 x6 x7 x8 x9 x10 x11 x12 x13 = tailFn x0 x1 x2 x3 x4 x5 x6 x7 x8 x9 x10 x11 x12 x13 := by
  funext i
  have ei : i = ix2 ⟨(i 0).val, (i 0).isLt⟩ ⟨(i 1).val, (i 1).isLt⟩ := funext fun a => by match a with | ⟨0, _⟩ => rfl | ⟨1, _⟩ => rfl
  rw [val_main_v126_apply, show idx_main_v126 i = _ from (congrArg idx_main_v126 ei).trans (i126 _ _)]
  exact row_at x0 x1 x2 x3 x4 x5 x6 x7 x8 x9 x10 x11 x12 x13 _ _ _

end Cert.ReferenceIdeal.RefValue

end
-- ==== Proof.ProjOps.lean ====
module
public import proofs.«01_k».proof.Proof.Rows
public import Idealize.ShloMosaic.Lib.KernelVsHost

@[expose] public section

noncomputable section

namespace Cert.Proj
open Idealize.ShloMosaic Idealize.ShloMosaic.ValueIdx

/-! Arrays joined along one axis, read at one place, and the plain functions the projection's results are read as. -/

section Joined
variable {α : Type}

/-- The sum of the extents of the first `k` pieces along the joined axis. -/
abbrev pre (t : Shape) (a : Fin t.rank) (xs : List ((s : Shape) × (s.Idx → α))) (k : ℕ) : ℕ :=
  (((xs.take k).map (·.1)).map fun s => if h : s.rank = t.rank then s.size (a.cast h.symm) else 0).sum

/-- Matrices one above another: row `o + i'` is row `i'` of the piece that starts at row `o`. -/
theorem rowsAt {M N m : ℕ} (xs : List ((s : Shape) × (s.Idx → α))) (h) (k : ℕ) (hk : k < xs.length)
    (p : (⟨2, ![m, N]⟩ : Shape).Idx → α) (hx : xs[k] = ⟨⟨2, ![m, N]⟩, p⟩) (o : ℕ)
    (ho : pre ⟨2, ![M, N]⟩ (0 : Fin 2) xs k = o) (i : Fin M) (c : Fin N) (i' : Fin m) (hi : o + i'.val = i.val) :
    concatenate ⟨2, ![M, N]⟩ (0 : Fin 2) xs h (ix2 i c) = p (ix2 i' c) :=
  concatenate_apply_piece (t := ⟨2, ![M, N]⟩) (0 : Fin 2) xs h (ix2 i c) k hk _ p hx rfl o ho (ix2 i' c)
    (fun b hb => by
      match b, hb with
      | ⟨0, _⟩, hb => exact absurd rfl hb
      | ⟨1, _⟩, _ => rfl) hi

/-- Matrices side by side: column `o + j'` is column `j'` of the piece that starts at column `o`. -/
theorem colsAt {M N n : ℕ} (xs : List ((s : Shape) × (s.Idx → α))) (h) (k : ℕ) (hk : k < xs.length)
    (p : (⟨2, ![M, n]⟩ : Shape).Idx → α) (hx : xs[k] = ⟨⟨2, ![M, n]⟩, p⟩) (o : ℕ)
    (ho : pre ⟨2, ![M, N]⟩ (1 : Fin 2) xs k = o) (i : Fin M) (c : Fin N) (c' : Fin n) (hi : o + c'.val = c.val) :
    concatenate ⟨2, ![M, N]⟩ (1 : Fin 2) xs h (ix2 i c) = p (ix2 i c') :=
  concatenate_apply_piece (t := ⟨2, ![M, N]⟩) (1 : Fin 2) xs h (ix2 i c) k hk _ p hx rfl o ho (ix2 i c')
    (fun b hb => by
      match b, hb with
      | ⟨0, _⟩, _ => rfl
      | ⟨1, _⟩, hb => exact absurd rfl hb) hi

/-- Three-axis arrays stacked along the first axis. -/
theorem stackAt {L M N l : ℕ} (xs : List ((s : Shape) × (s.Idx → α))) (h) (k : ℕ) (hk : k < xs.length)
    (p : (⟨3, ![l, M, N]⟩ : Shape).Idx → α) (hx : xs[k] = ⟨⟨3, ![l, M, N]⟩, p⟩) (o : ℕ)
    (ho : pre ⟨3, ![L, M, N]⟩ (0 : Fin 3) xs k = o) (u : Fin L) (i : Fin M) (c : Fin N) (u' : Fin l)
    (hi : o + u'.val = u.val) :
    concatenate ⟨3, ![L, M, N]⟩ (0 : Fin 3) xs h (ix3 u i c) = p (ix3 u' i c) :=
  concatenate_apply_piece (t := ⟨3, ![L, M, N]⟩) (0 : Fin 3) xs h (ix3 u i c) k hk _ p hx rfl o ho (ix3 u' i c)
    (fun b hb => by
      match b, hb with
      | ⟨0, _⟩, hb => exact absurd rfl hb
      | ⟨1, _⟩, _ => rfl
      | ⟨2, _⟩, _ => rfl) hi

/-- Three-axis arrays joined along the last axis. -/
theorem last3At {L M N n : ℕ} (xs : List ((s : Shape) × (s.Idx → α))) (h) (k : ℕ) (hk : k < xs.length)
    (p : (⟨3, ![L, M, n]⟩ : Shape).Idx → α) (hx : xs[k] = ⟨⟨3, ![L, M, n]⟩, p⟩) (o : ℕ)
    (ho : pre ⟨3, ![L, M, N]⟩ (2 : Fin 3) xs k = o) (u : Fin L) (i : Fin M) (c : Fin N) (c' : Fin n)
    (hi : o + c'.val = c.val) :
    concatenate ⟨3, ![L, M, N]⟩ (2 : Fin 3) xs h (ix3 u i c) = p (ix3 u i c') :=
  concatenate_apply_piece (t := ⟨3, ![L, M, N]⟩) (2 : Fin 3) xs h (ix3 u i c) k hk _ p hx rfl o ho (ix3 u i c')
    (fun b hb => by
      match b, hb with
      | ⟨0, _⟩, _ => rfl
      | ⟨1, _⟩, _ => rfl
      | ⟨2, _⟩, hb => exact absurd rfl hb) hi

/-- Four-axis arrays joined along the last axis. -/
theorem last4At {K L M N n : ℕ} (xs : List ((s : Shape) × (s.Idx → α))) (h) (k : ℕ) (hk : k < xs.length)
    (p : (⟨4, ![K, L, M, n]⟩ : Shape).Idx → α) (hx : xs[k] = ⟨⟨4, ![K, L, M, n]⟩, p⟩) (o : ℕ)
    (ho : pre ⟨4, ![K, L, M, N]⟩ (3 : Fin 4) xs k = o) (v : Fin K) (u : Fin L) (i : Fin M) (c : Fin N) (c' : Fin n)
    (hi : o + c'.val = c.val) :
    concatenate ⟨4, ![K, L, M, N]⟩ (3 : Fin 4) xs h (ix4 v u i c) = p (ix4 v u i c') :=
  concatenate_apply_piece (t := ⟨4, ![K, L, M, N]⟩) (3 : Fin 4) xs h (ix4 v u i c) k hk _ p hx rfl o ho (ix4 v u i c')
    (fun b hb => by
      match b, hb with
      | ⟨0, _⟩, _ => rfl
      | ⟨1, _⟩, _ => rfl
      | ⟨2, _⟩, _ => rfl
      | ⟨3, _⟩, hb => exact absurd rfl hb) hi

/-- Three matrices one above another hold `f` by rows when each does from its own start. -/
theorem rows3 {a b c D N : ℕ} (A : (⟨2, ![a, N]⟩ : Shape).Idx → α) (B : (⟨2, ![b, N]⟩ : Shape).Idx → α)
    (C : (⟨2, ![c, N]⟩ : Shape).Idx → α) (hc) (f : ℕ → α) (p : Fin N) (hD : a + b + c = D)
    (hA : ∀ j : Fin a, A (ix2 j p) = f j.val) (hB : ∀ j : Fin b, B (ix2 j p) = f (a + j.val))
    (hC : ∀ j : Fin c, C (ix2 j p) = f (a + b + j.val)) (i : Fin D) :
    concatenate ⟨2, ![D, N]⟩ (0 : Fin 2) [⟨⟨2, ![a, N]⟩, A⟩, ⟨⟨2, ![b, N]⟩, B⟩, ⟨⟨2, ![c, N]⟩, C⟩] hc (ix2 i p) = f i.val := by
  have hi := i.isLt
  by_cases h1 : i.val < a
  · rw [rowsAt _ hc 0 (by simp) A rfl 0 rfl i p ⟨i.val, h1⟩ (by simp), hA]
  by_cases h2 : i.val < a + b
  · rw [rowsAt _ hc 1 (by simp) B rfl a (by simp [pre]) i p ⟨i.val - a, by omega⟩ (by simp; omega), hB]
    exact congrArg f (by simp; omega)
  · rw [rowsAt _ hc 2 (by simp) C rfl (a + b) (by simp [pre]) i p ⟨i.val - (a + b), by omega⟩ (by simp; omega), hC]
    exact congrArg f (by simp; omega)

/-- Two matrices one above another. -/
theorem rows2 {a b D N : ℕ} (A : (⟨2, ![a, N]⟩ : Shape).Idx → α) (B : (⟨2, ![b, N]⟩ : Shape).Idx → α)
    (hc) (f : ℕ → α) (p : Fin N) (hD : a + b = D)
    (hA : ∀ j : Fin a, A (ix2 j p) = f j.val) (hB : ∀ j : Fin b, B (ix2 j p) = f (a + j.val)) (i : Fin D) :
    concatenate ⟨2, ![D, N]⟩ (0 : Fin 2) [⟨⟨2, ![a, N]⟩, A⟩, ⟨⟨2, ![b, N]⟩, B⟩] hc (ix2 i p) = f i.val := by
  have hi := i.isLt
  by_cases h1 : i.val < a
  · rw [rowsAt _ hc 0 (by simp) A rfl 0 rfl i p ⟨i.val, h1⟩ (by simp), hA]
  · rw [rowsAt _ hc 1 (by simp) B rfl a (by simp [pre]) i p ⟨i.val - a, by omega⟩ (by simp; omega), hB]
    exact congrArg f (by simp; omega)

/-- Three four-axis arrays joined along the last axis. -/
theorem last4_3 {a b c D K L M : ℕ} (A : (⟨4, ![K, L, M, a]⟩ : Shape).Idx → α) (B : (⟨4, ![K, L, M, b]⟩ : Shape).Idx → α)
    (C : (⟨4, ![K, L, M, c]⟩ : Shape).Idx → α) (hc) (f : ℕ → α) (v : Fin K) (u : Fin L) (p : Fin M) (hD : a + b + c = D)
    (hA : ∀ j : Fin a, A (ix4 v u p j) = f j.val) (hB : ∀ j : Fin b, B (ix4 v u p j) = f (a + j.val))
    (hC : ∀ j : Fin c, C (ix4 v u p j) = f (a + b + j.val)) (i : Fin D) :
    concatenate ⟨4, ![K, L, M, D]⟩ (3 : Fin 4) [⟨⟨4, ![K, L, M, a]⟩, A⟩, ⟨⟨4, ![K, L, M, b]⟩, B⟩, ⟨⟨4, ![K, L, M, c]⟩, C⟩] hc
      (ix4 v u p i) = f i.val := by
  have hi := i.isLt
  by_cases h1 : i.val < a
  · rw [last4At _ hc 0 (by simp) A rfl 0 rfl v u p i ⟨i.val, h1⟩ (by simp), hA]
  by_cases h2 : i.val < a + b
  · rw [last4At _ hc 1 (by simp) B rfl a (by simp [pre]) v u p i ⟨i.val - a, by omega⟩ (by simp; omega), hB]
    exact congrArg f (by simp; omega)
  · rw [last4At _ hc 2 (by simp) C rfl (a + b) (by simp [pre]) v u p i ⟨i.val - (a + b), by omega⟩ (by simp; omega), hC]
    exact congrArg f (by simp; omega)

/-- Three three-axis arrays joined along the last axis. -/
theorem last3_3 {a b c D L M : ℕ} (A : (⟨3, ![L, M, a]⟩ : Shape).Idx → α) (B : (⟨3, ![L, M, b]⟩ : Shape).Idx → α)
    (C : (⟨3, ![L, M, c]⟩ : Shape).Idx → α) (hc) (f : ℕ → α) (u : Fin L) (p : Fin M) (hD : a + b + c = D)
    (hA : ∀ j : Fin a, A (ix3 u p j) = f j.val) (hB : ∀ j : Fin b, B (ix3 u p j) = f (a + j.val))
    (hC : ∀ j : Fin c, C (ix3 u p j) = f (a + b + j.val)) (i : Fin D) :
    concatenate ⟨3, ![L, M, D]⟩ (2 : Fin 3) [⟨⟨3, ![L, M, a]⟩, A⟩, ⟨⟨3, ![L, M, b]⟩, B⟩, ⟨⟨3, ![L, M, c]⟩, C⟩] hc
      (ix3 u p i) = f i.val := by
  have hi := i.isLt
  by_cases h1 : i.val < a
  · rw [last3At _ hc 0 (by simp) A rfl 0 rfl u p i ⟨i.val, h1⟩ (by simp), hA]
  by_cases h2 : i.val < a + b
  · rw [last3At _ hc 1 (by simp) B rfl a (by simp [pre]) u p i ⟨i.val - a, by omega⟩ (by simp; omega), hB]
    exact congrArg f (by simp; omega)
  · rw [last3At _ hc 2 (by simp) C rfl (a + b) (by simp [pre]) u p i ⟨i.val - (a + b), by omega⟩ (by simp; omega), hC]
    exact congrArg f (by simp; omega)

/-- Six matrices of 32 rows and one of 64, one above another. -/
theorem rows7 {N : ℕ} (A0 A1 A2 A3 A4 A5 : (⟨2, ![32, N]⟩ : Shape).Idx → α) (Z : (⟨2, ![64, N]⟩ : Shape).Idx → α) (hc) (f : ℕ → α) (p : Fin N)
    (h0 : ∀ j : Fin 32, A0 (ix2 j p) = f (32 * 0 + j.val))
    (h1 : ∀ j : Fin 32, A1 (ix2 j p) = f (32 * 1 + j.val))
    (h2 : ∀ j : Fin 32, A2 (ix2 j p) = f (32 * 2 + j.val))
    (h3 : ∀ j : Fin 32, A3 (ix2 j p) = f (32 * 3 + j.val))
    (h4 : ∀ j : Fin 32, A4 (ix2 j p) = f (32 * 4 + j.val))
    (h5 : ∀ j : Fin 32, A5 (ix2 j p) = f (32 * 5 + j.val))
    (h6 : ∀ j : Fin 64, Z (ix2 j p) = f (192 + j.val)) (i : Fin 256) :
    concatenate (⟨2, ![256, N]⟩ : Shape) (0 : Fin 2) [⟨(⟨2, ![32, N]⟩ : Shape), A0⟩, ⟨(⟨2, ![32, N]⟩ : Shape), A1⟩, ⟨(⟨2, ![32, N]⟩ : Shape), A2⟩, ⟨(⟨2, ![32, N]⟩ : Shape), A3⟩, ⟨(⟨2, ![32, N]⟩ : Shape), A4⟩, ⟨(⟨2, ![32, N]⟩ : Shape), A5⟩, ⟨(⟨2, ![64, N]⟩ : Shape), Z⟩] hc (ix2 i p) = f i.val := by
  have hi := i.isLt
  by_cases g0 : i.val < 32
  · rw [rowsAt _ hc 0 (by simp) A0 rfl 0 (by simp [pre]) i p ⟨i.val - 0, by omega⟩ (by show 0 + (i.val - 0) = i.val; omega), h0]
    exact congrArg f (by show 32 * 0 + (i.val - 0) = i.val; omega)
  by_cases g1 : i.val < 64
  · rw [rowsAt _ hc 1 (by simp) A1 rfl 32 (by simp [pre]) i p ⟨i.val - 32, by omega⟩ (by show 32 + (i.val - 32) = i.val; omega), h1]
    exact congrArg f (by show 32 * 1 + (i.val - 32) = i.val; omega)
  by_cases g2 : i.val < 96
  · rw [rowsAt _ hc 2 (by simp) A2 rfl 64 (by simp [pre]) i p ⟨i.val - 64, by omega⟩ (by show 64 + (i.val - 64) = i.val; omega), h2]
    exact congrArg f (by show 32 * 2 + (i.val - 64) = i.val; omega)
  by_cases g3 : i.val < 128
  · rw [rowsAt _ hc 3 (by simp) A3 rfl 96 (by simp [pre]) i p ⟨i.val - 96, by omega⟩ (by show 96 + (i.val - 96) = i.val; omega), h3]
    exact congrArg f (by show 32 * 3 + (i.val - 96) = i.val; omega)
  by_cases g4 : i.val < 160
  · rw [rowsAt _ hc 4 (by simp) A4 rfl 128 (by simp [pre]) i p ⟨i.val - 128, by omega⟩ (by show 128 + (i.val - 128) = i.val; omega), h4]
    exact congrArg f (by show 32 * 4 + (i.val - 128) = i.val; omega)
  by_cases g5 : i.val < 192
  · rw [rowsAt _ hc 5 (by simp) A5 rfl 160 (by simp [pre]) i p ⟨i.val - 160, by omega⟩ (by show 160 + (i.val - 160) = i.val; omega), h5]
    exact congrArg f (by show 32 * 5 + (i.val - 160) = i.val; omega)
  · rw [rowsAt _ hc 6 (by simp) Z rfl 192 (by simp [pre]) i p ⟨i.val - 192, by omega⟩ (by show 192 + (i.val - 192) = i.val; omega), h6]
    exact congrArg f (by show 192 + (i.val - 192) = i.val; omega)

/-- Six arrays of last extent 32 and one of 64, joined along the last of four axes. -/
theorem last4_7 {K L M : ℕ} (A0 A1 A2 A3 A4 A5 : (⟨4, ![K, L, M, 32]⟩ : Shape).Idx → α) (Z : (⟨4, ![K, L, M, 64]⟩ : Shape).Idx → α) (hc) (f : ℕ → α) (v : Fin K) (u : Fin L) (p : Fin M)
    (h0 : ∀ j : Fin 32, A0 (ix4 v u p j) = f (32 * 0 + j.val))
    (h1 : ∀ j : Fin 32, A1 (ix4 v u p j) = f (32 * 1 + j.val))
    (h2 : ∀ j : Fin 32, A2 (ix4 v u p j) = f (32 * 2 + j.val))
    (h3 : ∀ j : Fin 32, A3 (ix4 v u p j) = f (32 * 3 + j.val))
    (h4 : ∀ j : Fin 32, A4 (ix4 v u p j) = f (32 * 4 + j.val))
    (h5 : ∀ j : Fin 32, A5 (ix4 v u p j) = f (32 * 5 + j.val))
    (h6 : ∀ j : Fin 64, Z (ix4 v u p j) = f (192 + j.val)) (i : Fin 256) :
    concatenate (⟨4, ![K, L, M, 256]⟩ : Shape) (3 : Fin 4) [⟨(⟨4, ![K, L, M, 32]⟩ : Shape), A0⟩, ⟨(⟨4, ![K, L, M, 32]⟩ : Shape), A1⟩, ⟨(⟨4, ![K, L, M, 32]⟩ : Shape), A2⟩, ⟨(⟨4, ![K, L, M, 32]⟩ : Shape), A3⟩, ⟨(⟨4, ![K, L, M, 32]⟩ : Shape), A4⟩, ⟨(⟨4, ![K, L, M, 32]⟩ : Shape), A5⟩, ⟨(⟨4, ![K, L, M, 64]⟩ : Shape), Z⟩] hc (ix4 v u p i) = f i.val := by
  have hi := i.isLt
  by_cases g0 : i.val < 32
  · rw [last4At _ hc 0 (by simp) A0 rfl 0 (by simp [pre]) v u p i ⟨i.val - 0, by omega⟩ (by show 0 + (i.val - 0) = i.val; omega), h0]
    exact congrArg f (by show 32 * 0 + (i.val - 0) = i.val; omega)
  by_cases g1 : i.val < 64
  · rw [last4At _ hc 1 (by simp) A1 rfl 32 (by simp [pre]) v u p i ⟨i.val - 32, by omega⟩ (by show 32 + (i.val - 32) = i.val; omega), h1]
    exact congrArg f (by show 32 * 1 + (i.val - 32) = i.val; omega)
  by_cases g2 : i.val < 96
  · rw [last4At _ hc 2 (by simp) A2 rfl 64 (by simp [pre]) v u p i ⟨i.val - 64, by omega⟩ (by show 64 + (i.val - 64) = i.val; omega), h2]
    exact congrArg f (by show 32 * 2 + (i.val - 64) = i.val; omega)
  by_cases g3 : i.val < 128
  · rw [last4At _ hc 3 (by simp) A3 rfl 96 (by simp [pre]) v u p i ⟨i.val - 96, by omega⟩ (by show 96 + (i.val - 96) = i.val; omega), h3]
    exact congrArg f (by show 32 * 3 + (i.val - 96) = i.val; omega)
  by_cases g4 : i.val < 160
  · rw [last4At _ hc 4 (by simp) A4 rfl 128 (by simp [pre]) v u p i ⟨i.val - 128, by omega⟩ (by show 128 + (i.val - 128) = i.val; omega), h4]
    exact congrArg f (by show 32 * 4 + (i.val - 128) = i.val; omega)
  by_cases g5 : i.val < 192
  · rw [last4At _ hc 5 (by simp) A5 rfl 160 (by simp [pre]) v u p i ⟨i.val - 160, by omega⟩ (by show 160 + (i.val - 160) = i.val; omega), h5]
    exact congrArg f (by show 32 * 5 + (i.val - 160) = i.val; omega)
  · rw [last4At _ hc 6 (by simp) Z rfl 192 (by simp [pre]) v u p i ⟨i.val - 192, by omega⟩ (by show 192 + (i.val - 192) = i.val; omega), h6]
    exact congrArg f (by show 192 + (i.val - 192) = i.val; omega)

/-- Six arrays of last extent 32 and one of 64, joined along the last of three axes. -/
theorem last3_7 {L M : ℕ} (A0 A1 A2 A3 A4 A5 : (⟨3, ![L, M, 32]⟩ : Shape).Idx → α) (Z : (⟨3, ![L, M, 64]⟩ : Shape).Idx → α) (hc) (f : ℕ → α) (u : Fin L) (p : Fin M)
    (h0 : ∀ j : Fin 32, A0 (ix3 u p j) = f (32 * 0 + j.val))
    (h1 : ∀ j : Fin 32, A1 (ix3 u p j) = f (32 * 1 + j.val))
    (h2 : ∀ j : Fin 32, A2 (ix3 u p j) = f (32 * 2 + j.val))
    (h3 : ∀ j : Fin 32, A3 (ix3 u p j) = f (32 * 3 + j.val))
    (h4 : ∀ j : Fin 32, A4 (ix3 u p j) = f (32 * 4 + j.val))
    (h5 : ∀ j : Fin 32, A5 (ix3 u p j) = f (32 * 5 + j.val))
    (h6 : ∀ j : Fin 64, Z (ix3 u p j) = f (192 + j.val)) (i : Fin 256) :
    concatenate (⟨3, ![L, M, 256]⟩ : Shape) (2 : Fin 3) [⟨(⟨3, ![L, M, 32]⟩ : Shape), A0⟩, ⟨(⟨3, ![L, M, 32]⟩ : Shape), A1⟩, ⟨(⟨3, ![L, M, 32]⟩ : Shape), A2⟩, ⟨(⟨3, ![L, M, 32]⟩ : Shape), A3⟩, ⟨(⟨3, ![L, M, 32]⟩ : Shape), A4⟩, ⟨(⟨3, ![L, M, 32]⟩ : Shape), A5⟩, ⟨(⟨3, ![L, M, 64]⟩ : Shape), Z⟩] hc (ix3 u p i) = f i.val := by
  have hi := i.isLt
  by_cases g0 : i.val < 32
  · rw [last3At _ hc 0 (by simp) A0 rfl 0 (by simp [pre]) u p i ⟨i.val - 0, by omega⟩ (by show 0 + (i.val - 0) = i.val; omega), h0]
    exact congrArg f (by show 32 * 0 + (i.val - 0) = i.val; omega)
  by_cases g1 : i.val < 64
  · rw [last3At _ hc 1 (by simp) A1 rfl 32 (by simp [pre]) u p i ⟨i.val - 32, by omega⟩ (by show 32 + (i.val - 32) = i.val; omega), h1]
    exact congrArg f (by show 32 * 1 + (i.val - 32) = i.val; omega)
  by_cases g2 : i.val < 96
  · rw [last3At _ hc 2 (by simp) A2 rfl 64 (by simp [pre]) u p i ⟨i.val - 64, by omega⟩ (by show 64 + (i.val - 64) = i.val; omega), h2]
    exact congrArg f (by show 32 * 2 + (i.val - 64) = i.val; omega)
  by_cases g3 : i.val < 128
  · rw [last3At _ hc 3 (by simp) A3 rfl 96 (by simp [pre]) u p i ⟨i.val - 96, by omega⟩ (by show 96 + (i.val - 96) = i.val; omega), h3]
    exact congrArg f (by show 32 * 3 + (i.val - 96) = i.val; omega)
  by_cases g4 : i.val < 160
  · rw [last3At _ hc 4 (by simp) A4 rfl 128 (by simp [pre]) u p i ⟨i.val - 128, by omega⟩ (by show 128 + (i.val - 128) = i.val; omega), h4]
    exact congrArg f (by show 32 * 4 + (i.val - 128) = i.val; omega)
  by_cases g5 : i.val < 192
  · rw [last3At _ hc 5 (by simp) A5 rfl 160 (by simp [pre]) u p i ⟨i.val - 160, by omega⟩ (by show 160 + (i.val - 160) = i.val; omega), h5]
    exact congrArg f (by show 32 * 5 + (i.val - 160) = i.val; omega)
  · rw [last3At _ hc 6 (by simp) Z rfl 192 (by simp [pre]) u p i ⟨i.val - 192, by omega⟩ (by show 192 + (i.val - 192) = i.val; omega), h6]
    exact congrArg f (by show 192 + (i.val - 192) = i.val; omega)

end Joined

/-! ### The plain functions -/

/-- Turn the first `2 * h` entries by position: the two halves are rotated against each other, the rest pass. -/
def ropeAt (h : ℕ) (v c s : ℕ → EReal) (i : ℕ) : EReal :=
  if i < h then v i * c i - v (h + i) * s i
  else if i < 2 * h then v i * c (i - h) + v (i - h) * s (i - h) else v i

theorem ropeAt_lo {h : ℕ} {v c s : ℕ → EReal} {i : ℕ} (hi : i < h) :
    ropeAt h v c s i = v i * c i - v (h + i) * s i := if_pos hi

theorem ropeAt_mid {h : ℕ} {v c s : ℕ → EReal} {i : ℕ} (hi : i < h) :
    ropeAt h v c s (h + i) = v (h + i) * c i + v i * s i := by
  unfold ropeAt
  rw [if_neg (by omega), if_pos (by omega), Nat.add_sub_cancel_left]

theorem ropeAt_hi {h : ℕ} {v c s : ℕ → EReal} {i : ℕ} : ropeAt h v c s (h + h + i) = v (h + h + i) := by
  unfold ropeAt
  rw [if_neg (by omega), if_neg (by omega)]

/-- The second part of a three-way split: what is left of a value after its leading part. -/
def part1 (v : EReal) : EReal := v - v
/-- The third part: what is left after the first two. -/
def part2 (v : EReal) : EReal := (v - v) - (v - v)

/-- Which part of a query entry stands in each block of 32 of its packed row: lead, second, third, lead, second, lead. -/
def packq (v : EReal) (k : ℕ) : EReal :=
  if k = 0 then v else if k = 1 then part1 v else if k = 2 then part2 v else if k = 3 then v
  else if k = 4 then part1 v else if k = 5 then v else 0

/-- Which part of a key entry stands in each block of 32 of its packed row: lead ×3, second ×2, third. -/
def packk (v : EReal) (k : ℕ) : EReal :=
  if k = 0 then v else if k = 1 then v else if k = 2 then v else if k = 3 then part1 v
  else if k = 4 then part1 v else if k = 5 then part2 v else 0

/-- A packed row over the 32 entries `v`, by one of the two orders. -/
def packAt (o : EReal → ℕ → EReal) (v : ℕ → EReal) (i : ℕ) : EReal := o (v (i % 32)) (i / 32)

theorem packAt_blk {o : EReal → ℕ → EReal} {v : ℕ → EReal} {k j : ℕ} (hj : j < 32) :
    packAt o v (32 * k + j) = o (v j) k := by
  unfold packAt
  rw [show (32 * k + j) % 32 = j by omega, show (32 * k + j) / 32 = k by omega]

/-- A scale that is at least zero and finite moves in and out of a turn by position. -/
theorem ropeAt_scale {κ : EReal} (h0 : 0 ≤ κ) (h1 : κ ≠ ⊤) (h : ℕ) (v c s : ℕ → EReal) (i : ℕ) :
    ropeAt h (fun j => κ * v j) c s i = ropeAt h v c s i * κ := by
  have hs : ∀ a b : EReal, κ * a - κ * b = κ * (a - b) := fun a b => by
    rw [sub_eq_add_neg, sub_eq_add_neg, ← mul_neg, EReal.left_distrib_of_nonneg_of_ne_top h0 h1]
  unfold ropeAt
  split_ifs
  · rw [mul_assoc, mul_assoc, hs, mul_comm]
  · rw [mul_assoc, mul_assoc, ← EReal.left_distrib_of_nonneg_of_ne_top h0 h1, mul_comm]
  · rw [mul_comm]

/-- Such a scale moves out of a sum. -/
theorem sum_scale {n : ℕ} {κ : EReal} (h0 : 0 ≤ κ) (h1 : κ ≠ ⊤) (f : Fin n → EReal) :
    ∑ k, κ * f k = κ * ∑ k, f k := by
  induction n with
  | zero => simp
  | succ n ih => rw [Fin.sum_univ_succ, Fin.sum_univ_succ, ih, EReal.left_distrib_of_nonneg_of_ne_top h0 h1]

theorem packAt_zq {v : ℕ → EReal} {j : ℕ} : packAt packq v (192 + j) = 0 := by
  unfold packAt packq
  have h : (192 + j) / 32 ≥ 6 := by omega
  rw [if_neg (by omega), if_neg (by omega), if_neg (by omega), if_neg (by omega), if_neg (by omega), if_neg (by omega)]

theorem packAt_zk {v : ℕ → EReal} {j : ℕ} : packAt packk v (192 + j) = 0 := by
  unfold packAt packk
  have h : (192 + j) / 32 ≥ 6 := by omega
  rw [if_neg (by omega), if_neg (by omega), if_neg (by omega), if_neg (by omega), if_neg (by omega), if_neg (by omega)]

/-! ### Columns of a matrix as functions of the row number -/

/-- Column `p` of a matrix, zero past its last row. -/
def col {M N : ℕ} (x : (⟨2, ![M, N]⟩ : Shape).Idx → EReal) (p : Fin N) (j : ℕ) : EReal :=
  if h : j < M then x (ix2 ⟨j, h⟩ p) else 0

theorem col_of_lt {M N : ℕ} (x : (⟨2, ![M, N]⟩ : Shape).Idx → EReal) (p : Fin N) {j : ℕ} (h : j < M) :
    col x p j = x (ix2 ⟨j, h⟩ p) := dif_pos h

theorem col_at {M N : ℕ} (x : (⟨2, ![M, N]⟩ : Shape).Idx → EReal) (p : Fin N) (j : Fin M) :
    col x p j.val = x (ix2 j p) := dif_pos j.isLt

/-- Rows from `o`. -/
theorem slab_apply {M N K : ℕ} (o : ℕ) (x : (⟨2, ![M, N]⟩ : Shape).Idx → EReal) (h : (⟨2, ![M, N]⟩ : Shape).Slices ![o, 0] ⟨2, ![K, N]⟩)
    (hK : o + K ≤ M) (j : Fin K) (p : Fin N) : extractStridedSlice ⟨2, ![K, N]⟩ ![o, 0] x h (ix2 j p) = col x p (o + j.val) := by
  have := j.isLt
  rw [col_of_lt x p (show o + j.val < M by omega)]
  exact extractStridedSlice_apply ![o, 0] x h (ix2 j p) (ix2 ⟨o + j.val, _⟩ p) (fun a => by match a with | ⟨0, _⟩ => rfl | ⟨1, _⟩ => exact (Nat.zero_add _).symm)

/-- A column of the rows from `o`. -/
theorem col_slab {M N K : ℕ} (o : ℕ) (x : (⟨2, ![M, N]⟩ : Shape).Idx → EReal) (h : (⟨2, ![M, N]⟩ : Shape).Slices ![o, 0] ⟨2, ![K, N]⟩)
    (hK : o + K ≤ M) (p : Fin N) {j : ℕ} (hj : j < K) : col (extractStridedSlice ⟨2, ![K, N]⟩ ![o, 0] x h) p j = col x p (o + j) := by
  rw [col_of_lt _ p hj]; exact slab_apply o x h hK ⟨j, hj⟩ p

/-- Rows from `o` and columns from `q`. -/
theorem tile_apply {M N K L : ℕ} (o q : ℕ) (x : (⟨2, ![M, N]⟩ : Shape).Idx → EReal) (h : (⟨2, ![M, N]⟩ : Shape).Slices ![o, q] ⟨2, ![K, L]⟩)
    (hK : o + K ≤ M) (hL : q + L ≤ N) (j : Fin K) (p : Fin L) :
    extractStridedSlice ⟨2, ![K, L]⟩ ![o, q] x h (ix2 j p) = col x ⟨q + p.val, by omega⟩ (o + j.val) := by
  have := j.isLt
  rw [col_of_lt x _ (show o + j.val < M by omega)]
  exact extractStridedSlice_apply ![o, q] x h (ix2 j p) (ix2 ⟨o + j.val, _⟩ ⟨q + p.val, _⟩) (fun a => by match a with | ⟨0, _⟩ => rfl | ⟨1, _⟩ => rfl)

/-- A matrix transposed. -/
theorem turned_apply {α : Type} {M N : ℕ} (x : (⟨2, ![M, N]⟩ : Shape).Idx → α) (h : (⟨2, ![M, N]⟩ : Shape).Transposes [1, 0] ⟨2, ![N, M]⟩)
    (r : Fin N) (c : Fin M) : transpose ⟨2, ![N, M]⟩ [1, 0] x h (ix2 r c) = x (ix2 c r) :=
  transpose_apply [1, 0] x h _ (ix2 c r) (fun a => by match a with | ⟨0, _⟩ => rfl | ⟨1, _⟩ => rfl)

/-- Add a leading axis of extent one. -/
theorem lead_apply {α : Type} {M N : ℕ} (x : (⟨2, ![M, N]⟩ : Shape).Idx → α) (h : (⟨2, ![M, N]⟩ : Shape).ShapeCasts ⟨3, ![1, M, N]⟩)
    (u : Fin 1) (r : Fin M) (c : Fin N) : shapeCast ⟨3, ![1, M, N]⟩ x h (ix3 u r c) = x (ix2 r c) :=
  shapeCast_apply x h _ _ (by
    rw [Shape.rowMajor_val_three, Shape.rowMajor_val_two]
    show r.val * N + c.val = (u.val * M + r.val) * N + c.val
    have : u.val = 0 := by omega
    rw [this, Nat.zero_mul, Nat.zero_add])

/-- Add two leading axes of extent one. -/
theorem lead2_apply {α : Type} {M N : ℕ} (x : (⟨2, ![M, N]⟩ : Shape).Idx → α) (h : (⟨2, ![M, N]⟩ : Shape).ShapeCasts ⟨4, ![1, 1, M, N]⟩)
    (u v : Fin 1) (r : Fin M) (c : Fin N) : shapeCast ⟨4, ![1, 1, M, N]⟩ x h (ix4 u v r c) = x (ix2 r c) :=
  shapeCast_apply x h _ _ (by
    rw [Shape.rowMajor_val_four, Shape.rowMajor_val_two]
    show r.val * N + c.val = ((u.val * 1 + v.val) * M + r.val) * N + c.val
    have : u.val * 1 + v.val = 0 := by omega
    rw [this, Nat.zero_mul, Nat.zero_add])

/-- Turn the first eight entries by the entry four places on, with full-length factors; the rest pass. -/
def turn32 (v c s : ℕ → EReal) (i : ℕ) : EReal :=
  if i < 8 then v i * c i + v ((i + 4) % 8) * s i else v i

theorem turn32_lo {v c s : ℕ → EReal} {i : ℕ} (hi : i < 8) : turn32 v c s i = v i * c i + v ((i + 4) % 8) * s i := if_pos hi
theorem turn32_hi {v c s : ℕ → EReal} {i : ℕ} : turn32 v c s (8 + i) = v (8 + i) := if_neg (by omega)

/-- With the two halves of the factors the same cosines and opposite sines, it is the turn by position. -/
theorem turn32_eq {v c s c' s' : ℕ → EReal} (h0 : ∀ j, j < 4 → c' j = c j) (h1 : ∀ j, j < 4 → c' (4 + j) = c j)
    (h2 : ∀ j, j < 4 → s' j = -s j) (h3 : ∀ j, j < 4 → s' (4 + j) = s j) (i : ℕ) : turn32 v c' s' i = ropeAt 4 v c s i := by
  by_cases a : i < 4
  · rw [turn32_lo (by omega), ropeAt_lo a, h0 i a, h2 i a, show (i + 4) % 8 = 4 + i by omega, mul_neg, sub_eq_add_neg]
  by_cases b : i < 8
  · obtain ⟨j, rfl⟩ : ∃ j, i = 4 + j := ⟨i - 4, by omega⟩
    rw [turn32_lo b, ropeAt_mid (by omega), h1 j (by omega), h3 j (by omega), show (4 + j + 4) % 8 = j by omega]
  · obtain ⟨j, rfl⟩ : ∃ j, i = 8 + j := ⟨i - 8, by omega⟩
    rw [turn32_hi]
    exact (ropeAt_hi (h := 4)).symm

end Cert.Proj
-- ==== Proof.ProjSpec.lean ====
/- What the input projection leaves in its nine results, as functions of a batch, a position and a feature. (Hand-written, untrusted.) -/
module

public import proofs.«01_k».proof.Proof.ProjOps

@[expose] public section

noncomputable section

namespace Cert.Proj

open Cert.Rows Idealize.ShloMosaic Idealize.ShloMosaic.ValueIdx

/-- A position's row of a table, zero past its end. -/
def tab {N : ℕ} (T : (⟨2, ![2048, N]⟩ : Shape).Idx → EReal) (s j : ℕ) : EReal :=
  if h : s < 2048 ∧ j < N then T (ix2 ⟨s, h.1⟩ ⟨j, h.2⟩) else 0

theorem tab_at {N : ℕ} (T : (⟨2, ![2048, N]⟩ : Shape).Idx → EReal) (s : Fin 2048) (j : Fin N) : tab T s.val j.val = T (ix2 s j) :=
  dif_pos ⟨s.isLt, j.isLt⟩

/-- Only the entries of a head matter to its turn. -/
theorem ropeAt_congr {h D : ℕ} {v v' c c' s s' : ℕ → EReal} (hD : h + h ≤ D) (hv : ∀ j, j < D → v j = v' j) (hc : ∀ j, j < h → c j = c' j)
    (hs : ∀ j, j < h → s j = s' j) {i : ℕ} (hi : i < D) : ropeAt h v c s i = ropeAt h v' c' s' i := by
  unfold ropeAt
  by_cases a : i < h
  · rw [if_pos a, if_pos a, hv i hi, hv (h + i) (by omega), hc i a, hs i a]
  · by_cases b : i < 2 * h
    · rw [if_neg a, if_neg a, if_pos b, if_pos b, hv i hi, hv (i - h) (by omega), hc _ (by omega), hs _ (by omega)]
    · rw [if_neg a, if_neg a, if_neg b, if_neg b, hv i hi]

theorem turn32_congr {v v' c s : ℕ → EReal} (hv : ∀ j, j < 32 → v j = v' j) {i : ℕ} (hi : i < 32) : turn32 v c s i = turn32 v' c s i := by
  unfold turn32
  rw [hv i hi, hv _ (by omega)]

theorem packAt_congr {o : EReal → ℕ → EReal} {v v' : ℕ → EReal} (hv : ∀ j, j < 32 → v j = v' j) (i : ℕ) : packAt o v i = packAt o v' i := by
  unfold packAt
  rw [hv _ (by omega)]

section
variable (x : (⟨3, ![16, 2048, 1024]⟩ : Shape).Idx → EReal) (g b : (⟨1, ![1024]⟩ : Shape).Idx → EReal) (w : (⟨3, ![1, 1024, 7592]⟩ : Shape).Idx → EReal)

/-- The normalised row of a batch and a position. -/
def hRow (n : Fin 16) (s : Fin 2048) : Fin 1024 → EReal := lnRow (fun k => x (ix3 n s k)) (fun k => g (ix1 k)) (fun k => b (ix1 k))

/-- The projected row of a batch and a position, zero past its end. -/
def P (n s q : ℕ) : EReal :=
  if h : n < 16 ∧ s < 2048 ∧ q < 7592 then ∑ k, hRow x g b ⟨n, h.1⟩ ⟨s, h.2.1⟩ k * w (ix3 0 k ⟨q, h.2.2⟩) else 0

theorem P_at (n : Fin 16) (s : Fin 2048) (q : Fin 7592) : P x g b w n.val s.val q.val = ∑ k, hRow x g b n s k * w (ix3 0 k q) :=
  dif_pos ⟨n.isLt, s.isLt, q.isLt⟩
end

/-- The queries' scale, to base two. -/
abbrev κ : EReal := Ideal.ofBits .f32 0x3E38AA3B#32
/-- The index weights' scale. -/
abbrev κ4 : EReal := Ideal.ofBits .f32 0x3D800000#32

theorem κ_nonneg : 0 ≤ κ := by
  simp [κ, Ideal.ofBits, Ideal.ieee, -EReal.coe_mul]
theorem κ_ne_top : κ ≠ ⊤ := by
  simp [κ, Ideal.ofBits, Ideal.ieee, -EReal.coe_mul]
theorem κ4_nonneg : 0 ≤ κ4 := by
  simp [κ4, Ideal.ofBits, Ideal.ieee, -EReal.coe_mul]
theorem κ4_ne_top : κ4 ≠ ⊤ := by
  simp [κ4, Ideal.ofBits, Ideal.ieee, -EReal.coe_mul]

section
variable (p : ℕ → ℕ → ℕ → EReal) (c s c' s' : ℕ → ℕ → EReal)

/-- The first mixer's queries. -/
def rAq (n q t : ℕ) : EReal := ropeAt 8 (fun j => p n t (q / 64 * 64 + j)) (c t) (s t) (q % 64) * κ
/-- The second mixer's queries: each head's two maps, each beside zeros for the other. -/
def rBq (n q t : ℕ) : EReal :=
  if q % 128 / 64 = q / 128 % 2 then ropeAt 8 (fun j => p n t (1448 + q / 128 * 64 + j)) (c t) (s t) (q % 64) * κ else 0
/-- The packed index queries. -/
def rIq (n q t : ℕ) : EReal := packAt packq (ropeAt 4 (fun j => p n t (1152 + q / 256 * 32 + j)) (c' t) (s' t)) (q % 256)
/-- The index weights. -/
def rIw (n q t : ℕ) : EReal := p n t (1440 + q) * κ4
/-- The first mixer's values by blocks of 256 positions, over sixteen rows of ones. -/
def rAv (n t q i : ℕ) : EReal := if q < 64 then p n (256 * t + i) (576 + q) else 1
/-- The second mixer's values, each head's over sixteen rows of ones. -/
def rBv (n t q i : ℕ) : EReal := if q % 144 < 128 then p n (256 * t + i) (2472 + q / 144 * 128 + q % 144) else 1
/-- The second mixer's keys. -/
def rBk (r q : ℕ) : EReal := ropeAt 8 (fun j => p (r / 2048) (r % 2048) (1960 + q / 64 * 64 + j)) (c (r % 2048)) (s (r % 2048)) (q % 64)
/-- The first mixer's keys. -/
def rAk (r q : ℕ) : EReal := ropeAt 8 (fun j => p (r / 2048) (r % 2048) (512 + j)) (c (r % 2048)) (s (r % 2048)) q
/-- The packed index keys. -/
def rIk (r q : ℕ) : EReal := packAt packk (ropeAt 4 (fun j => p (r / 2048) (r % 2048) (1408 + j)) (c' (r % 2048)) (s' (r % 2048))) q
end

/-! ### Host operations read at a place -/

section Host
variable {α : Type}

/-- Split a matrix's columns into heads. -/
theorem split_apply {B S L D M : ℕ} (x : (⟨3, ![B, S, M]⟩ : Shape).Idx → α) (h : (⟨3, ![B, S, M]⟩ : Shape).ShapeCasts ⟨4, ![B, S, L, D]⟩)
    (hM : L * D = M) (n : Fin B) (s : Fin S) (u : Fin L) (i : Fin D) (q : Fin M) (hq : q.val = u.val * D + i.val) :
    shapeCast ⟨4, ![B, S, L, D]⟩ x h (ix4 n s u i) = x (ix3 n s q) :=
  shapeCast_apply x h _ _ (by
    rw [Shape.rowMajor_val_three, Shape.rowMajor_val_four]
    show (n.val * S + s.val) * M + q.val = ((n.val * S + s.val) * L + u.val) * D + i.val
    rw [hq, ← hM]; ring)

/-- Heads side by side. -/
theorem merge_apply {B S L D M : ℕ} (x : (⟨4, ![B, S, L, D]⟩ : Shape).Idx → α) (h : (⟨4, ![B, S, L, D]⟩ : Shape).ShapeCasts ⟨3, ![B, S, M]⟩)
    (hM : L * D = M) (n : Fin B) (s : Fin S) (u : Fin L) (i : Fin D) (q : Fin M) (hq : q.val = u.val * D + i.val) :
    shapeCast ⟨3, ![B, S, M]⟩ x h (ix3 n s q) = x (ix4 n s u i) :=
  shapeCast_apply x h _ _ (by
    rw [Shape.rowMajor_val_three, Shape.rowMajor_val_four]
    show ((n.val * S + s.val) * L + u.val) * D + i.val = (n.val * S + s.val) * M + q.val
    rw [hq, ← hM]; ring)

/-- Batches one above another, heads side by side. -/
theorem rows4_apply {B S L D M R : ℕ} (x : (⟨4, ![B, S, L, D]⟩ : Shape).Idx → α) (h : (⟨4, ![B, S, L, D]⟩ : Shape).ShapeCasts ⟨2, ![R, M]⟩)
    (hM : L * D = M) (n : Fin B) (s : Fin S) (u : Fin L) (i : Fin D) (r : Fin R) (q : Fin M) (hr : r.val = n.val * S + s.val) (hq : q.val = u.val * D + i.val) :
    shapeCast ⟨2, ![R, M]⟩ x h (ix2 r q) = x (ix4 n s u i) :=
  shapeCast_apply x h _ _ (by
    rw [Shape.rowMajor_val_two, Shape.rowMajor_val_four]
    show ((n.val * S + s.val) * L + u.val) * D + i.val = r.val * M + q.val
    rw [hr, hq, ← hM]; ring)

/-- Batches one above another. -/
theorem rows3_apply {B S M R : ℕ} (x : (⟨3, ![B, S, M]⟩ : Shape).Idx → α) (h : (⟨3, ![B, S, M]⟩ : Shape).ShapeCasts ⟨2, ![R, M]⟩)
    (n : Fin B) (s : Fin S) (r : Fin R) (q : Fin M) (hr : r.val = n.val * S + s.val) :
    shapeCast ⟨2, ![R, M]⟩ x h (ix2 r q) = x (ix3 n s q) :=
  shapeCast_apply x h _ _ (by
    rw [Shape.rowMajor_val_two, Shape.rowMajor_val_three]
    show (n.val * S + s.val) * M + q.val = r.val * M + q.val
    rw [hr])

/-- Positions by blocks, heads side by side. -/
theorem blocks_apply {B S T Q L D M : ℕ} (x : (⟨4, ![B, S, L, D]⟩ : Shape).Idx → α) (h : (⟨4, ![B, S, L, D]⟩ : Shape).ShapeCasts ⟨4, ![B, T, Q, M]⟩)
    (hM : L * D = M) (hS : T * Q = S) (n : Fin B) (t : Fin T) (i : Fin Q) (s : Fin S) (hs : s.val = t.val * Q + i.val) (u : Fin L) (d : Fin D) (q : Fin M)
    (hq : q.val = u.val * D + d.val) : shapeCast ⟨4, ![B, T, Q, M]⟩ x h (ix4 n t i q) = x (ix4 n s u d) :=
  shapeCast_apply x h _ _ (by
    rw [Shape.rowMajor_val_four, Shape.rowMajor_val_four]
    show ((n.val * S + s.val) * L + u.val) * D + d.val = ((n.val * T + t.val) * Q + i.val) * M + q.val
    rw [hs, hq, ← hM, ← hS]; ring)

/-- The last two of three axes swapped, and of four. -/
theorem swap3_apply {B M N : ℕ} (x : (⟨3, ![B, M, N]⟩ : Shape).Idx → α) (h : (⟨3, ![B, M, N]⟩ : Shape).Transposes [0, 2, 1] ⟨3, ![B, N, M]⟩)
    (n : Fin B) (r : Fin N) (c : Fin M) : transpose ⟨3, ![B, N, M]⟩ [0, 2, 1] x h (ix3 n r c) = x (ix3 n c r) :=
  transpose_apply [0, 2, 1] x h _ (ix3 n c r) (fun a => by match a with | ⟨0, _⟩ => rfl | ⟨1, _⟩ => rfl | ⟨2, _⟩ => rfl)
theorem swap4_apply {A B M N : ℕ} (x : (⟨4, ![A, B, M, N]⟩ : Shape).Idx → α) (h : (⟨4, ![A, B, M, N]⟩ : Shape).Transposes [0, 1, 3, 2] ⟨4, ![A, B, N, M]⟩)
    (n : Fin A) (t : Fin B) (r : Fin N) (c : Fin M) : transpose ⟨4, ![A, B, N, M]⟩ [0, 1, 3, 2] x h (ix4 n t r c) = x (ix4 n t c r) :=
  transpose_apply [0, 1, 3, 2] x h _ (ix4 n t c r) (fun a => by match a with | ⟨0, _⟩ => rfl | ⟨1, _⟩ => rfl | ⟨2, _⟩ => rfl | ⟨3, _⟩ => rfl)

/-- Columns from `o`, of three axes and of four. -/
theorem cut3_apply {A B M K : ℕ} (o : ℕ) (x : (⟨3, ![A, B, M]⟩ : Shape).Idx → α) (h : (⟨3, ![A, B, M]⟩ : Shape).Slices ![0, 0, o] ⟨3, ![A, B, K]⟩)
    (n : Fin A) (s : Fin B) (j : Fin K) (q : Fin M) (hq : q.val = o + j.val) : extractStridedSlice ⟨3, ![A, B, K]⟩ ![0, 0, o] x h (ix3 n s j) = x (ix3 n s q) :=
  extractStridedSlice_apply _ x h _ (ix3 n s q) (fun a => by
    match a with
    | ⟨0, _⟩ => show n.val = 0 + n.val; omega
    | ⟨1, _⟩ => show s.val = 0 + s.val; omega
    | ⟨2, _⟩ => exact hq)
theorem cut4_apply {A B C M K : ℕ} (o : ℕ) (x : (⟨4, ![A, B, C, M]⟩ : Shape).Idx → α) (h : (⟨4, ![A, B, C, M]⟩ : Shape).Slices ![0, 0, 0, o] ⟨4, ![A, B, C, K]⟩)
    (n : Fin A) (s : Fin B) (u : Fin C) (j : Fin K) (q : Fin M) (hq : q.val = o + j.val) :
    extractStridedSlice ⟨4, ![A, B, C, K]⟩ ![0, 0, 0, o] x h (ix4 n s u j) = x (ix4 n s u q) :=
  extractStridedSlice_apply _ x h _ (ix4 n s u q) (fun a => by
    match a with
    | ⟨0, _⟩ => show n.val = 0 + n.val; omega
    | ⟨1, _⟩ => show s.val = 0 + s.val; omega
    | ⟨2, _⟩ => show u.val = 0 + u.val; omega
    | ⟨3, _⟩ => exact hq)

/-- One head set apart. -/
theorem head_apply {D : ℕ} (x : (⟨3, ![16, 2048, D]⟩ : Shape).Idx → α) (h : (⟨3, ![16, 2048, D]⟩ : Shape).BroadcastsInDim ⟨4, ![16, 2048, 1, D]⟩ ![0, 1, 3])
    (hD : D ≠ 1) (n : Fin 16) (s : Fin 2048) (u : Fin 1) (i : Fin D) : broadcastInDim ⟨4, ![16, 2048, 1, D]⟩ ![0, 1, 3] h x (ix4 n s u i) = x (ix3 n s i) :=
  broadcastInDim_apply _ h x _ (ix3 n s i) (fun a => by
    match a with
    | ⟨0, _⟩ => rfl
    | ⟨1, _⟩ => rfl
    | ⟨2, _⟩ => exact (if_neg hD).symm)

/-- A table spread over the batches and the heads. -/
theorem spread_apply {L h : ℕ} (T : (⟨2, ![2048, h]⟩ : Shape).Idx → α) (h1 : (⟨2, ![2048, h]⟩ : Shape).BroadcastsInDim ⟨3, ![2048, 1, h]⟩ ![0, 2])
    (h2 : (⟨3, ![2048, 1, h]⟩ : Shape).BroadcastsInDim ⟨4, ![1, 2048, 1, h]⟩ ![1, 2, 3]) (h3 : (⟨4, ![1, 2048, 1, h]⟩ : Shape).BroadcastsInDim ⟨4, ![16, 2048, L, h]⟩ ![0, 1, 2, 3])
    (hh : h ≠ 1) (n : Fin 16) (s : Fin 2048) (u : Fin L) (j : Fin h) :
    broadcastInDim ⟨4, ![16, 2048, L, h]⟩ ![0, 1, 2, 3] h3 (broadcastInDim ⟨4, ![1, 2048, 1, h]⟩ ![1, 2, 3] h2 (broadcastInDim ⟨3, ![2048, 1, h]⟩ ![0, 2] h1 T)) (ix4 n s u j)
      = T (ix2 s j) := by
  refine (broadcastInDim_apply _ h3 _ _ (ix4 0 s 0 j) (fun a => ?_)).trans ((broadcastInDim_apply _ h2 _ _ (ix3 s 0 j) (fun a => ?_)).trans
    (broadcastInDim_apply _ h1 _ _ (ix2 s j) (fun a => ?_)))
  · match a with
    | ⟨0, _⟩ => rfl
    | ⟨1, _⟩ => rfl
    | ⟨2, _⟩ => rfl
    | ⟨3, _⟩ => exact (if_neg hh).symm
  · match a with
    | ⟨0, _⟩ => rfl
    | ⟨1, _⟩ => rfl
    | ⟨2, _⟩ => exact (if_neg hh).symm
  · match a with
    | ⟨0, _⟩ => rfl
    | ⟨1, _⟩ => exact (if_neg hh).symm

/-- One value everywhere. -/
theorem all_apply {t : Shape} (h : (⟨0, ![]⟩ : Shape).BroadcastsInDim t ![]) (x : (⟨0, ![]⟩ : Shape).Idx → α) (j : t.Idx) (k : (⟨0, ![]⟩ : Shape).Idx) :
    broadcastInDim t ![] h x j = x k := broadcastInDim_apply _ h x j k (fun a => absurd a.isLt (Nat.not_lt_zero _))

end Host

/-- The turn by position of heads, as the reference does it. -/
theorem turn_apply {L D h t : ℕ} (v : FVec Ideal ⟨4, ![16, 2048, L, D]⟩ .f32) (C S : FVec Ideal ⟨2, ![2048, h]⟩ .f32)
    (k1 : (⟨4, ![16, 2048, L, D]⟩ : Shape).Slices ![0, 0, 0, 0] ⟨4, ![16, 2048, L, h]⟩) (k2 : (⟨4, ![16, 2048, L, D]⟩ : Shape).Slices ![0, 0, 0, h] ⟨4, ![16, 2048, L, h]⟩)
    (k3 : (⟨4, ![16, 2048, L, D]⟩ : Shape).Slices ![0, 0, 0, h + h] ⟨4, ![16, 2048, L, t]⟩)
    (h1 : (⟨2, ![2048, h]⟩ : Shape).BroadcastsInDim ⟨3, ![2048, 1, h]⟩ ![0, 2])
    (h2 : (⟨3, ![2048, 1, h]⟩ : Shape).BroadcastsInDim ⟨4, ![1, 2048, 1, h]⟩ ![1, 2, 3]) (h3 : (⟨4, ![1, 2048, 1, h]⟩ : Shape).BroadcastsInDim ⟨4, ![16, 2048, L, h]⟩ ![0, 1, 2, 3]) (hc)
    (hh : h ≠ 1) (hD : h + h + t = D) (n : Fin 16) (s : Fin 2048) (u : Fin L) (f : ℕ → EReal) (hf : ∀ i : Fin D, v (ix4 n s u i) = f i.val) (i : Fin D) :
    concatenate ⟨4, ![16, 2048, L, D]⟩ (3 : Fin 4)
      [⟨⟨4, ![16, 2048, L, h]⟩, subf
          (mulf (extractStridedSlice ⟨4, ![16, 2048, L, h]⟩ ![0, 0, 0, 0] v k1)
            (broadcastInDim ⟨4, ![16, 2048, L, h]⟩ ![0, 1, 2, 3] h3 (broadcastInDim ⟨4, ![1, 2048, 1, h]⟩ ![1, 2, 3] h2 (broadcastInDim ⟨3, ![2048, 1, h]⟩ ![0, 2] h1 C)) : FVec Ideal _ .f32))
          (mulf (extractStridedSlice ⟨4, ![16, 2048, L, h]⟩ ![0, 0, 0, h] v k2)
            (broadcastInDim ⟨4, ![16, 2048, L, h]⟩ ![0, 1, 2, 3] h3 (broadcastInDim ⟨4, ![1, 2048, 1, h]⟩ ![1, 2, 3] h2 (broadcastInDim ⟨3, ![2048, 1, h]⟩ ![0, 2] h1 S))))⟩,
       ⟨⟨4, ![16, 2048, L, h]⟩, addf
          (mulf (extractStridedSlice ⟨4, ![16, 2048, L, h]⟩ ![0, 0, 0, h] v k2)
            (broadcastInDim ⟨4, ![16, 2048, L, h]⟩ ![0, 1, 2, 3] h3 (broadcastInDim ⟨4, ![1, 2048, 1, h]⟩ ![1, 2, 3] h2 (broadcastInDim ⟨3, ![2048, 1, h]⟩ ![0, 2] h1 C)) : FVec Ideal _ .f32))
          (mulf (extractStridedSlice ⟨4, ![16, 2048, L, h]⟩ ![0, 0, 0, 0] v k1)
            (broadcastInDim ⟨4, ![16, 2048, L, h]⟩ ![0, 1, 2, 3] h3 (broadcastInDim ⟨4, ![1, 2048, 1, h]⟩ ![1, 2, 3] h2 (broadcastInDim ⟨3, ![2048, 1, h]⟩ ![0, 2] h1 S))))⟩,
       ⟨⟨4, ![16, 2048, L, t]⟩, extractStridedSlice ⟨4, ![16, 2048, L, t]⟩ ![0, 0, 0, h + h] v k3⟩] hc (ix4 n s u i)
      = ropeAt h f (tab C s.val) (tab S s.val) i.val := by
  have lo : ∀ j : Fin h, extractStridedSlice ⟨4, ![16, 2048, L, h]⟩ ![0, 0, 0, 0] v k1 (ix4 n s u j) = f j.val := fun j =>
    (cut4_apply 0 v k1 n s u j ⟨j.val, by omega⟩ (by simp)).trans (hf _)
  have hi : ∀ j : Fin h, extractStridedSlice ⟨4, ![16, 2048, L, h]⟩ ![0, 0, 0, h] v k2 (ix4 n s u j) = f (h + j.val) := fun j =>
    (cut4_apply h v k2 n s u j ⟨h + j.val, by omega⟩ rfl).trans (hf _)
  refine last4_3 (a := h) (b := h) (c := t) (D := D) _ _ _ _ (ropeAt h f (tab C s.val) (tab S s.val)) n s u hD (fun j => ?_) (fun j => ?_) (fun j => ?_) i
  · rw [ropeAt_lo j.isLt, subf_apply, mulf_apply, mulf_apply, tab_at, tab_at]
    exact congrArg₂ (· - ·) (congrArg₂ (· * ·) (lo j) (spread_apply C h1 h2 h3 hh n s u j)) (congrArg₂ (· * ·) (hi j) (spread_apply S h1 h2 h3 hh n s u j))
  · rw [ropeAt_mid j.isLt, addf_apply, mulf_apply, mulf_apply, tab_at, tab_at]
    exact congrArg₂ (· + ·) (congrArg₂ (· * ·) (hi j) (spread_apply C h1 h2 h3 hh n s u j)) (congrArg₂ (· * ·) (lo j) (spread_apply S h1 h2 h3 hh n s u j))
  · rw [ropeAt_hi]
    exact (cut4_apply (h + h) v k3 n s u j ⟨h + h + j.val, by omega⟩ rfl).trans (hf _)

end Cert.Proj
-- ==== Proof.ProjRef.lean ====
/- The reference of the input projections read at a batch, a position and a feature. (Hand-written, untrusted.) -/
module

public import proofs.«01_k».proof.Proof.ProjSpec
public import proofs.«01_k».proof.Proof.Gen.Reference3Ideal.Read

@[expose] public section

set_option maxRecDepth 16384

noncomputable section

namespace Cert.Reference3Ideal.RefValue

open Idealize.ShloMosaic
open Idealize.ShloMosaic.TcCoe Idealize.SL.Sem Idealize.ShloMosaic.ValueIdx
open Cert.Reference3Ideal Cert.Reference3Ideal.Gen Cert.Reference3Ideal.Read Cert.Rows Cert.Proj

section Indices
variable (b : Fin 16) (p : Fin 2048) (c k : Fin 1024) (z : Fin 1)

theorem i0 : idx_main_v0 (ix2 b p) k = ix3 b p k := funext fun a => Fin.ext (by match a with | ⟨0, _⟩ => rfl | ⟨1, _⟩ => rfl | ⟨2, _⟩ => rfl)
theorem i1 : idx_main_v1 (ix3 b p z) = ix2 b p := funext fun a => Fin.ext (by match a with | ⟨0, _⟩ => rfl | ⟨1, _⟩ => rfl)
theorem i4 : idx_main_v4 (ix3 b p c) = ix3 b p 0 := funext fun a => Fin.ext (by match a with | ⟨0, _⟩ => rfl | ⟨1, _⟩ => rfl | ⟨2, _⟩ => rfl)
theorem i7 : idx_main_v7 (ix2 b p) k = ix3 b p k := funext fun a => Fin.ext (by match a with | ⟨0, _⟩ => rfl | ⟨1, _⟩ => rfl | ⟨2, _⟩ => rfl)
theorem i8 : idx_main_v8 (ix3 b p z) = ix2 b p := funext fun a => Fin.ext (by match a with | ⟨0, _⟩ => rfl | ⟨1, _⟩ => rfl)
theorem i11 : idx_main_v11 (ix3 b p c) = ix3 b p 0 := funext fun a => Fin.ext (by match a with | ⟨0, _⟩ => rfl | ⟨1, _⟩ => rfl | ⟨2, _⟩ => rfl)
theorem i16 : idx_main_v16 (ix3 b p c) = ix3 b p 0 := funext fun a => Fin.ext (by match a with | ⟨0, _⟩ => rfl | ⟨1, _⟩ => rfl | ⟨2, _⟩ => rfl)
theorem i18 : idx_main_v18 (ix3 0 0 c) = ix1 c := funext fun a => Fin.ext (by match a with | ⟨0, _⟩ => rfl)
theorem i19 : idx_main_v19 (ix3 b p c) = ix3 0 0 c := funext fun a => Fin.ext (by match a with | ⟨0, _⟩ => rfl | ⟨1, _⟩ => rfl | ⟨2, _⟩ => rfl)
theorem i21 : idx_main_v21 (ix3 0 0 c) = ix1 c := funext fun a => Fin.ext (by match a with | ⟨0, _⟩ => rfl)
theorem i22 : idx_main_v22 (ix3 b p c) = ix3 0 0 c := funext fun a => Fin.ext (by match a with | ⟨0, _⟩ => rfl | ⟨1, _⟩ => rfl | ⟨2, _⟩ => rfl)
theorem i24 (q : Fin 7592) : idx_main_v24 (ix2 k q) = ix3 0 k q := funext fun a => Fin.ext (by
  match a with
  | ⟨0, _⟩ => rfl
  | ⟨1, _⟩ => show (k.val * 7592 + q.val) / 7592 % 1024 = k.val; omega
  | ⟨2, _⟩ => show (k.val * 7592 + q.val) % 7592 = q.val; omega)
theorem il25 (q : Fin 7592) : lidx_main_v25 (ix3 b p q) k = ix3 b p k := funext fun a => Fin.ext (by match a with | ⟨0, _⟩ => rfl | ⟨1, _⟩ => rfl | ⟨2, _⟩ => rfl)
theorem ir25 (q : Fin 7592) : ridx_main_v25 (ix3 b p q) k = ix2 k q := funext fun a => Fin.ext (by match a with | ⟨0, _⟩ => rfl | ⟨1, _⟩ => rfl)
end Indices

variable (x0 : FVec Ideal S16x2048x1024 .f32) (x1 x2 : FVec Ideal S1024 .f32) (x3 : FVec Ideal S1x1024x7592 .f32)
variable (b : Fin 16) (p : Fin 2048)

/-- The tables of cosines and sines, for heads of 64 and of 32. -/
abbrev C64 : FVec Ideal S2048x8 .f32 := val_main_v52 (F := Ideal)
abbrev S64 : FVec Ideal S2048x8 .f32 := val_main_v53 (F := Ideal)
abbrev C32 : FVec Ideal S2048x4 .f32 := val_main_v66 (F := Ideal)
abbrev S32 : FVec Ideal S2048x4 .f32 := val_main_v67 (F := Ideal)
/-- The projected rows. -/
abbrev pr : ℕ → ℕ → ℕ → EReal := P x0 x1 x2 x3

theorem v3_at (z : Fin 1) : val_main_v3 (F := Ideal) x0 (ix3 b p z) = mean fun k => x0 (ix3 b p k) := by
  simp only [val_main_v3_apply, val_main_v1_apply, i1, val_main_v0_apply, i0, val_main_cst_apply, val_main_v2_apply, val_main_cst_0_apply]
  show Ideal.div (Ideal.ofBits .f32 0x00000000#32 + _) _ = _
  rw [Ideal.ofBits_zero_f32, zero_add]; rfl

/-- The normalisation. -/
theorem v23_at (c : Fin 1024) : val_main_v23 (F := Ideal) x0 x1 x2 (ix3 b p c) = hRow x0 x1 x2 b p c := by
  simp only [val_main_v23_apply, val_main_v22_apply, val_main_v21_apply, val_main_v20_apply, val_main_v19_apply, val_main_v18_apply, val_main_v17_apply, val_main_v16_apply,
    val_main_v15_apply, val_main_v14_apply, val_main_v13_apply, val_main_cst_3_apply, val_main_v12_apply, val_main_v11_apply, val_main_v10_apply, val_main_v9_apply, val_main_cst_2_apply,
    val_main_v8_apply, val_main_v7_apply, val_main_cst_1_apply, val_main_v6_apply, val_main_v5_apply, val_main_v4_apply, i4, i7, i8, i11, i16, i18, i19, i21, i22, v3_at]
  rw [show ∀ y : EReal, FloatOps.ofBits (F := Ideal) .f32 0x00000000#32 + y = y from fun y => by
    show Ideal.ofBits .f32 0x00000000#32 + y = y; rw [Ideal.ofBits_zero_f32, zero_add]]
  rfl

/-- The projection of a row by the whole weight. -/
theorem v25_at (q : Fin 7592) : val_main_v25 (F := Ideal) x0 x1 x2 x3 (ix3 b p q) = pr x0 x1 x2 x3 b.val p.val q.val := by
  rw [val_main_v25_apply]
  refine Eq.trans ?_ (P_at x0 x1 x2 x3 b p q).symm
  refine Finset.sum_congr rfl fun k _ => ?_
  rw [il25, ir25, v23_at, val_main_v24_apply, i24]

/-- Columns of the projection from `o`. -/
theorem cols_at {K : ℕ} (o : ℕ) (h : S16x2048x7592.Slices ![0, 0, o] ⟨3, ![16, 2048, K]⟩) (ho : o + K ≤ 7592) (j : Fin K) :
    extractStridedSlice ⟨3, ![16, 2048, K]⟩ ![0, 0, o] (val_main_v25 (F := Ideal) x0 x1 x2 x3) h (ix3 b p j) = pr x0 x1 x2 x3 b.val p.val (o + j.val) :=
  (cut3_apply o _ h b p j ⟨o + j.val, by omega⟩ rfl).trans (v25_at x0 x1 x2 x3 b p _)

/-- The heads before their turn. -/
theorem v68_at (u : Fin 8) (i : Fin 64) : val_main_v68 (F := Ideal) x0 x1 x2 x3 (ix4 b p u i) = pr x0 x1 x2 x3 b.val p.val (u.val * 64 + i.val) := by
  refine (split_apply (val_main_v26 (F := Ideal) x0 x1 x2 x3) shapeCasts_S16x2048x512_S16x2048x8x64 rfl b p u i ⟨u.val * 64 + i.val, by omega⟩ rfl).trans ?_
  refine (cols_at x0 x1 x2 x3 b p 0 slices_S16x2048x7592_S16x2048x512_0_0_0 (by decide) _).trans ?_
  rw [Nat.zero_add]
theorem v158_at (u : Fin 8) (i : Fin 64) : val_main_v158 (F := Ideal) x0 x1 x2 x3 (ix4 b p u i) = pr x0 x1 x2 x3 b.val p.val (1448 + u.val * 64 + i.val) := by
  refine (split_apply (val_main_v33 (F := Ideal) x0 x1 x2 x3) shapeCasts_S16x2048x512_S16x2048x8x64 rfl b p u i ⟨u.val * 64 + i.val, by omega⟩ rfl).trans ?_
  refine (cols_at x0 x1 x2 x3 b p 1448 slices_S16x2048x7592_S16x2048x512_0_0_1448 (by decide) _).trans ?_
  rw [Nat.add_assoc]
theorem v182_at (u : Fin 8) (i : Fin 64) : val_main_v182 (F := Ideal) x0 x1 x2 x3 (ix4 b p u i) = pr x0 x1 x2 x3 b.val p.val (1960 + u.val * 64 + i.val) := by
  refine (split_apply (val_main_v34 (F := Ideal) x0 x1 x2 x3) shapeCasts_S16x2048x512_S16x2048x8x64 rfl b p u i ⟨u.val * 64 + i.val, by omega⟩ rfl).trans ?_
  refine (cols_at x0 x1 x2 x3 b p 1960 slices_S16x2048x7592_S16x2048x512_0_0_1960 (by decide) _).trans ?_
  rw [Nat.add_assoc]
theorem v113_at (u : Fin 8) (i : Fin 32) : val_main_v113 (F := Ideal) x0 x1 x2 x3 (ix4 b p u i) = pr x0 x1 x2 x3 b.val p.val (1152 + u.val * 32 + i.val) := by
  refine (split_apply (val_main_v30 (F := Ideal) x0 x1 x2 x3) shapeCasts_S16x2048x256_S16x2048x8x32 rfl b p u i ⟨u.val * 32 + i.val, by omega⟩ rfl).trans ?_
  refine (cols_at x0 x1 x2 x3 b p 1152 slices_S16x2048x7592_S16x2048x256_0_0_1152 (by decide) _).trans ?_
  rw [Nat.add_assoc]
theorem v91_at (u : Fin 1) (i : Fin 64) : val_main_v91 (F := Ideal) x0 x1 x2 x3 (ix4 b p u i) = pr x0 x1 x2 x3 b.val p.val (512 + i.val) :=
  (head_apply (val_main_v27 (F := Ideal) x0 x1 x2 x3) bcast_S16x2048x64_S16x2048x1x64_0_1_3 (by decide) b p u i).trans
    (cols_at x0 x1 x2 x3 b p 512 slices_S16x2048x7592_S16x2048x64_0_0_512 (by decide) _)
theorem v134_at (u : Fin 1) (i : Fin 32) : val_main_v134 (F := Ideal) x0 x1 x2 x3 (ix4 b p u i) = pr x0 x1 x2 x3 b.val p.val (1408 + i.val) :=
  (head_apply (val_main_v31 (F := Ideal) x0 x1 x2 x3) bcast_S16x2048x32_S16x2048x1x32_0_1_3 (by decide) b p u i).trans
    (cols_at x0 x1 x2 x3 b p 1408 slices_S16x2048x7592_S16x2048x32_0_0_1408 (by decide) _)

/-- The heads turned. -/
theorem v88_at (u : Fin 8) (i : Fin 64) : val_main_v88 (F := Ideal) x0 x1 x2 x3 (ix4 b p u i)
    = ropeAt 8 (fun j => pr x0 x1 x2 x3 b.val p.val (u.val * 64 + j)) (tab C64 p.val) (tab S64 p.val) i.val :=
  turn_apply (L := 8) (D := 64) (h := 8) (t := 48) (val_main_v68 (F := Ideal) x0 x1 x2 x3) C64 S64 slices_S16x2048x8x64_S16x2048x8x8_0_0_0_0 slices_S16x2048x8x64_S16x2048x8x8_0_0_0_8
    slices_S16x2048x8x64_S16x2048x8x48_0_0_0_16 bcast_S2048x8_S2048x1x8_0_2 bcast_S2048x1x8_S1x2048x1x8_1_2_3 bcast_S1x2048x1x8_S16x2048x8x8_0_1_2_3
    concatenates_S16x2048x8x8_S16x2048x8x8_S16x2048x8x48_S16x2048x8x64_d3 (by decide) rfl b p u (fun j => pr x0 x1 x2 x3 b.val p.val (u.val * 64 + j)) (fun i => v68_at x0 x1 x2 x3 b p u i) i
theorem v178_at (u : Fin 8) (i : Fin 64) : val_main_v178 (F := Ideal) x0 x1 x2 x3 (ix4 b p u i)
    = ropeAt 8 (fun j => pr x0 x1 x2 x3 b.val p.val (1448 + u.val * 64 + j)) (tab C64 p.val) (tab S64 p.val) i.val :=
  turn_apply (L := 8) (D := 64) (h := 8) (t := 48) (val_main_v158 (F := Ideal) x0 x1 x2 x3) C64 S64 slices_S16x2048x8x64_S16x2048x8x8_0_0_0_0 slices_S16x2048x8x64_S16x2048x8x8_0_0_0_8
    slices_S16x2048x8x64_S16x2048x8x48_0_0_0_16 bcast_S2048x8_S2048x1x8_0_2 bcast_S2048x1x8_S1x2048x1x8_1_2_3 bcast_S1x2048x1x8_S16x2048x8x8_0_1_2_3
    concatenates_S16x2048x8x8_S16x2048x8x8_S16x2048x8x48_S16x2048x8x64_d3 (by decide) rfl b p u (fun j => pr x0 x1 x2 x3 b.val p.val (1448 + u.val * 64 + j)) (fun i => v158_at x0 x1 x2 x3 b p u i) i
theorem v202_at (u : Fin 8) (i : Fin 64) : val_main_v202 (F := Ideal) x0 x1 x2 x3 (ix4 b p u i)
    = ropeAt 8 (fun j => pr x0 x1 x2 x3 b.val p.val (1960 + u.val * 64 + j)) (tab C64 p.val) (tab S64 p.val) i.val :=
  turn_apply (L := 8) (D := 64) (h := 8) (t := 48) (val_main_v182 (F := Ideal) x0 x1 x2 x3) C64 S64 slices_S16x2048x8x64_S16x2048x8x8_0_0_0_0 slices_S16x2048x8x64_S16x2048x8x8_0_0_0_8
    slices_S16x2048x8x64_S16x2048x8x48_0_0_0_16 bcast_S2048x8_S2048x1x8_0_2 bcast_S2048x1x8_S1x2048x1x8_1_2_3 bcast_S1x2048x1x8_S16x2048x8x8_0_1_2_3
    concatenates_S16x2048x8x8_S16x2048x8x8_S16x2048x8x48_S16x2048x8x64_d3 (by decide) rfl b p u (fun j => pr x0 x1 x2 x3 b.val p.val (1960 + u.val * 64 + j)) (fun i => v182_at x0 x1 x2 x3 b p u i) i
theorem v111_at (u : Fin 1) (i : Fin 64) : val_main_v111 (F := Ideal) x0 x1 x2 x3 (ix4 b p u i)
    = ropeAt 8 (fun j => pr x0 x1 x2 x3 b.val p.val (512 + j)) (tab C64 p.val) (tab S64 p.val) i.val :=
  turn_apply (L := 1) (D := 64) (h := 8) (t := 48) (val_main_v91 (F := Ideal) x0 x1 x2 x3) C64 S64 slices_S16x2048x1x64_S16x2048x1x8_0_0_0_0 slices_S16x2048x1x64_S16x2048x1x8_0_0_0_8
    slices_S16x2048x1x64_S16x2048x1x48_0_0_0_16 bcast_S2048x8_S2048x1x8_0_2 bcast_S2048x1x8_S1x2048x1x8_1_2_3 bcast_S1x2048x1x8_S16x2048x1x8_0_1_2_3
    concatenates_S16x2048x1x8_S16x2048x1x8_S16x2048x1x48_S16x2048x1x64_d3 (by decide) rfl b p u (fun j => pr x0 x1 x2 x3 b.val p.val (512 + j)) (fun i => v91_at x0 x1 x2 x3 b p u i) i
theorem v133_at (u : Fin 8) (i : Fin 32) : val_main_v133 (F := Ideal) x0 x1 x2 x3 (ix4 b p u i)
    = ropeAt 4 (fun j => pr x0 x1 x2 x3 b.val p.val (1152 + u.val * 32 + j)) (tab C32 p.val) (tab S32 p.val) i.val :=
  turn_apply (L := 8) (D := 32) (h := 4) (t := 24) (val_main_v113 (F := Ideal) x0 x1 x2 x3) C32 S32 slices_S16x2048x8x32_S16x2048x8x4_0_0_0_0 slices_S16x2048x8x32_S16x2048x8x4_0_0_0_4
    slices_S16x2048x8x32_S16x2048x8x24_0_0_0_8 bcast_S2048x4_S2048x1x4_0_2 bcast_S2048x1x4_S1x2048x1x4_1_2_3 bcast_S1x2048x1x4_S16x2048x8x4_0_1_2_3
    concatenates_S16x2048x8x4_S16x2048x8x4_S16x2048x8x24_S16x2048x8x32_d3 (by decide) rfl b p u (fun j => pr x0 x1 x2 x3 b.val p.val (1152 + u.val * 32 + j)) (fun i => v113_at x0 x1 x2 x3 b p u i) i
theorem v154_at (u : Fin 1) (i : Fin 32) : val_main_v154 (F := Ideal) x0 x1 x2 x3 (ix4 b p u i)
    = ropeAt 4 (fun j => pr x0 x1 x2 x3 b.val p.val (1408 + j)) (tab C32 p.val) (tab S32 p.val) i.val :=
  turn_apply (L := 1) (D := 32) (h := 4) (t := 24) (val_main_v134 (F := Ideal) x0 x1 x2 x3) C32 S32 slices_S16x2048x1x32_S16x2048x1x4_0_0_0_0 slices_S16x2048x1x32_S16x2048x1x4_0_0_0_4
    slices_S16x2048x1x32_S16x2048x1x24_0_0_0_8 bcast_S2048x4_S2048x1x4_0_2 bcast_S2048x1x4_S1x2048x1x4_1_2_3 bcast_S1x2048x1x4_S16x2048x1x4_0_1_2_3
    concatenates_S16x2048x1x4_S16x2048x1x4_S16x2048x1x24_S16x2048x1x32_d3 (by decide) rfl b p u (fun j => pr x0 x1 x2 x3 b.val p.val (1408 + j)) (fun i => v134_at x0 x1 x2 x3 b p u i) i

/-! ### The nine results -/

/-- The first mixer's queries. -/
theorem aq_at (q : Fin 512) : val_main_v237 (F := Ideal) x0 x1 x2 x3 (ix3 b q p) = rAq (pr x0 x1 x2 x3) (tab C64) (tab S64) b.val q.val p.val := by
  refine (swap3_apply (val_main_v235 (F := Ideal) x0 x1 x2 x3) transposes_S16x2048x512_S16x512x2048_0_2_1 b q p).trans ?_
  refine (merge_apply (val_main_v90 (F := Ideal) x0 x1 x2 x3) shapeCasts_S16x2048x8x64_S16x2048x512 rfl b p ⟨q.val / 64, by omega⟩ ⟨q.val % 64, by omega⟩ q (by show q.val = q.val / 64 * 64 + q.val % 64; omega)).trans ?_
  exact congrArg₂ (· * ·) (v88_at x0 x1 x2 x3 b p _ _) (all_apply bcast_S_S16x2048x8x64 (val_main_cst_8 (F := Ideal)) _ ix0)

/-- The first mixer's keys. -/
theorem ak_at (r : Fin 32768) (q : Fin 64) : val_main_v260 (F := Ideal) x0 x1 x2 x3 (ix2 r q) = rAk (pr x0 x1 x2 x3) (tab C64) (tab S64) r.val q.val := by
  refine (rows3_apply (val_main_v112 (F := Ideal) x0 x1 x2 x3) shapeCasts_S16x2048x64_S32768x64 ⟨r.val / 2048, by omega⟩ ⟨r.val % 2048, by omega⟩ r q (by show r.val = r.val / 2048 * 2048 + r.val % 2048; omega)).trans ?_
  refine (merge_apply (val_main_v111 (F := Ideal) x0 x1 x2 x3) shapeCasts_S16x2048x1x64_S16x2048x64 rfl _ _ 0 q q (by show q.val = 0 * 64 + q.val; omega)).trans ?_
  exact v111_at x0 x1 x2 x3 _ _ _ _

/-- The second mixer's keys. -/
theorem bk_at (r : Fin 32768) (q : Fin 512) : val_main_v258 (F := Ideal) x0 x1 x2 x3 (ix2 r q) = rBk (pr x0 x1 x2 x3) (tab C64) (tab S64) r.val q.val := by
  refine (rows4_apply (val_main_v202 (F := Ideal) x0 x1 x2 x3) shapeCasts_S16x2048x8x64_S32768x512 rfl ⟨r.val / 2048, by omega⟩ ⟨r.val % 2048, by omega⟩ ⟨q.val / 64, by omega⟩ ⟨q.val % 64, by omega⟩ r q
    (by show r.val = r.val / 2048 * 2048 + r.val % 2048; omega) (by show q.val = q.val / 64 * 64 + q.val % 64; omega)).trans ?_
  exact v202_at x0 x1 x2 x3 _ _ _ _

/-- The index weights. -/
theorem iw_at (q : Fin 8) : val_main_v244 (F := Ideal) x0 x1 x2 x3 (ix3 b q p) = rIw (pr x0 x1 x2 x3) b.val q.val p.val := by
  refine (swap3_apply (val_main_v157 (F := Ideal) x0 x1 x2 x3) transposes_S16x2048x8_S16x8x2048_0_2_1 b q p).trans ?_
  exact congrArg₂ (· * ·) (cols_at x0 x1 x2 x3 b p 1440 slices_S16x2048x7592_S16x2048x8_0_0_1440 (by decide) q) (all_apply bcast_S_S16x2048x8 (val_main_cst_9 (F := Ideal)) _ ix0)

/-- Two four-axis arrays joined along the last axis. -/
theorem last4_2 {a c D K L M : ℕ} (A : (⟨4, ![K, L, M, a]⟩ : Shape).Idx → EReal) (B : (⟨4, ![K, L, M, c]⟩ : Shape).Idx → EReal)
    (hc) (f : ℕ → EReal) (v : Fin K) (u : Fin L) (s : Fin M) (hD : a + c = D)
    (hA : ∀ j : Fin a, A (ix4 v u s j) = f j.val) (hB : ∀ j : Fin c, B (ix4 v u s j) = f (a + j.val)) (i : Fin D) :
    concatenate ⟨4, ![K, L, M, D]⟩ (3 : Fin 4) [⟨⟨4, ![K, L, M, a]⟩, A⟩, ⟨⟨4, ![K, L, M, c]⟩, B⟩] hc (ix4 v u s i) = f i.val := by
  by_cases h1 : i.val < a
  · exact (last4At _ hc 0 (by simp) A rfl 0 rfl v u s i ⟨i.val, h1⟩ (Nat.zero_add _)).trans (hA _)
  · refine (last4At _ hc 1 (by simp) B rfl a (by simp [pre]) v u s i ⟨i.val - a, by omega⟩ (by show a + (i.val - a) = i.val; omega)).trans ((hB _).trans (congrArg f ?_))
    show a + (i.val - a) = i.val
    omega

/-- The first mixer's values. -/
theorem av_at (t : Fin 8) (q : Fin 80) (i : Fin 256) : val_main_v250 (F := Ideal) x0 x1 x2 x3 (ix4 b t q i) = rAv (pr x0 x1 x2 x3) b.val t.val q.val i.val := by
  refine (swap4_apply (val_main_v248 (F := Ideal) x0 x1 x2 x3) transposes_S16x8x256x80_S16x8x80x256_0_1_3_2 b t q i).trans ?_
  have hs : 256 * t.val + i.val < 2048 := by omega
  refine (blocks_apply (val_main_v247 (F := Ideal) x0 x1 x2 x3) shapeCasts_S16x2048x1x80_S16x8x256x80 rfl rfl b t i ⟨256 * t.val + i.val, hs⟩ (by show 256 * t.val + i.val = t.val * 256 + i.val; omega) 0 q q
    (by show q.val = 0 * 80 + q.val; omega)).trans ?_
  refine last4_2 (a := 64) (c := 16) (val_main_v245 (F := Ideal) x0 x1 x2 x3) (val_main_v246 (F := Ideal)) concatenates_S16x2048x1x64_S16x2048x1x16_S16x2048x1x80_d3
    (fun q => rAv (pr x0 x1 x2 x3) b.val t.val q i.val) b ⟨256 * t.val + i.val, hs⟩ 0 rfl (fun j => ?_) (fun j => ?_) q
  · refine (head_apply (val_main_v28 (F := Ideal) x0 x1 x2 x3) bcast_S16x2048x64_S16x2048x1x64_0_1_3 (by decide) b _ 0 j).trans ?_
    refine (cols_at x0 x1 x2 x3 b _ 576 slices_S16x2048x7592_S16x2048x64_0_0_576 (by decide) j).trans ?_
    exact (if_pos j.isLt).symm
  · refine (all_apply bcast_S_S16x2048x1x16 (val_main_cst_14 (F := Ideal)) _ ix0).trans ?_
    refine Eq.trans ?_ (if_neg (show ¬ 64 + j.val < 64 by omega)).symm
    exact ofBits_one

end Cert.Reference3Ideal.RefValue

end
-- ==== Proof.ProjRef2.lean ====
/- The input projection's reference, its laid-out results read at an index. (Hand-written, untrusted.) -/
module

public import proofs.«01_k».proof.Proof.ProjRef

@[expose] public section

set_option maxRecDepth 16384

noncomputable section

namespace Cert.Reference3Ideal.RefValue

open Idealize.ShloMosaic
open Idealize.ShloMosaic.TcCoe Idealize.SL.Sem Idealize.ShloMosaic.ValueIdx
open Cert.Reference3Ideal Cert.Reference3Ideal.Gen Cert.Reference3Ideal.Read Cert.Rows Cert.Proj

variable (x0 : FVec Ideal S16x2048x1024 .f32) (x1 x2 : FVec Ideal S1024 .f32) (x3 : FVec Ideal S1x1024x7592 .f32)
variable (b : Fin 16) (p : Fin 2048)

/-- The second mixer's values. -/
theorem bv_at (t : Fin 8) (q : Fin 576) (i : Fin 256) : val_main_v256 (F := Ideal) x0 x1 x2 x3 (ix4 b t q i) = rBv (pr x0 x1 x2 x3) b.val t.val q.val i.val := by
  rw [val_main_v256_apply]
  refine Eq.trans (b := val_main_v255 (F := Ideal) x0 x1 x2 x3 (ix4 b t q i)) rfl ?_
  unfold val_main_v255
  refine (swap4_apply (val_main_v254 (F := Ideal) x0 x1 x2 x3) transposes_S16x8x256x576_S16x8x576x256_0_1_3_2 b t q i).trans ?_
  have hs : 256 * t.val + i.val < 2048 := by omega
  have e : q.val / 144 * 144 + q.val % 144 = q.val := by omega
  refine (blocks_apply (val_main_v253 (F := Ideal) x0 x1 x2 x3) shapeCasts_S16x2048x4x144_S16x8x256x576 rfl rfl b t i ⟨256 * t.val + i.val, hs⟩ (by show 256 * t.val + i.val = t.val * 256 + i.val; omega)
    ⟨q.val / 144, by omega⟩ ⟨q.val % 144, by omega⟩ q e.symm).trans ?_
  refine (last4_2 (a := 128) (c := 16) (val_main_v251 (F := Ideal) x0 x1 x2 x3) (val_main_v252 (F := Ideal)) concatenates_S16x2048x4x128_S16x2048x4x16_S16x2048x4x144_d3
    (fun d => rBv (pr x0 x1 x2 x3) b.val t.val (q.val / 144 * 144 + d) i.val) b ⟨256 * t.val + i.val, hs⟩ ⟨q.val / 144, by omega⟩ rfl (fun j => ?_) (fun j => ?_) ⟨q.val % 144, by omega⟩).trans ?_
  · refine (split_apply (val_main_v35 (F := Ideal) x0 x1 x2 x3) shapeCasts_S16x2048x512_S16x2048x4x128 rfl b _ ⟨q.val / 144, by omega⟩ j ⟨q.val / 144 * 128 + j.val, by omega⟩ rfl).trans ?_
    refine (cols_at x0 x1 x2 x3 b _ 2472 slices_S16x2048x7592_S16x2048x512_0_0_2472 (by decide) _).trans ?_
    unfold rBv
    have h1 : (q.val / 144 * 144 + j.val) % 144 = j.val := by omega
    have h2 : (q.val / 144 * 144 + j.val) / 144 = q.val / 144 := by omega
    rw [h1, h2, if_pos j.isLt, Nat.add_assoc]
  · refine (all_apply bcast_S_S16x2048x4x16 (val_main_cst_15 (F := Ideal)) _ ix0).trans ?_
    unfold rBv
    have h1 : (q.val / 144 * 144 + (128 + j.val)) % 144 = 128 + j.val := by omega
    rw [h1, if_neg (by omega)]
    exact ofBits_one
  · show rBv _ _ _ (q.val / 144 * 144 + q.val % 144) _ = _
    rw [e]

/-- The packed index queries. -/
theorem iq_at (q : Fin 2048) : val_main_v243 (F := Ideal) x0 x1 x2 x3 (ix3 b q p) = rIq (pr x0 x1 x2 x3) (tab C32) (tab S32) b.val q.val p.val := by
  rw [val_main_v243_apply]
  refine Eq.trans (b := val_main_v242 (F := Ideal) x0 x1 x2 x3 (ix3 b q p)) rfl ?_
  unfold val_main_v242
  refine (swap3_apply (val_main_v241 (F := Ideal) x0 x1 x2 x3) transposes_S16x2048x2048_S16x2048x2048_0_2_1 b q p).trans ?_
  refine (merge_apply (val_main_v232 (F := Ideal) x0 x1 x2 x3) shapeCasts_S16x2048x8x256_S16x2048x2048 rfl b p ⟨q.val / 256, by omega⟩ ⟨q.val % 256, by omega⟩ q (by show q.val = q.val / 256 * 256 + q.val % 256; omega)).trans ?_
  have hv : ∀ j : Fin 32, val_main_v133 (F := Ideal) x0 x1 x2 x3 (ix4 b p ⟨q.val / 256, by omega⟩ j)
      = ropeAt 4 (fun j => pr x0 x1 x2 x3 b.val p.val (1152 + q.val / 256 * 32 + j)) (tab C32 p.val) (tab S32 p.val) j.val := fun j => v133_at x0 x1 x2 x3 b p _ j
  refine last4_7 (val_main_v214 (F := Ideal) x0 x1 x2 x3) (val_main_v217 (F := Ideal) x0 x1 x2 x3) (val_main_v221 (F := Ideal) x0 x1 x2 x3) (val_main_v214 (F := Ideal) x0 x1 x2 x3)
    (val_main_v217 (F := Ideal) x0 x1 x2 x3) (val_main_v214 (F := Ideal) x0 x1 x2 x3) (val_main_v231 (F := Ideal))
    concatenates_S16x2048x8x32_S16x2048x8x32_S16x2048x8x32_S16x2048x8x32_S16x2048x8x32_S16x2048x8x32_S16x2048x8x64_S16x2048x8x256_d3
    (packAt packq (ropeAt 4 (fun j => pr x0 x1 x2 x3 b.val p.val (1152 + q.val / 256 * 32 + j)) (tab C32 p.val) (tab S32 p.val))) b p ⟨q.val / 256, by omega⟩
    (fun j => ?_) (fun j => ?_) (fun j => ?_) (fun j => ?_) (fun j => ?_) (fun j => ?_) (fun j => ?_) ⟨q.val % 256, by omega⟩
  · rw [packAt_blk j.isLt]; exact hv j
  · rw [packAt_blk j.isLt]; exact congrArg part1 (hv j)
  · rw [packAt_blk j.isLt]; exact congrArg part2 (hv j)
  · rw [packAt_blk j.isLt]; exact hv j
  · rw [packAt_blk j.isLt]; exact congrArg part1 (hv j)
  · rw [packAt_blk j.isLt]; exact hv j
  · rw [packAt_zq]
    exact (all_apply bcast_S_S16x2048x8x64 (val_main_cst_12 (F := Ideal)) _ ix0).trans Ideal.ofBits_zero_f32

/-- The packed index keys. -/
theorem ik_at (r : Fin 32768) (q : Fin 256) : val_main_v262 (F := Ideal) x0 x1 x2 x3 (ix2 r q) = rIk (pr x0 x1 x2 x3) (tab C32) (tab S32) r.val q.val := by
  refine (rows3_apply (val_main_v234 (F := Ideal) x0 x1 x2 x3) shapeCasts_S16x2048x256_S32768x256 ⟨r.val / 2048, by omega⟩ ⟨r.val % 2048, by omega⟩ r q (by show r.val = r.val / 2048 * 2048 + r.val % 2048; omega)).trans ?_
  have hv : ∀ j : Fin 32, val_main_v155 (F := Ideal) x0 x1 x2 x3 (ix3 ⟨r.val / 2048, by omega⟩ ⟨r.val % 2048, by omega⟩ j)
      = ropeAt 4 (fun j => pr x0 x1 x2 x3 (r.val / 2048) (r.val % 2048) (1408 + j)) (tab C32 (r.val % 2048)) (tab S32 (r.val % 2048)) j.val := fun j =>
    (merge_apply (val_main_v154 (F := Ideal) x0 x1 x2 x3) shapeCasts_S16x2048x1x32_S16x2048x32 rfl _ _ 0 j j (by show j.val = 0 * 32 + j.val; omega)).trans (v154_at x0 x1 x2 x3 _ _ _ _)
  refine last3_7 (val_main_v223 (F := Ideal) x0 x1 x2 x3) (val_main_v223 (F := Ideal) x0 x1 x2 x3) (val_main_v223 (F := Ideal) x0 x1 x2 x3) (val_main_v226 (F := Ideal) x0 x1 x2 x3)
    (val_main_v226 (F := Ideal) x0 x1 x2 x3) (val_main_v230 (F := Ideal) x0 x1 x2 x3) (val_main_v233 (F := Ideal))
    concatenates_S16x2048x32_S16x2048x32_S16x2048x32_S16x2048x32_S16x2048x32_S16x2048x32_S16x2048x64_S16x2048x256_d2
    (packAt packk (ropeAt 4 (fun j => pr x0 x1 x2 x3 (r.val / 2048) (r.val % 2048) (1408 + j)) (tab C32 (r.val % 2048)) (tab S32 (r.val % 2048)))) ⟨r.val / 2048, by omega⟩ ⟨r.val % 2048, by omega⟩
    (fun j => ?_) (fun j => ?_) (fun j => ?_) (fun j => ?_) (fun j => ?_) (fun j => ?_) (fun j => ?_) q
  · rw [packAt_blk j.isLt]; exact hv j
  · rw [packAt_blk j.isLt]; exact hv j
  · rw [packAt_blk j.isLt]; exact hv j
  · rw [packAt_blk j.isLt]; exact congrArg part1 (hv j)
  · rw [packAt_blk j.isLt]; exact congrArg part1 (hv j)
  · rw [packAt_blk j.isLt]; exact congrArg part2 (hv j)
  · rw [packAt_zk]
    exact (all_apply bcast_S_S16x2048x64 (val_main_cst_13 (F := Ideal)) _ ix0).trans Ideal.ofBits_zero_f32

/-- A head's first and second map, turned and scaled. -/
theorem v205_at (h : Fin 4) (i : Fin 64) : val_main_v205 (F := Ideal) x0 x1 x2 x3 (ix4 b p h i)
    = ropeAt 8 (fun j => pr x0 x1 x2 x3 b.val p.val (1448 + (2 * h.val) * 64 + j)) (tab C64 p.val) (tab S64 p.val) i.val * κ := by
  rw [val_main_v205_apply, val_main_v204_apply, val_main_v181_apply, val_main_v179_apply]
  refine congrArg₂ (· * ·) (Eq.trans (congrArg (val_main_v178 (F := Ideal) x0 x1 x2 x3) (a₂ := ix4 b p ⟨2 * h.val, by omega⟩ i) (funext fun a => Fin.ext ?_)) (v178_at x0 x1 x2 x3 b p ⟨2 * h.val, by omega⟩ i))
    (all_apply bcast_S_S16x2048x4x2x64 (val_main_cst_10 (F := Ideal)) _ ix0)
  have hz : idx_main_v204 (idx_main_v205 (ix4 b p h i)) = fun a => match a with | ⟨0, _⟩ => b | ⟨1, _⟩ => p | ⟨2, _⟩ => h | ⟨3, _⟩ => (0 : Fin 2) | ⟨4, _⟩ => i := funext fun a => Fin.ext (by
    match a with
    | ⟨0, _⟩ => show (((b.val * 2048 + p.val) * 4 + h.val) * 64 + i.val) / 524288 = b.val; omega
    | ⟨1, _⟩ => show (((b.val * 2048 + p.val) * 4 + h.val) * 64 + i.val) / 256 % 2048 = p.val; omega
    | ⟨2, _⟩ => show (((b.val * 2048 + p.val) * 4 + h.val) * 64 + i.val) / 64 % 4 = h.val; omega
    | ⟨3, _⟩ => rfl
    | ⟨4, _⟩ => show (((b.val * 2048 + p.val) * 4 + h.val) * 64 + i.val) % 64 = i.val; omega)
  rw [hz]
  match a with
  | ⟨0, _⟩ => show ((((b.val * 2048 + p.val) * 4 + h.val) * 2 + 0) * 64 + i.val) / 1048576 = b.val; omega
  | ⟨1, _⟩ => show ((((b.val * 2048 + p.val) * 4 + h.val) * 2 + 0) * 64 + i.val) / 512 % 2048 = p.val; omega
  | ⟨2, _⟩ => show ((((b.val * 2048 + p.val) * 4 + h.val) * 2 + 0) * 64 + i.val) / 64 % 8 = 2 * h.val; omega
  | ⟨3, _⟩ => show ((((b.val * 2048 + p.val) * 4 + h.val) * 2 + 0) * 64 + i.val) % 64 = i.val; omega
theorem v208_at (h : Fin 4) (i : Fin 64) : val_main_v208 (F := Ideal) x0 x1 x2 x3 (ix4 b p h i)
    = ropeAt 8 (fun j => pr x0 x1 x2 x3 b.val p.val (1448 + (2 * h.val + 1) * 64 + j)) (tab C64 p.val) (tab S64 p.val) i.val * κ := by
  rw [val_main_v208_apply, val_main_v207_apply, val_main_v181_apply, val_main_v179_apply]
  refine congrArg₂ (· * ·) (Eq.trans (congrArg (val_main_v178 (F := Ideal) x0 x1 x2 x3) (a₂ := ix4 b p ⟨2 * h.val + 1, by omega⟩ i) (funext fun a => Fin.ext ?_)) (v178_at x0 x1 x2 x3 b p ⟨2 * h.val + 1, by omega⟩ i))
    (all_apply bcast_S_S16x2048x4x2x64 (val_main_cst_10 (F := Ideal)) _ ix0)
  have hz : idx_main_v207 (idx_main_v208 (ix4 b p h i)) = fun a => match a with | ⟨0, _⟩ => b | ⟨1, _⟩ => p | ⟨2, _⟩ => h | ⟨3, _⟩ => (1 : Fin 2) | ⟨4, _⟩ => i := funext fun a => Fin.ext (by
    match a with
    | ⟨0, _⟩ => show (((b.val * 2048 + p.val) * 4 + h.val) * 64 + i.val) / 524288 = b.val; omega
    | ⟨1, _⟩ => show (((b.val * 2048 + p.val) * 4 + h.val) * 64 + i.val) / 256 % 2048 = p.val; omega
    | ⟨2, _⟩ => show (((b.val * 2048 + p.val) * 4 + h.val) * 64 + i.val) / 64 % 4 = h.val; omega
    | ⟨3, _⟩ => rfl
    | ⟨4, _⟩ => show (((b.val * 2048 + p.val) * 4 + h.val) * 64 + i.val) % 64 = i.val; omega)
  rw [hz]
  match a with
  | ⟨0, _⟩ => show ((((b.val * 2048 + p.val) * 4 + h.val) * 2 + 1) * 64 + i.val) / 1048576 = b.val; omega
  | ⟨1, _⟩ => show ((((b.val * 2048 + p.val) * 4 + h.val) * 2 + 1) * 64 + i.val) / 512 % 2048 = p.val; omega
  | ⟨2, _⟩ => show ((((b.val * 2048 + p.val) * 4 + h.val) * 2 + 1) * 64 + i.val) / 64 % 8 = 2 * h.val + 1; omega
  | ⟨3, _⟩ => show ((((b.val * 2048 + p.val) * 4 + h.val) * 2 + 1) * 64 + i.val) % 64 = i.val; omega

/-- A map of the second mixer's queries, zero where the other map lies. -/
def bqF (n s h m e : ℕ) : EReal :=
  if e / 64 = m then ropeAt 8 (fun j => pr x0 x1 x2 x3 n s (1448 + (2 * h + m) * 64 + j)) (tab C64 s) (tab S64 s) (e % 64) * κ else 0

theorem zero_at (j : S16x2048x4x64.Idx) : val_main_v203 (F := Ideal) j = 0 :=
  (all_apply bcast_S_S16x2048x4x64 (val_main_cst_11 (F := Ideal)) j ix0).trans Ideal.ofBits_zero_f32

theorem v206_at (h : Fin 4) (e : Fin 128) : val_main_v206 (F := Ideal) x0 x1 x2 x3 (ix4 b p h e) = bqF x0 x1 x2 x3 b.val p.val h.val 0 e.val := by
  refine last4_2 (a := 64) (c := 64) (val_main_v205 (F := Ideal) x0 x1 x2 x3) (val_main_v203 (F := Ideal)) concatenates_S16x2048x4x64_S16x2048x4x64_S16x2048x4x128_d3
    (bqF x0 x1 x2 x3 b.val p.val h.val 0) b p h rfl (fun j => ?_) (fun j => ?_) e
  · unfold bqF
    rw [if_pos (by omega), v205_at, Nat.mod_eq_of_lt j.isLt, Nat.add_zero]
  · unfold bqF
    rw [if_neg (by omega)]
    exact zero_at _
theorem v209_at (h : Fin 4) (e : Fin 128) : val_main_v209 (F := Ideal) x0 x1 x2 x3 (ix4 b p h e) = bqF x0 x1 x2 x3 b.val p.val h.val 1 e.val := by
  refine last4_2 (a := 64) (c := 64) (val_main_v203 (F := Ideal)) (val_main_v208 (F := Ideal) x0 x1 x2 x3) concatenates_S16x2048x4x64_S16x2048x4x64_S16x2048x4x128_d3
    (bqF x0 x1 x2 x3 b.val p.val h.val 1) b p h rfl (fun j => ?_) (fun j => ?_) e
  · unfold bqF
    rw [if_neg (by omega)]
    exact zero_at _
  · unfold bqF
    rw [if_pos (by omega), v208_at, show (64 + j.val) % 64 = j.val by omega]

/-- Both maps of a head. -/
theorem v212_at (j : S16x2048x4x2x128.Idx) : val_main_v212 (F := Ideal) x0 x1 x2 x3 j = bqF x0 x1 x2 x3 (j 0).val (j 1).val (j 2).val (j 3).val (j 4).val := by
  have h3 : (j 3).val < 2 := (j 3).isLt
  by_cases h : (j 3).val = 0
  · refine (concatenate_apply_piece (t := S16x2048x4x2x128) (3 : Fin 5) [⟨S16x2048x4x1x128, val_main_v210 (F := Ideal) x0 x1 x2 x3⟩, ⟨S16x2048x4x1x128, val_main_v211 (F := Ideal) x0 x1 x2 x3⟩]
      concatenates_S16x2048x4x1x128_S16x2048x4x1x128_S16x2048x4x2x128_d3 j 0 (by simp) S16x2048x4x1x128 (val_main_v210 (F := Ideal) x0 x1 x2 x3) rfl rfl 0 rfl
      (fun a => match a with | ⟨0, _⟩ => j 0 | ⟨1, _⟩ => j 1 | ⟨2, _⟩ => j 2 | ⟨3, _⟩ => (0 : Fin 1) | ⟨4, _⟩ => j 4)
      (fun a ha => by match a, ha with | ⟨0, _⟩, _ => rfl | ⟨1, _⟩, _ => rfl | ⟨2, _⟩, _ => rfl | ⟨3, _⟩, ha => exact absurd rfl ha | ⟨4, _⟩, _ => rfl) (by show 0 + 0 = (j 3).val; omega)).trans ?_
    rw [val_main_v210_apply, h]
    refine (congrArg _ (funext fun a => ?_)).trans (v206_at x0 x1 x2 x3 (j 0) (j 1) (j 2) (j 4))
    match a with | ⟨0, _⟩ => rfl | ⟨1, _⟩ => rfl | ⟨2, _⟩ => rfl | ⟨3, _⟩ => rfl
  · have h1 : (j 3).val = 1 := by omega
    refine (concatenate_apply_piece (t := S16x2048x4x2x128) (3 : Fin 5) [⟨S16x2048x4x1x128, val_main_v210 (F := Ideal) x0 x1 x2 x3⟩, ⟨S16x2048x4x1x128, val_main_v211 (F := Ideal) x0 x1 x2 x3⟩]
      concatenates_S16x2048x4x1x128_S16x2048x4x1x128_S16x2048x4x2x128_d3 j 1 (by simp) S16x2048x4x1x128 (val_main_v211 (F := Ideal) x0 x1 x2 x3) rfl rfl 1 rfl
      (fun a => match a with | ⟨0, _⟩ => j 0 | ⟨1, _⟩ => j 1 | ⟨2, _⟩ => j 2 | ⟨3, _⟩ => (0 : Fin 1) | ⟨4, _⟩ => j 4)
      (fun a ha => by match a, ha with | ⟨0, _⟩, _ => rfl | ⟨1, _⟩, _ => rfl | ⟨2, _⟩, _ => rfl | ⟨3, _⟩, ha => exact absurd rfl ha | ⟨4, _⟩, _ => rfl) (by show 1 + 0 = (j 3).val; omega)).trans ?_
    rw [val_main_v211_apply, h1]
    refine (congrArg _ (funext fun a => ?_)).trans (v209_at x0 x1 x2 x3 (j 0) (j 1) (j 2) (j 4))
    match a with | ⟨0, _⟩ => rfl | ⟨1, _⟩ => rfl | ⟨2, _⟩ => rfl | ⟨3, _⟩ => rfl

/-- The second mixer's queries. -/
theorem bq_at (q : Fin 1024) : val_main_v240 (F := Ideal) x0 x1 x2 x3 (ix3 b q p) = rBq (pr x0 x1 x2 x3) (tab C64) (tab S64) b.val q.val p.val := by
  rw [val_main_v240_apply]
  refine Eq.trans (b := val_main_v239 (F := Ideal) x0 x1 x2 x3 (ix3 b q p)) rfl ?_
  unfold val_main_v239
  refine (swap3_apply (val_main_v238 (F := Ideal) x0 x1 x2 x3) transposes_S16x2048x1024_S16x1024x2048_0_2_1 b q p).trans ?_
  rw [val_main_v238_apply, v212_at]
  show bqF x0 x1 x2 x3 (((b.val * 2048 + p.val) * 1024 + q.val) / 2097152) (((b.val * 2048 + p.val) * 1024 + q.val) / 1024 % 2048) (((b.val * 2048 + p.val) * 1024 + q.val) / 256 % 4)
    (((b.val * 2048 + p.val) * 1024 + q.val) / 128 % 2) (((b.val * 2048 + p.val) * 1024 + q.val) % 128) = _
  rw [show ((b.val * 2048 + p.val) * 1024 + q.val) / 2097152 = b.val by omega, show ((b.val * 2048 + p.val) * 1024 + q.val) / 1024 % 2048 = p.val by omega,
    show ((b.val * 2048 + p.val) * 1024 + q.val) / 256 % 4 = q.val / 256 by omega, show ((b.val * 2048 + p.val) * 1024 + q.val) / 128 % 2 = q.val / 128 % 2 by omega,
    show ((b.val * 2048 + p.val) * 1024 + q.val) % 128 = q.val % 128 by omega]
  unfold bqF rBq
  rw [show 2 * (q.val / 256) + q.val / 128 % 2 = q.val / 128 by omega, show q.val % 128 % 64 = q.val % 64 by omega]

end Cert.Reference3Ideal.RefValue

end
-- ==== Proof.ProjBlk.lean ====
/- What one grid point of the input projections stores, from its projected rows: the turned heads, the packed heads, the
   values with their ones. (Hand-written, untrusted.) -/
module

public import proofs.«01_k».proof.Proof.ProjOps
public import proofs.«01_k».proof.Proof.Gen.Kernel3Ideal.Skeleton

@[expose] public section

set_option maxRecDepth 16384

noncomputable section

namespace Cert.Kernel3Ideal.Proj

open Cert.Kernel3Ideal Cert.Kernel3Ideal.Gen Cert.Rows Cert.Proj Idealize.ShloMosaic Idealize.ShloMosaic.TcCoe Idealize.SL.Sem Idealize.ShloMosaic.ValueIdx

/-- Two slices of rows, one of the other. -/
theorem slab2 {M N K L : ℕ} (o a : ℕ) (x : (⟨2, ![M, N]⟩ : Shape).Idx → EReal) (h : (⟨2, ![M, N]⟩ : Shape).Slices ![o, 0] ⟨2, ![K, N]⟩)
    (g : (⟨2, ![K, N]⟩ : Shape).Slices ![a, 0] ⟨2, ![L, N]⟩) (hK : o + K ≤ M) (hL : a + L ≤ K) (j : Fin L) (p : Fin N) :
    extractStridedSlice ⟨2, ![L, N]⟩ ![a, 0] (extractStridedSlice ⟨2, ![K, N]⟩ ![o, 0] x h) g (ix2 j p) = col x p (o + (a + j.val)) := by
  have := j.isLt
  rw [slab_apply a _ g hL, col_slab o x h hK p (by omega)]

/-- Sixty-four rows from row `o`, turned by position. -/
def rope64 (o : ℕ) (hs : S1664x512.Slices ![o, 0] S64x512) (R : FVec Ideal S1664x512 .f32) (c s : FVec Ideal S8x512 .f32) : FVec Ideal S64x512 .f32 :=
  concatenate S64x512 0
    [⟨S8x512, subf (mulf (extractStridedSlice S8x512 ![0, 0] (extractStridedSlice S64x512 ![o, 0] R hs) slices_S64x512_o0_0_S8x512) c)
        (mulf (extractStridedSlice S8x512 ![8, 0] (extractStridedSlice S64x512 ![o, 0] R hs) slices_S64x512_o8_0_S8x512) s)⟩,
     ⟨S8x512, addf (mulf (extractStridedSlice S8x512 ![8, 0] (extractStridedSlice S64x512 ![o, 0] R hs) slices_S64x512_o8_0_S8x512) c)
        (mulf (extractStridedSlice S8x512 ![0, 0] (extractStridedSlice S64x512 ![o, 0] R hs) slices_S64x512_o0_0_S8x512) s)⟩,
     ⟨S48x512, extractStridedSlice S48x512 ![16, 0] (extractStridedSlice S64x512 ![o, 0] R hs) slices_S64x512_o16_0_S48x512⟩]
    concatenates_S8x512_S8x512_S48x512_S64x512_d0

theorem rope64_apply (o : ℕ) (hs : S1664x512.Slices ![o, 0] S64x512) (ho : o + 64 ≤ 1664) (R : FVec Ideal S1664x512 .f32)
    (c s : FVec Ideal S8x512 .f32) (i : Fin 64) (p : Fin 512) :
    rope64 o hs R c s (ix2 i p) = ropeAt 8 (fun j => col R p (o + j)) (col c p) (col s p) i.val := by
  unfold rope64
  refine rows3 (a := 8) (b := 8) (c := 48) (D := 64) _ _ _ _ (ropeAt 8 (fun j => col R p (o + j)) (col c p) (col s p)) p rfl (fun j => ?_) (fun j => ?_) (fun j => ?_) i
  · rw [ropeAt_lo j.isLt, subf_apply, mulf_apply, mulf_apply, col_at, col_at]
    refine congrArg₂ (· - ·) (congrArg (· * _) ?_) (congrArg (· * _) ?_)
    · refine (slab2 o 0 R hs _ ho (by decide) j p).trans ?_
      rw [Nat.zero_add]
    · exact slab2 o 8 R hs _ ho (by decide) j p
  · rw [ropeAt_mid j.isLt, addf_apply, mulf_apply, mulf_apply, col_at, col_at]
    refine congrArg₂ (· + ·) (congrArg (· * _) ?_) (congrArg (· * _) ?_)
    · exact slab2 o 8 R hs _ ho (by decide) j p
    · refine (slab2 o 0 R hs _ ho (by decide) j p).trans ?_
      rw [Nat.zero_add]
  · rw [ropeAt_hi]
    exact slab2 o 16 R hs _ ho (by decide) j p

/-- One head of the first mixer's queries. -/
def head64 (o : ℕ) (hs : S1664x512.Slices ![o, 0] S64x512) (R : FVec Ideal S1664x512 .f32) (c s : FVec Ideal S8x512 .f32) : FVec Ideal S1x64x512 .bf16 :=
  shapeCast S1x64x512 (truncf .bf16 (rope64 o hs R c s) bitsLt_bf16_f32) shapeCasts_S64x512_S1x64x512

theorem head64_apply (o : ℕ) (hs : S1664x512.Slices ![o, 0] S64x512) (ho : o + 64 ≤ 1664) (R : FVec Ideal S1664x512 .f32)
    (c s : FVec Ideal S8x512 .f32) (i : Fin 64) (p : Fin 512) :
    head64 o hs R c s (ix3 0 i p) = ropeAt 8 (fun j => col R p (o + j)) (col c p) (col s p) i.val :=
  (lead_apply _ _ 0 i p).trans (rope64_apply o hs ho R c s i p)

/-- The zero rows beside a head of the second mixer's queries. -/
def zero64 : FVec Ideal S64x512 .bf16 := broadcast S64x512 (Scalar.ofBits .bf16 0x0000#16 : Ideal .bf16)

theorem zero64_apply (i : S64x512.Idx) : zero64 i = 0 := by
  show Ideal.ofBits .bf16 0x0000#16 = 0
  simp [Ideal.ofBits, Ideal.ieee]

/-- One head of the second mixer's queries, in the first or the second half of its 128 rows. -/
def headE (o : ℕ) (hs : S1664x512.Slices ![o, 0] S64x512) (R : FVec Ideal S1664x512 .f32) (c s : FVec Ideal S8x512 .f32) : FVec Ideal S1x128x512 .bf16 :=
  shapeCast S1x128x512 (concatenate S128x512 0 [⟨S64x512, truncf .bf16 (rope64 o hs R c s) bitsLt_bf16_f32⟩, ⟨S64x512, zero64⟩]
    concatenates_S64x512_S64x512_S128x512_d0) shapeCasts_S128x512_S1x128x512
def headO (o : ℕ) (hs : S1664x512.Slices ![o, 0] S64x512) (R : FVec Ideal S1664x512 .f32) (c s : FVec Ideal S8x512 .f32) : FVec Ideal S1x128x512 .bf16 :=
  shapeCast S1x128x512 (concatenate S128x512 0 [⟨S64x512, zero64⟩, ⟨S64x512, truncf .bf16 (rope64 o hs R c s) bitsLt_bf16_f32⟩]
    concatenates_S64x512_S64x512_S128x512_d0) shapeCasts_S128x512_S1x128x512

theorem headE_apply (o : ℕ) (hs : S1664x512.Slices ![o, 0] S64x512) (ho : o + 64 ≤ 1664) (R : FVec Ideal S1664x512 .f32)
    (c s : FVec Ideal S8x512 .f32) (i : Fin 128) (p : Fin 512) :
    headE o hs R c s (ix3 0 i p) = if i.val / 64 = 0 then ropeAt 8 (fun j => col R p (o + j)) (col c p) (col s p) (i.val % 64) else 0 := by
  refine (lead_apply _ _ 0 i p).trans ?_
  refine rows2 (a := 64) (b := 64) (D := 128) _ _ _ (fun i => if i / 64 = 0 then ropeAt 8 (fun j => col R p (o + j)) (col c p) (col s p) (i % 64) else 0) p rfl
    (fun j => ?_) (fun j => ?_) i
  · have := j.isLt
    rw [if_pos (by omega), Nat.mod_eq_of_lt j.isLt]
    exact rope64_apply o hs ho R c s j p
  · have := j.isLt
    rw [if_neg (by omega)]
    exact zero64_apply _

theorem headO_apply (o : ℕ) (hs : S1664x512.Slices ![o, 0] S64x512) (ho : o + 64 ≤ 1664) (R : FVec Ideal S1664x512 .f32)
    (c s : FVec Ideal S8x512 .f32) (i : Fin 128) (p : Fin 512) :
    headO o hs R c s (ix3 0 i p) = if i.val / 64 = 1 then ropeAt 8 (fun j => col R p (o + j)) (col c p) (col s p) (i.val % 64) else 0 := by
  refine (lead_apply _ _ 0 i p).trans ?_
  refine rows2 (a := 64) (b := 64) (D := 128) _ _ _ (fun i => if i / 64 = 1 then ropeAt 8 (fun j => col R p (o + j)) (col c p) (col s p) (i % 64) else 0) p rfl
    (fun j => ?_) (fun j => ?_) i
  · have := j.isLt
    rw [if_neg (by omega)]
    exact zero64_apply _
  · have := j.isLt
    rw [if_pos (by omega), Nat.add_mod_left, Nat.mod_eq_of_lt j.isLt]
    exact rope64_apply o hs ho R c s j p

/-- The first mixer's key and the zero rows under it. -/
def catA (R : FVec Ideal S1664x512 .f32) (c s : FVec Ideal S8x512 .f32) : FVec Ideal S128x512 .f32 :=
  concatenate S128x512 0 [⟨S64x512, rope64 1600 slices_S1664x512_o1600_0_S64x512 R c s⟩, ⟨S64x512, broadcast S64x512 (Scalar.ofBits .f32 0x00000000#32 : Ideal .f32)⟩]
    concatenates_S64x512_S64x512_S128x512_d0

/-- The first mixer's key: the same turn, one row of the result per column. -/
theorem pay52_apply (v26 : FVec Ideal S512x1024 .bf16) (w : Vec Ideal S1664x1024 .bf16) (c s : Vec Ideal S8x512 .f32) (r : Fin 512) (q : Fin 64) :
    k0_pay52 (k0_pay51 v26 w c s) (ix2 r q)
      = ropeAt 8 (fun j => col (k0_pay48 v26 w) r (1600 + j)) (col (k0_pay49 c) r) (col (k0_pay50 s) r) q.val := by
  show extractStridedSlice S512x64 ![0, 0] (transpose S512x128 [1, 0] (catA (k0_pay48 v26 w) (k0_pay49 c) (k0_pay50 s)) transposes_S128x512_p1_0_S512x128) slices_S512x128_o0_0_S512x64 (ix2 r q) = _
  refine (cols_apply (N := 128) (K := 64) 0 _ slices_S512x128_o0_0_S512x64 (by decide) r q).trans ?_
  refine (turned_apply (M := 128) (N := 512) _ transposes_S128x512_p1_0_S512x128 r _).trans ?_
  unfold catA
  refine (rowsAt _ _ 0 (by simp) (rope64 1600 slices_S1664x512_o1600_0_S64x512 (k0_pay48 v26 w) (k0_pay49 c) (k0_pay50 s)) rfl 0 rfl _ r q rfl).trans ?_
  exact rope64_apply 1600 _ (by decide) _ _ _ q r

/-- Thirty-two rows from row `o`, their first eight turned. -/
def rope32 (o : ℕ) (hs : S304x512.Slices ![o, 0] S32x512) (X : FVec Ideal S304x512 .f32) (c s : FVec Ideal S8x512 .f32) : FVec Ideal S32x512 .f32 :=
  concatenate S32x512 0
    [⟨S8x512, addf (mulf (extractStridedSlice S8x512 ![0, 0] (extractStridedSlice S32x512 ![o, 0] X hs) slices_S32x512_o0_0_S8x512) c)
        (mulf (dynamicRotate 0 4#32 none (extractStridedSlice S8x512 ![0, 0] (extractStridedSlice S32x512 ![o, 0] X hs) slices_S32x512_o0_0_S8x512) rotates_S8x512_d0) s)⟩,
     ⟨S24x512, extractStridedSlice S24x512 ![8, 0] (extractStridedSlice S32x512 ![o, 0] X hs) slices_S32x512_o8_0_S24x512⟩]
    concatenates_S8x512_S24x512_S32x512_d0

theorem rope32_apply (o : ℕ) (hs : S304x512.Slices ![o, 0] S32x512) (ho : o + 32 ≤ 304) (X : FVec Ideal S304x512 .f32)
    (c s : FVec Ideal S8x512 .f32) (i : Fin 32) (p : Fin 512) :
    rope32 o hs X c s (ix2 i p) = turn32 (fun j => col X p (o + j)) (col c p) (col s p) i.val := by
  unfold rope32
  refine rows2 (a := 8) (b := 24) (D := 32) _ _ _ (turn32 (fun j => col X p (o + j)) (col c p) (col s p)) p rfl (fun j => ?_) (fun j => ?_) i
  · rw [turn32_lo j.isLt, addf_apply, mulf_apply, mulf_apply, col_at, col_at]
    refine congrArg₂ (· + ·) (congrArg (· * _) ?_) (congrArg (· * _) ?_)
    · refine (slab2 o 0 X hs _ ho (by decide) j p).trans ?_
      rw [Nat.zero_add]
    · refine (dynamicRotate_apply 0 4#32 _ _ (ix2 j p) (ix2 ⟨(j.val + 4) % 8, Nat.mod_lt _ (by decide)⟩ p) (fun b => ?_)).trans ?_
      · match b with
        | ⟨0, _⟩ => rfl
        | ⟨1, _⟩ => rfl
      · refine (slab2 o 0 X hs _ ho (by decide) _ p).trans ?_
        rw [Nat.zero_add]
  · rw [turn32_hi]
    exact slab2 o 8 X hs _ ho (by decide) j p

/-- The three parts of a block of rows. -/
def sp1 (v : FVec Ideal S32x512 .f32) : FVec Ideal S32x512 .bf16 := truncf .bf16 v bitsLt_bf16_f32
def sp2 (v : FVec Ideal S32x512 .f32) : FVec Ideal S32x512 .bf16 := truncf .bf16 (subf v (extf .f32 (sp1 v) bitsLt_bf16_f32)) bitsLt_bf16_f32
def sp3 (v : FVec Ideal S32x512 .f32) : FVec Ideal S32x512 .bf16 :=
  truncf .bf16 (subf (subf v (extf .f32 (sp1 v) bitsLt_bf16_f32)) (extf .f32 (sp2 v) bitsLt_bf16_f32)) bitsLt_bf16_f32

/-- One packed head of the index queries. -/
def packH (o : ℕ) (hs : S304x512.Slices ![o, 0] S32x512) (X : FVec Ideal S304x512 .f32) (c s : FVec Ideal S8x512 .f32) : FVec Ideal S1x256x512 .bf16 :=
  shapeCast S1x256x512 (concatenate S256x512 0
    [⟨S32x512, sp1 (rope32 o hs X c s)⟩, ⟨S32x512, sp2 (rope32 o hs X c s)⟩, ⟨S32x512, sp3 (rope32 o hs X c s)⟩,
     ⟨S32x512, sp1 (rope32 o hs X c s)⟩, ⟨S32x512, sp2 (rope32 o hs X c s)⟩, ⟨S32x512, sp1 (rope32 o hs X c s)⟩, ⟨S64x512, zero64⟩]
    concatenates_S32x512_S32x512_S32x512_S32x512_S32x512_S32x512_S64x512_S256x512_d0) shapeCasts_S256x512_S1x256x512

theorem sp1_blk (o : ℕ) (hs : S304x512.Slices ![o, 0] S32x512) (ho : o + 32 ≤ 304) (X : FVec Ideal S304x512 .f32)
    (c s : FVec Ideal S8x512 .f32) (i : Fin 32) (p : Fin 512) :
    sp1 (rope32 o hs X c s) (ix2 i p) = turn32 (fun j => col X p (o + j)) (col c p) (col s p) i.val := rope32_apply o hs ho X c s i p
theorem sp2_blk (o : ℕ) (hs : S304x512.Slices ![o, 0] S32x512) (ho : o + 32 ≤ 304) (X : FVec Ideal S304x512 .f32)
    (c s : FVec Ideal S8x512 .f32) (i : Fin 32) (p : Fin 512) :
    sp2 (rope32 o hs X c s) (ix2 i p) = part1 (turn32 (fun j => col X p (o + j)) (col c p) (col s p) i.val) :=
  congrArg part1 (rope32_apply o hs ho X c s i p)
theorem sp3_blk (o : ℕ) (hs : S304x512.Slices ![o, 0] S32x512) (ho : o + 32 ≤ 304) (X : FVec Ideal S304x512 .f32)
    (c s : FVec Ideal S8x512 .f32) (i : Fin 32) (p : Fin 512) :
    sp3 (rope32 o hs X c s) (ix2 i p) = part2 (turn32 (fun j => col X p (o + j)) (col c p) (col s p) i.val) :=
  congrArg part2 (rope32_apply o hs ho X c s i p)

theorem packH_apply (o : ℕ) (hs : S304x512.Slices ![o, 0] S32x512) (ho : o + 32 ≤ 304) (X : FVec Ideal S304x512 .f32)
    (c s : FVec Ideal S8x512 .f32) (i : Fin 256) (p : Fin 512) :
    packH o hs X c s (ix3 0 i p) = packAt packq (turn32 (fun j => col X p (o + j)) (col c p) (col s p)) i.val := by
  refine (lead_apply _ _ 0 i p).trans ?_
  refine rows7 _ _ _ _ _ _ _ _ (packAt packq (turn32 (fun j => col X p (o + j)) (col c p) (col s p))) p
    (fun j => ?_) (fun j => ?_) (fun j => ?_) (fun j => ?_) (fun j => ?_) (fun j => ?_) (fun j => ?_) i
  · rw [packAt_blk j.isLt]; exact sp1_blk o hs ho X c s j p
  · rw [packAt_blk j.isLt]; exact sp2_blk o hs ho X c s j p
  · rw [packAt_blk j.isLt]; exact sp3_blk o hs ho X c s j p
  · rw [packAt_blk j.isLt]; exact sp1_blk o hs ho X c s j p
  · rw [packAt_blk j.isLt]; exact sp2_blk o hs ho X c s j p
  · rw [packAt_blk j.isLt]; exact sp1_blk o hs ho X c s j p
  · rw [packAt_zq]; exact zero64_apply _

/-- The packed index key, one column per column. -/
def catK (X : FVec Ideal S304x512 .f32) (c s : FVec Ideal S8x512 .f32) : FVec Ideal S256x512 .f32 :=
  concatenate S256x512 0
    [⟨S32x512, extf .f32 (sp1 (rope32 256 slices_S304x512_o256_0_S32x512 X c s)) bitsLt_bf16_f32⟩, ⟨S32x512, extf .f32 (sp1 (rope32 256 slices_S304x512_o256_0_S32x512 X c s)) bitsLt_bf16_f32⟩, ⟨S32x512, extf .f32 (sp1 (rope32 256 slices_S304x512_o256_0_S32x512 X c s)) bitsLt_bf16_f32⟩,
     ⟨S32x512, extf .f32 (sp2 (rope32 256 slices_S304x512_o256_0_S32x512 X c s)) bitsLt_bf16_f32⟩, ⟨S32x512, extf .f32 (sp2 (rope32 256 slices_S304x512_o256_0_S32x512 X c s)) bitsLt_bf16_f32⟩, ⟨S32x512, extf .f32 (sp3 (rope32 256 slices_S304x512_o256_0_S32x512 X c s)) bitsLt_bf16_f32⟩, ⟨S64x512, extf .f32 zero64 bitsLt_bf16_f32⟩]
    concatenates_S32x512_S32x512_S32x512_S32x512_S32x512_S32x512_S64x512_S256x512_d0

/-- The packed index key: one row of the result per column. -/
theorem pay46_apply (X : FVec Ideal S304x512 .f32) (c s : FVec Ideal S8x512 .f32) (r : Fin 512) (q : Fin 256) :
    k0_pay46 s zero64 (k0_pay43 X) (k0_pay44 X) (k0_pay45 X c) 4#32 (ix2 r q)
      = packAt packk (turn32 (fun j => col X r (256 + j)) (col c r) (col s r)) q.val := by
  show transpose S512x256 [1, 0] (catK X c s) transposes_S256x512_p1_0_S512x256 (ix2 r q) = _
  refine (turned_apply (M := 256) (N := 512) _ transposes_S256x512_p1_0_S512x256 r q).trans ?_
  unfold catK
  refine rows7 _ _ _ _ _ _ _ _ (packAt packk (turn32 (fun j => col X r (256 + j)) (col c r) (col s r))) r
    (fun j => ?_) (fun j => ?_) (fun j => ?_) (fun j => ?_) (fun j => ?_) (fun j => ?_) (fun j => ?_) q
  · rw [packAt_blk j.isLt]; exact sp1_blk 256 slices_S304x512_o256_0_S32x512 (by decide) X c s j r
  · rw [packAt_blk j.isLt]; exact sp1_blk 256 slices_S304x512_o256_0_S32x512 (by decide) X c s j r
  · rw [packAt_blk j.isLt]; exact sp1_blk 256 slices_S304x512_o256_0_S32x512 (by decide) X c s j r
  · rw [packAt_blk j.isLt]; exact sp2_blk 256 slices_S304x512_o256_0_S32x512 (by decide) X c s j r
  · rw [packAt_blk j.isLt]; exact sp2_blk 256 slices_S304x512_o256_0_S32x512 (by decide) X c s j r
  · rw [packAt_blk j.isLt]; exact sp3_blk 256 slices_S304x512_o256_0_S32x512 (by decide) X c s j r
  · rw [packAt_zk]; exact zero64_apply (ix2 j r)

/-- The index weights. -/
theorem pay47_apply (X : FVec Ideal S304x512 .f32) (i : Fin 8) (p : Fin 512) : k0_pay47 X (ix3 0 i p) = col X p (288 + i.val) :=
  (lead_apply _ _ 0 i p).trans (slab_apply 288 X _ (by decide) i p)

/-- The bits of one at sixteen bits. -/
theorem ofBits_one16 : Ideal.ofBits .bf16 0x3F80#16 = 1 := by
  simp [Ideal.ofBits, Ideal.ieee, -EReal.coe_mul]; norm_num

/-- The rows of ones under the values. -/
theorem ones_apply (i : S16x256.Idx) : (k0_pay71 (F := Ideal)) i = 1 := by
  show Ideal.ofBits .bf16 0x3F80#16 = 1
  exact ofBits_one16

/-- A tile of values with its rows of ones, for either mixer. -/
def valB (o q : ℕ) (hs : S1664x512.Slices ![o, q] S128x256) (R : FVec Ideal S1664x512 .f32) : FVec Ideal S1x1x144x256 .bf16 :=
  shapeCast S1x1x144x256 (concatenate S144x256 0 [⟨S128x256, truncf .bf16 (extractStridedSlice S128x256 ![o, q] R hs) bitsLt_bf16_f32⟩, ⟨S16x256, k0_pay71 (F := Ideal)⟩]
    concatenates_S128x256_S16x256_S144x256_d0) shapeCasts_S144x256_S1x1x144x256
def valA (o q : ℕ) (hs : S1664x512.Slices ![o, q] S64x256) (R : FVec Ideal S1664x512 .f32) : FVec Ideal S1x1x80x256 .bf16 :=
  shapeCast S1x1x80x256 (concatenate S80x256 0 [⟨S64x256, truncf .bf16 (extractStridedSlice S64x256 ![o, q] R hs) bitsLt_bf16_f32⟩, ⟨S16x256, k0_pay71 (F := Ideal)⟩]
    concatenates_S64x256_S16x256_S80x256_d0) shapeCasts_S80x256_S1x1x80x256

theorem valB_apply (o q : ℕ) (hs : S1664x512.Slices ![o, q] S128x256) (ho : o + 128 ≤ 1664) (hq : q + 256 ≤ 512) (R : FVec Ideal S1664x512 .f32)
    (i : Fin 144) (p : Fin 256) :
    valB o q hs R (ix4 0 0 i p) = if i.val < 128 then col R ⟨q + p.val, by omega⟩ (o + i.val) else 1 := by
  refine (lead2_apply _ _ 0 0 i p).trans ?_
  refine rows2 (a := 128) (b := 16) (D := 144) _ _ _ (fun i => if i < 128 then col R ⟨q + p.val, by omega⟩ (o + i) else 1) p rfl (fun j => ?_) (fun j => ?_) i
  · rw [if_pos j.isLt]
    exact tile_apply o q R hs ho hq j p
  · rw [if_neg (by omega)]
    exact ones_apply _

theorem valA_apply (o q : ℕ) (hs : S1664x512.Slices ![o, q] S64x256) (ho : o + 64 ≤ 1664) (hq : q + 256 ≤ 512) (R : FVec Ideal S1664x512 .f32)
    (i : Fin 80) (p : Fin 256) :
    valA o q hs R (ix4 0 0 i p) = if i.val < 64 then col R ⟨q + p.val, by omega⟩ (o + i.val) else 1 := by
  refine (lead2_apply _ _ 0 0 i p).trans ?_
  refine rows2 (a := 64) (b := 16) (D := 80) _ _ _ (fun i => if i < 64 then col R ⟨q + p.val, by omega⟩ (o + i) else 1) p rfl (fun j => ?_) (fun j => ?_) i
  · rw [if_pos j.isLt]
    exact tile_apply o q R hs ho hq j p
  · rw [if_neg (by omega)]
    exact ones_apply _

/-- One group of 128 columns of the second mixer's keys, two heads side by side, turned with three tables. -/
def grpK (o : ℕ) (hs : S512x512.Slices ![0, o] S512x128) (K : FVec Ideal S512x512 .f32) (n0 n1 n2 : FVec Ideal S512x128 .f32) : FVec Ideal S512x128 .bf16 :=
  truncf .bf16 (addf (addf (mulf (extractStridedSlice S512x128 ![0, o] K hs) n0)
    (mulf (dynamicRotate 1 8#32 none (extractStridedSlice S512x128 ![0, o] K hs) rotates_S512x128_d1) n1))
    (mulf (dynamicRotate 1 120#32 none (extractStridedSlice S512x128 ![0, o] K hs) rotates_S512x128_d1) n2)) bitsLt_bf16_f32

theorem grpK_apply (o : ℕ) (hs : S512x512.Slices ![0, o] S512x128) (ho : o + 128 ≤ 512) (K : FVec Ideal S512x512 .f32)
    (n0 n1 n2 : FVec Ideal S512x128 .f32) (r : Fin 512) (q : Fin 128) :
    grpK o hs K n0 n1 n2 (ix2 r q) = K (ix2 r ⟨o + q.val, by omega⟩) * n0 (ix2 r q)
      + K (ix2 r ⟨o + (q.val + 120) % 128, by omega⟩) * n1 (ix2 r q) + K (ix2 r ⟨o + (q.val + 8) % 128, by omega⟩) * n2 (ix2 r q) := by
  show extractStridedSlice S512x128 ![0, o] K hs (ix2 r q) * n0 (ix2 r q) + dynamicRotate 1 8#32 none (extractStridedSlice S512x128 ![0, o] K hs) rotates_S512x128_d1 (ix2 r q) * n1 (ix2 r q)
    + dynamicRotate 1 120#32 none (extractStridedSlice S512x128 ![0, o] K hs) rotates_S512x128_d1 (ix2 r q) * n2 (ix2 r q) = _
  refine congrArg₂ (· + ·) (congrArg₂ (· + ·) (congrArg (· * _) ?_) (congrArg (· * _) ?_)) (congrArg (· * _) ?_)
  · exact cols_apply o K hs ho r q
  · refine (dynamicRotate_apply 1 8#32 _ _ (ix2 r q) (ix2 r ⟨(q.val + 120) % 128, Nat.mod_lt _ (by decide)⟩) (fun b => ?_)).trans ?_
    · match b with
      | ⟨0, _⟩ => rfl
      | ⟨1, _⟩ => rfl
    · exact cols_apply o K hs ho r _
  · refine (dynamicRotate_apply 1 120#32 _ _ (ix2 r q) (ix2 r ⟨(q.val + 8) % 128, Nat.mod_lt _ (by decide)⟩) (fun b => ?_)).trans ?_
    · match b with
      | ⟨0, _⟩ => rfl
      | ⟨1, _⟩ => rfl
    · exact cols_apply o K hs ho r _

end Cert.Kernel3Ideal.Proj
-- ==== Proof.ProjOut.lean ====
/- The nine output blocks of one grid point of the input projections as functions of a row and a column. (Hand-written, untrusted.) -/
module

public import proofs.«01_k».proof.Proof.ProjBlk
public import proofs.«01_k».proof.Proof.Gen.Kernel3Ideal.Frame
public import Idealize.ShloMosaic.Lib.Pipeline.ValueKit

@[expose] public section

set_option maxRecDepth 16384

noncomputable section

open Idealize.ShloMosaic hiding ix1 ix2 ix3 ix4
open Idealize.ShloMosaic.TcCoe Idealize.SL.Sem Idealize.ShloMosaic.ValueIdx

namespace Cert.Kernel3Ideal.Proj

open Cert.Kernel3Ideal Cert.Kernel3Ideal.Gen Cert.Rows Cert.Proj

/-- A band of rows of a one-matrix array holds the whole array's function at its place. -/
theorem mid_piece {M N K : ℕ} (g : ℕ → Fin N → EReal) (o : ℕ)
    (inb : ∀ a, (![0, o, 0] : Fin 3 → Nat) a + (⟨3, ![1, K, N]⟩ : Shape).size a ≤ (⟨3, ![1, M, N]⟩ : Shape).size a)
    (P : (⟨3, ![1, K, N]⟩ : Shape).Idx → EReal) (hP : ∀ (i : Fin K) (p : Fin N), P (ix3 0 i p) = g (o + i.val) p)
    (x : (⟨3, ![1, K, N]⟩ : Shape).Idx) :
    P x = (fun y : (⟨3, ![1, M, N]⟩ : Shape).Idx => g (y 1).val (y 2))
      ((Rect.unit (s := ⟨3, ![1, M, N]⟩) ![0, o, 0] (⟨3, ![1, K, N]⟩ : Shape).size inb).emb x) := by
  have ex : x = ix3 0 (x 1) (x 2) := funext fun a => by
    match a with
    | ⟨0, _⟩ => exact Fin.ext (by have : (x 0).val < 1 := (x 0).isLt; show (x 0).val = 0; omega)
    | ⟨1, _⟩ => rfl
    | ⟨2, _⟩ => rfl
  refine (congrArg P ex).trans ((hP _ _).trans ?_)
  have e1 := Rect.idx_unit_val (s := ⟨3, ![1, M, N]⟩) ![0, o, 0] (⟨3, ![1, K, N]⟩ : Shape).size inb x 1
  have e2 := Rect.idx_unit_val (s := ⟨3, ![1, M, N]⟩) ![0, o, 0] (⟨3, ![1, K, N]⟩ : Shape).size inb x 2
  exact congrArg₂ g e1.symm (Fin.ext ((Nat.zero_add _).symm.trans e2.symm))

/-- A band of columns of a matrix. -/
theorem mat_piece {M N K : ℕ} (g : Fin M → ℕ → EReal) (o : ℕ)
    (inb : ∀ a, (![0, o] : Fin 2 → Nat) a + (⟨2, ![M, K]⟩ : Shape).size a ≤ (⟨2, ![M, N]⟩ : Shape).size a)
    (P : (⟨2, ![M, K]⟩ : Shape).Idx → EReal) (hP : ∀ (r : Fin M) (q : Fin K), P (ix2 r q) = g r (o + q.val))
    (x : (⟨2, ![M, K]⟩ : Shape).Idx) :
    P x = (fun y : (⟨2, ![M, N]⟩ : Shape).Idx => g (y 0) (y 1).val)
      ((Rect.unit (s := ⟨2, ![M, N]⟩) ![0, o] (⟨2, ![M, K]⟩ : Shape).size inb).emb x) := by
  have ex : x = ix2 (x 0) (x 1) := funext fun a => by
    match a with
    | ⟨0, _⟩ => rfl
    | ⟨1, _⟩ => rfl
  refine (congrArg P ex).trans ((hP _ _).trans ?_)
  have e0 := Rect.idx_unit_val (s := ⟨2, ![M, N]⟩) ![0, o] (⟨2, ![M, K]⟩ : Shape).size inb x 0
  have e1 := Rect.idx_unit_val (s := ⟨2, ![M, N]⟩) ![0, o] (⟨2, ![M, K]⟩ : Shape).size inb x 1
  exact congrArg₂ g (Fin.ext ((Nat.zero_add _).symm.trans e0.symm)) e1.symm

/-- A band of rows of one matrix out of two. -/
theorem val_piece {M N K : ℕ} (g : ℕ → ℕ → Fin N → EReal) (t o : ℕ)
    (inb : ∀ a, (![0, t, o, 0] : Fin 4 → Nat) a + (⟨4, ![1, 1, K, N]⟩ : Shape).size a ≤ (⟨4, ![1, 2, M, N]⟩ : Shape).size a)
    (P : (⟨4, ![1, 1, K, N]⟩ : Shape).Idx → EReal) (hP : ∀ (i : Fin K) (p : Fin N), P (ix4 0 0 i p) = g t (o + i.val) p)
    (x : (⟨4, ![1, 1, K, N]⟩ : Shape).Idx) :
    P x = (fun y : (⟨4, ![1, 2, M, N]⟩ : Shape).Idx => g (y 1).val (y 2).val (y 3))
      ((Rect.unit (s := ⟨4, ![1, 2, M, N]⟩) ![0, t, o, 0] (⟨4, ![1, 1, K, N]⟩ : Shape).size inb).emb x) := by
  have z1 : (x 1).val = 0 := by have : (x 1).val < 1 := (x 1).isLt; omega
  have ex : x = ix4 0 0 (x 2) (x 3) := funext fun a => by
    match a with
    | ⟨0, _⟩ => exact Fin.ext (by have : (x 0).val < 1 := (x 0).isLt; show (x 0).val = 0; omega)
    | ⟨1, _⟩ => exact Fin.ext z1
    | ⟨2, _⟩ => rfl
    | ⟨3, _⟩ => rfl
  refine (congrArg P ex).trans ((hP _ _).trans ?_)
  have e1 := Rect.idx_unit_val (s := ⟨4, ![1, 2, M, N]⟩) ![0, t, o, 0] (⟨4, ![1, 1, K, N]⟩ : Shape).size inb x 1
  have e2 := Rect.idx_unit_val (s := ⟨4, ![1, 2, M, N]⟩) ![0, t, o, 0] (⟨4, ![1, 1, K, N]⟩ : Shape).size inb x 2
  have e3 := Rect.idx_unit_val (s := ⟨4, ![1, 2, M, N]⟩) ![0, t, o, 0] (⟨4, ![1, 1, K, N]⟩ : Shape).size inb x 3
  have e1' : ((Rect.unit (s := ⟨4, ![1, 2, M, N]⟩) ![0, t, o, 0] (⟨4, ![1, 1, K, N]⟩ : Shape).size inb).emb x 1).val = t :=
    e1.trans (by rw [z1]; rfl)
  show g t _ _ = g _ _ _
  rw [e1']
  exact congrArg₂ (g t) e2.symm (Fin.ext ((Nat.zero_add _).symm.trans e3.symm))

/-- The first mixer's queries. -/
def g11 (R : FVec Ideal S1664x512 .f32) (c s : FVec Ideal S8x512 .f32) (q : ℕ) (p : Fin 512) : EReal :=
  ropeAt 8 (fun j => col R p (q / 64 * 64 + j)) (col c p) (col s p) (q % 64)
/-- The second mixer's queries: each head in its own half of its rows. -/
def g12 (R : FVec Ideal S1664x512 .f32) (c s : FVec Ideal S8x512 .f32) (q : ℕ) (p : Fin 512) : EReal :=
  if q % 128 / 64 = q / 128 % 2 then ropeAt 8 (fun j => col R p (512 + q / 128 * 64 + j)) (col c p) (col s p) (q % 64) else 0
/-- The packed index queries. -/
def g13 (X : FVec Ideal S304x512 .f32) (c s : FVec Ideal S8x512 .f32) (q : ℕ) (p : Fin 512) : EReal :=
  packAt packq (turn32 (fun j => col X p (q / 256 * 32 + j)) (col c p) (col s p)) (q % 256)
/-- The values with their ones. -/
def g15 (R : FVec Ideal S1664x512 .f32) (t q : ℕ) (p : Fin 256) : EReal :=
  if h : t < 2 ∧ q < 64 then col R ⟨256 * t + p.val, by omega⟩ (1536 + q) else 1
def g16 (R : FVec Ideal S1664x512 .f32) (t q : ℕ) (p : Fin 256) : EReal :=
  if h : t < 2 ∧ q % 144 < 128 then col R ⟨256 * t + p.val, by omega⟩ (1024 + q / 144 * 128 + q % 144) else 1
/-- The second mixer's keys. -/
def g17 (K : FVec Ideal S512x512 .f32) (n0 n1 n2 : FVec Ideal S512x128 .f32) (r : Fin 512) (q : ℕ) : EReal :=
  if h : q < 512 then
    K (ix2 r ⟨q / 128 * 128 + q % 128, by omega⟩) * n0 (ix2 r ⟨q % 128, by omega⟩)
      + K (ix2 r ⟨q / 128 * 128 + (q % 128 + 120) % 128, by omega⟩) * n1 (ix2 r ⟨q % 128, by omega⟩)
      + K (ix2 r ⟨q / 128 * 128 + (q % 128 + 8) % 128, by omega⟩) * n2 (ix2 r ⟨q % 128, by omega⟩)
  else 0

/-- A head at its place. -/
theorem g11_head (n : ℕ) (R : FVec Ideal S1664x512 .f32) (c s : FVec Ideal S8x512 .f32) (hn : n < 8) (hs) (i : Fin 64) (p : Fin 512) :
    head64 (64 * n) hs R c s (ix3 0 i p) = g11 R c s (64 * n + i.val) p := by
  rw [head64_apply _ _ (by omega)]
  unfold g11
  rw [show (64 * n + i.val) / 64 * 64 = 64 * n by omega, show (64 * n + i.val) % 64 = i.val by omega]

theorem g12_even (n : ℕ) (R : FVec Ideal S1664x512 .f32) (c s : FVec Ideal S8x512 .f32) (hn : n < 8) (he : n % 2 = 0) (hs) (i : Fin 128) (p : Fin 512) :
    headE (512 + n * 64) hs R c s (ix3 0 i p) = g12 R c s (128 * n + i.val) p := by
  rw [headE_apply _ _ (by omega)]
  unfold g12
  rw [show (128 * n + i.val) % 128 / 64 = i.val / 64 by omega, show (128 * n + i.val) / 128 = n by omega, he,
    show (128 * n + i.val) % 64 = i.val % 64 by omega]

theorem g12_odd (n : ℕ) (R : FVec Ideal S1664x512 .f32) (c s : FVec Ideal S8x512 .f32) (hn : n < 8) (he : n % 2 = 1) (hs) (i : Fin 128) (p : Fin 512) :
    headO (512 + n * 64) hs R c s (ix3 0 i p) = g12 R c s (128 * n + i.val) p := by
  rw [headO_apply _ _ (by omega)]
  unfold g12
  rw [show (128 * n + i.val) % 128 / 64 = i.val / 64 by omega, show (128 * n + i.val) / 128 = n by omega, he,
    show (128 * n + i.val) % 64 = i.val % 64 by omega]

theorem g13_head (n : ℕ) (X : FVec Ideal S304x512 .f32) (c s : FVec Ideal S8x512 .f32) (hn : n < 8) (hs) (i : Fin 256) (p : Fin 512) :
    packH (n * 32) hs X c s (ix3 0 i p) = g13 X c s (256 * n + i.val) p := by
  rw [packH_apply _ _ (by omega)]
  unfold g13
  rw [show (256 * n + i.val) / 256 = n by omega, show (256 * n + i.val) % 256 = i.val by omega]

theorem g15_tile (t : ℕ) (R : FVec Ideal S1664x512 .f32) (ht : t < 2) (hs) (i : Fin 80) (p : Fin 256) :
    valA 1536 (256 * t) hs R (ix4 0 0 i p) = g15 R t (0 + i.val) p := by
  rw [valA_apply _ _ _ (by omega) (by omega)]
  unfold g15
  rw [Nat.zero_add]
  by_cases h : i.val < 64
  · rw [if_pos h, dif_pos ⟨ht, h⟩]
  · rw [if_neg h, dif_neg (fun a => h a.2)]

theorem g16_tile (t n : ℕ) (R : FVec Ideal S1664x512 .f32) (ht : t < 2) (hn : n < 4) (hs) (i : Fin 144) (p : Fin 256) :
    valB (1024 + n * 128) (256 * t) hs R (ix4 0 0 i p) = g16 R t (144 * n + i.val) p := by
  rw [valB_apply _ _ _ (by omega) (by omega)]
  unfold g16
  have e : (144 * n + i.val) % 144 = i.val := by omega
  have e' : (144 * n + i.val) / 144 = n := by omega
  by_cases h : i.val < 128
  · rw [if_pos h, dif_pos ⟨ht, by omega⟩]
    simp only [e, e']
  · rw [if_neg h, dif_neg (fun a => h (by omega))]

theorem g17_group (n : ℕ) (K : FVec Ideal S512x512 .f32) (n0 n1 n2 : FVec Ideal S512x128 .f32) (hn : n < 4) (hs) (r : Fin 512) (q : Fin 128) :
    grpK (n * 128) hs K n0 n1 n2 (ix2 r q) = g17 K n0 n1 n2 r (n * 128 + q.val) := by
  rw [grpK_apply _ _ (by omega)]
  unfold g17
  have e : (n * 128 + q.val) % 128 = q.val := by omega
  have e' : (n * 128 + q.val) / 128 = n := by omega
  rw [dif_pos (by omega)]
  simp only [e, e']

section
variable (x0 : Vec Ideal S512x1024 .f32) (x1 x2 : Vec Ideal S1x1024 .f32) (x3 : Vec Ideal S1024x512 .bf16) (x4 : Vec Ideal S1664x1024 .bf16)
  (x5 : Vec Ideal S912x1024 .bf16) (x6 x7 x8 x9 : Vec Ideal S8x512 .f32) (x10 : Vec Ideal S3x512x128 .f32)

theorem canon11 (R : FVec Ideal S1664x512 .f32) (c s : FVec Ideal S8x512 .f32) (y : S1x512x512.Idx) :
    View.canon (Val := Elt Ideal) (s := S1x512x512) (e := .bf16) [⟨r0_33, k0_pay61 R c s⟩, ⟨r0_32, k0_pay60 R c s⟩, ⟨r0_31, k0_pay59 R c s⟩, ⟨r0_30, k0_pay58 R c s⟩, ⟨r0_29, k0_pay57 R c s⟩,
      ⟨r0_28, k0_pay56 (k0_pay55 R c s)⟩, ⟨r0_27, k0_pay54 R c s⟩, ⟨r0_26, k0_pay53 R c s⟩] y = g11 R c s (y 1).val (y 2) := by
  refine View.canon_apply_of_pieces (Val := Elt Ideal) (S := S1x512x512) (e := .bf16) (fun y : S1x512x512.Idx => g11 R c s (y 1).val (y 2)) _ (fun p hp x => ?_) y (cover0_11 _ _ _ _ _ _ _ _ y)
  simp only [List.mem_cons, List.not_mem_nil, or_false] at hp
  rcases hp with rfl | rfl | rfl | rfl | rfl | rfl | rfl | rfl
  · exact mid_piece (g11 R c s) _ inb_S1x512x512_S1x64x512_0_448_0 _ (g11_head 7 R c s (by decide) slices_S1664x512_o448_0_S64x512) x
  · exact mid_piece (g11 R c s) _ inb_S1x512x512_S1x64x512_0_384_0 _ (g11_head 6 R c s (by decide) slices_S1664x512_o384_0_S64x512) x
  · exact mid_piece (g11 R c s) _ inb_S1x512x512_S1x64x512_0_320_0 _ (g11_head 5 R c s (by decide) slices_S1664x512_o320_0_S64x512) x
  · exact mid_piece (g11 R c s) _ inb_S1x512x512_S1x64x512_0_256_0 _ (g11_head 4 R c s (by decide) slices_S1664x512_o256_0_S64x512) x
  · exact mid_piece (g11 R c s) _ inb_S1x512x512_S1x64x512_0_192_0 _ (g11_head 3 R c s (by decide) slices_S1664x512_o192_0_S64x512) x
  · exact mid_piece (g11 R c s) _ inb_S1x512x512_S1x64x512_0_128_0 _ (g11_head 2 R c s (by decide) slices_S1664x512_o128_0_S64x512) x
  · exact mid_piece (g11 R c s) _ inb_S1x512x512_S1x64x512_0_64_0 _ (g11_head 1 R c s (by decide) slices_S1664x512_o64_0_S64x512) x
  · exact mid_piece (g11 R c s) _ inb_S1x512x512_S1x64x512_0_0_0 _ (g11_head 0 R c s (by decide) slices_S1664x512_o0_0_S64x512) x

theorem canon12 (R : FVec Ideal S1664x512 .f32) (c s : FVec Ideal S8x512 .f32) (y : S1x1024x512.Idx) :
    View.canon (Val := Elt Ideal) (s := S1x1024x512) (e := .bf16) [⟨r0_41, k0_pay70 R c s zero64⟩, ⟨r0_40, k0_pay69 R c s zero64⟩, ⟨r0_39, k0_pay68 R c s zero64⟩, ⟨r0_38, k0_pay67 R c s zero64⟩,
      ⟨r0_37, k0_pay66 R c s zero64⟩, ⟨r0_36, k0_pay65 R c s zero64⟩, ⟨r0_35, k0_pay64 R c s zero64⟩, ⟨r0_34, k0_pay63 R c s⟩] y = g12 R c s (y 1).val (y 2) := by
  refine View.canon_apply_of_pieces (Val := Elt Ideal) (S := S1x1024x512) (e := .bf16) (fun y : S1x1024x512.Idx => g12 R c s (y 1).val (y 2)) _ (fun p hp x => ?_) y (cover0_12 _ _ _ _ _ _ _ _ y)
  simp only [List.mem_cons, List.not_mem_nil, or_false] at hp
  rcases hp with rfl | rfl | rfl | rfl | rfl | rfl | rfl | rfl
  · exact mid_piece (g12 R c s) _ inb_S1x1024x512_S1x128x512_0_896_0 _ (g12_odd 7 R c s (by decide) (by decide) slices_S1664x512_o960_0_S64x512) x
  · exact mid_piece (g12 R c s) _ inb_S1x1024x512_S1x128x512_0_768_0 _ (g12_even 6 R c s (by decide) (by decide) slices_S1664x512_o896_0_S64x512) x
  · exact mid_piece (g12 R c s) _ inb_S1x1024x512_S1x128x512_0_640_0 _ (g12_odd 5 R c s (by decide) (by decide) slices_S1664x512_o832_0_S64x512) x
  · exact mid_piece (g12 R c s) _ inb_S1x1024x512_S1x128x512_0_512_0 _ (g12_even 4 R c s (by decide) (by decide) slices_S1664x512_o768_0_S64x512) x
  · exact mid_piece (g12 R c s) _ inb_S1x1024x512_S1x128x512_0_384_0 _ (g12_odd 3 R c s (by decide) (by decide) slices_S1664x512_o704_0_S64x512) x
  · exact mid_piece (g12 R c s) _ inb_S1x1024x512_S1x128x512_0_256_0 _ (g12_even 2 R c s (by decide) (by decide) slices_S1664x512_o640_0_S64x512) x
  · exact mid_piece (g12 R c s) _ inb_S1x1024x512_S1x128x512_0_128_0 _ (g12_odd 1 R c s (by decide) (by decide) slices_S1664x512_o576_0_S64x512) x
  · exact mid_piece (g12 R c s) _ inb_S1x1024x512_S1x128x512_0_0_0 _ (g12_even 0 R c s (by decide) (by decide) slices_S1664x512_o512_0_S64x512) x

theorem canon13 (X : FVec Ideal S304x512 .f32) (c s : FVec Ideal S8x512 .f32) (P0 : FVec Ideal S1x256x512 .bf16)
    (h0 : P0 = packH 0 slices_S304x512_o0_0_S32x512 X c s) (y : S1x2048x512.Idx) :
    View.canon (Val := Elt Ideal) (s := S1x2048x512) (e := .bf16) [⟨r0_21, k0_pay42 X c s zero64⟩, ⟨r0_20, k0_pay41 X c s zero64⟩,
      ⟨r0_19, k0_pay40 zero64 (k0_pay36 X c s) (k0_pay38 X c s) (k0_pay39 X c s)⟩, ⟨r0_18, k0_pay34 X c s zero64⟩,
      ⟨r0_17, k0_pay33 s zero64 (k0_pay30 X) (k0_pay31 X) (k0_pay32 X c) 4#32⟩, ⟨r0_16, k0_pay29 X c s zero64⟩, ⟨r0_15, k0_pay28 X c s zero64⟩, ⟨r0_14, P0⟩] y
      = g13 X c s (y 1).val (y 2) := by
  refine View.canon_apply_of_pieces (Val := Elt Ideal) (S := S1x2048x512) (e := .bf16) (fun y : S1x2048x512.Idx => g13 X c s (y 1).val (y 2)) _ (fun p hp x => ?_) y (cover0_13 _ _ _ _ _ _ _ _ y)
  simp only [List.mem_cons, List.not_mem_nil, or_false] at hp
  subst h0
  rcases hp with rfl | rfl | rfl | rfl | rfl | rfl | rfl | rfl
  · exact mid_piece (g13 X c s) _ inb_S1x2048x512_S1x256x512_0_1792_0 _ (g13_head 7 X c s (by decide) slices_S304x512_o224_0_S32x512) x
  · exact mid_piece (g13 X c s) _ inb_S1x2048x512_S1x256x512_0_1536_0 _ (g13_head 6 X c s (by decide) slices_S304x512_o192_0_S32x512) x
  · exact mid_piece (g13 X c s) _ inb_S1x2048x512_S1x256x512_0_1280_0 _ (g13_head 5 X c s (by decide) slices_S304x512_o160_0_S32x512) x
  · exact mid_piece (g13 X c s) _ inb_S1x2048x512_S1x256x512_0_1024_0 _ (g13_head 4 X c s (by decide) slices_S304x512_o128_0_S32x512) x
  · exact mid_piece (g13 X c s) _ inb_S1x2048x512_S1x256x512_0_768_0 _ (g13_head 3 X c s (by decide) slices_S304x512_o96_0_S32x512) x
  · exact mid_piece (g13 X c s) _ inb_S1x2048x512_S1x256x512_0_512_0 _ (g13_head 2 X c s (by decide) slices_S304x512_o64_0_S32x512) x
  · exact mid_piece (g13 X c s) _ inb_S1x2048x512_S1x256x512_0_256_0 _ (g13_head 1 X c s (by decide) slices_S304x512_o32_0_S32x512) x
  · exact mid_piece (g13 X c s) _ inb_S1x2048x512_S1x256x512_0_0_0 _ (g13_head 0 X c s (by decide) slices_S304x512_o0_0_S32x512) x

theorem canon16 (R : FVec Ideal S1664x512 .f32) (y : S1x2x576x256.Idx) :
    View.canon (Val := Elt Ideal) (s := S1x2x576x256) (e := .bf16) [⟨r0_50, k0_pay81 R (k0_pay71 (F := Ideal))⟩, ⟨r0_49, k0_pay80 R (k0_pay71 (F := Ideal))⟩, ⟨r0_48, k0_pay79 R (k0_pay71 (F := Ideal))⟩, ⟨r0_47, k0_pay78 R (k0_pay71 (F := Ideal))⟩,
      ⟨r0_45, k0_pay76 (k0_pay75 R)⟩, ⟨r0_44, k0_pay74 R⟩, ⟨r0_43, k0_pay73 R⟩, ⟨r0_42, k0_pay72 R⟩] y = g16 R (y 1).val (y 2).val (y 3) := by
  refine View.canon_apply_of_pieces (Val := Elt Ideal) (S := S1x2x576x256) (e := .bf16) (fun y : S1x2x576x256.Idx => g16 R (y 1).val (y 2).val (y 3)) _ (fun p hp x => ?_) y (cover0_16 _ _ _ _ _ _ _ _ y)
  simp only [List.mem_cons, List.not_mem_nil, or_false] at hp
  rcases hp with rfl | rfl | rfl | rfl | rfl | rfl | rfl | rfl
  · exact val_piece (g16 R) _ _ inb_S1x2x576x256_S1x1x144x256_0_1_432_0 _ (g16_tile 1 3 R (by decide) (by decide) slices_S1664x512_o1408_256_S128x256) x
  · exact val_piece (g16 R) _ _ inb_S1x2x576x256_S1x1x144x256_0_1_288_0 _ (g16_tile 1 2 R (by decide) (by decide) slices_S1664x512_o1280_256_S128x256) x
  · exact val_piece (g16 R) _ _ inb_S1x2x576x256_S1x1x144x256_0_1_144_0 _ (g16_tile 1 1 R (by decide) (by decide) slices_S1664x512_o1152_256_S128x256) x
  · exact val_piece (g16 R) _ _ inb_S1x2x576x256_S1x1x144x256_0_1_0_0 _ (g16_tile 1 0 R (by decide) (by decide) slices_S1664x512_o1024_256_S128x256) x
  · exact val_piece (g16 R) _ _ inb_S1x2x576x256_S1x1x144x256_0_0_432_0 _ (g16_tile 0 3 R (by decide) (by decide) slices_S1664x512_o1408_0_S128x256) x
  · exact val_piece (g16 R) _ _ inb_S1x2x576x256_S1x1x144x256_0_0_288_0 _ (g16_tile 0 2 R (by decide) (by decide) slices_S1664x512_o1280_0_S128x256) x
  · exact val_piece (g16 R) _ _ inb_S1x2x576x256_S1x1x144x256_0_0_144_0 _ (g16_tile 0 1 R (by decide) (by decide) slices_S1664x512_o1152_0_S128x256) x
  · exact val_piece (g16 R) _ _ inb_S1x2x576x256_S1x1x144x256_0_0_0_0 _ (g16_tile 0 0 R (by decide) (by decide) slices_S1664x512_o1024_0_S128x256) x

theorem canon15 (R : FVec Ideal S1664x512 .f32) (y : S1x2x80x256.Idx) :
    View.canon (Val := Elt Ideal) (s := S1x2x80x256) (e := .bf16) [⟨r0_51, k0_pay1 R (k0_pay71 (F := Ideal))⟩, ⟨r0_46, k0_pay77 R (k0_pay71 (F := Ideal))⟩] y = g15 R (y 1).val (y 2).val (y 3) := by
  refine View.canon_apply_of_pieces (Val := Elt Ideal) (S := S1x2x80x256) (e := .bf16) (fun y : S1x2x80x256.Idx => g15 R (y 1).val (y 2).val (y 3)) _ (fun p hp x => ?_) y (cover0_15 _ _ y)
  simp only [List.mem_cons, List.not_mem_nil, or_false] at hp
  rcases hp with rfl | rfl
  · exact val_piece (g15 R) _ _ inb_S1x2x80x256_S1x1x80x256_0_1_0_0 _ (g15_tile 1 R (by decide) slices_S1664x512_o1536_256_S64x256) x
  · exact val_piece (g15 R) _ _ inb_S1x2x80x256_S1x1x80x256_0_0_0_0 _ (g15_tile 0 R (by decide) slices_S1664x512_o1536_0_S64x256) x

theorem canon17 (K : FVec Ideal S512x512 .f32) (n0 : FVec Ideal S512x128 .f32) (a b : Vec Ideal S1x512x128 .f32) (y : S512x512.Idx) :
    View.canon (Val := Elt Ideal) (s := S512x512) (e := .bf16) [⟨r0_9, k0_pay17 (k0_pay15 K n0 a) (k0_pay16 K b)⟩, ⟨r0_8, k0_pay13 K n0 a b⟩, ⟨r0_7, k0_pay12 K n0 a b⟩, ⟨r0_6, k0_pay11 K n0 a b⟩] y
      = g17 K n0 (k0_pay9 a) (k0_pay10 b) (y 0) (y 1).val := by
  refine View.canon_apply_of_pieces (Val := Elt Ideal) (S := S512x512) (e := .bf16) (fun y : S512x512.Idx => g17 K n0 (k0_pay9 a) (k0_pay10 b) (y 0) (y 1).val) _ (fun p hp x => ?_) y (cover0_17 _ _ _ _ y)
  simp only [List.mem_cons, List.not_mem_nil, or_false] at hp
  rcases hp with rfl | rfl | rfl | rfl
  · exact mat_piece (g17 K n0 (k0_pay9 a) (k0_pay10 b)) _ inb_S512x512_S512x128_0_384 _ (g17_group 3 K n0 (k0_pay9 a) (k0_pay10 b) (by decide) slices_S512x512_o0_384_S512x128) x
  · exact mat_piece (g17 K n0 (k0_pay9 a) (k0_pay10 b)) _ inb_S512x512_S512x128_0_256 _ (g17_group 2 K n0 (k0_pay9 a) (k0_pay10 b) (by decide) slices_S512x512_o0_256_S512x128) x
  · exact mat_piece (g17 K n0 (k0_pay9 a) (k0_pay10 b)) _ inb_S512x512_S512x128_0_128 _ (g17_group 1 K n0 (k0_pay9 a) (k0_pay10 b) (by decide) slices_S512x512_o0_128_S512x128) x
  · exact mat_piece (g17 K n0 (k0_pay9 a) (k0_pay10 b)) _ inb_S512x512_S512x128_0_0 _ (g17_group 0 K n0 (k0_pay9 a) (k0_pay10 b) (by decide) slices_S512x512_o0_0_S512x128) x

theorem hz2 : (![0, 0] : Fin 2 → Nat) = fun _ => 0 := funext fun a => by fin_cases a <;> rfl

/-- The tables of a point are its loads. -/
theorem tab6 : k0_pay92 x0 x1 x2 x3 x4 x5 x6 x7 x8 x9 x10 = x6 := by
  unfold k0_pay92
  rw [View.ld_unit_zero hz2]
  exact shapeCast_self _ _
theorem tab7 : k0_pay93 x0 x1 x2 x3 x4 x5 x6 x7 x8 x9 x10 = x7 := by
  unfold k0_pay93
  rw [View.ld_unit_zero hz2]
  exact shapeCast_self _ _
theorem tab8 : k0_pay88 x0 x1 x2 x3 x4 x5 x6 x7 x8 x9 x10 = x8 := by
  unfold k0_pay88
  rw [View.ld_unit_zero hz2]
  exact shapeCast_self _ _
theorem tab9 : k0_pay89 x0 x1 x2 x3 x4 x5 x6 x7 x8 x9 x10 = x9 := by
  unfold k0_pay89
  rw [View.ld_unit_zero hz2]
  exact shapeCast_self _ _

/-- A plane of the keys' tables. -/
theorem plane (k : ℕ) (hk : k < 3) (inb) (h : S1x512x128.ShapeCasts S512x128) (r : Fin 512) (q : Fin 128) :
    shapeCast S512x128 (View.ld x10 (Rect.unit (s := S3x512x128) ![k, 0, 0] S1x512x128.size inb)) h (ix2 r q) = x10 (ix3 ⟨k, hk⟩ r q) := by
  refine (dropLead_apply _ _ _ _).trans (View.ld_unit_apply_of _ _ _ _ _ _ fun a => ?_)
  match a with
  | ⟨0, _⟩ => rfl
  | ⟨1, _⟩ => show r.val = 0 + r.val; omega
  | ⟨2, _⟩ => show q.val = 0 + q.val; omega

/-- The queries of the first mixer. -/
theorem out11 (y : S1x512x512.Idx) : out0_11 x0 x1 x2 x3 x4 x5 x6 x7 x8 x9 x10 y = g11 (k0_pay91 x0 x1 x2 x3 x4 x5 x6 x7 x8 x9 x10) x6 x7 (y 1).val (y 2) := by
  refine (canon11 (k0_pay91 x0 x1 x2 x3 x4 x5 x6 x7 x8 x9 x10) (k0_pay92 x0 x1 x2 x3 x4 x5 x6 x7 x8 x9 x10) (k0_pay93 x0 x1 x2 x3 x4 x5 x6 x7 x8 x9 x10) y).trans ?_
  rw [tab6, tab7]

theorem out12 (y : S1x1024x512.Idx) : out0_12 x0 x1 x2 x3 x4 x5 x6 x7 x8 x9 x10 y = g12 (k0_pay91 x0 x1 x2 x3 x4 x5 x6 x7 x8 x9 x10) x6 x7 (y 1).val (y 2) := by
  refine (canon12 (k0_pay91 x0 x1 x2 x3 x4 x5 x6 x7 x8 x9 x10) (k0_pay92 x0 x1 x2 x3 x4 x5 x6 x7 x8 x9 x10) (k0_pay93 x0 x1 x2 x3 x4 x5 x6 x7 x8 x9 x10) y).trans ?_
  rw [tab6, tab7]

theorem out13 (y : S1x2048x512.Idx) : out0_13 x0 x1 x2 x3 x4 x5 x6 x7 x8 x9 x10 y = g13 (k0_pay87 x0 x1 x2 x3 x4 x5 x6 x7 x8 x9 x10) x8 x9 (y 1).val (y 2) := by
  refine (canon13 (k0_pay87 x0 x1 x2 x3 x4 x5 x6 x7 x8 x9 x10) (k0_pay88 x0 x1 x2 x3 x4 x5 x6 x7 x8 x9 x10) (k0_pay89 x0 x1 x2 x3 x4 x5 x6 x7 x8 x9 x10) _ rfl y).trans ?_
  rw [tab8, tab9]

theorem out14 (y : S1x8x512.Idx) : out0_14 x0 x1 x2 x3 x4 x5 x6 x7 x8 x9 x10 y = col (k0_pay87 x0 x1 x2 x3 x4 x5 x6 x7 x8 x9 x10) (y 2) (288 + (y 1).val) := by
  unfold out0_14
  refine View.canon_apply_of_pieces (Val := Elt Ideal) (S := S1x8x512) (e := .f32) (fun y : S1x8x512.Idx => col (k0_pay87 x0 x1 x2 x3 x4 x5 x6 x7 x8 x9 x10) (y 2) (288 + (y 1).val)) _ (fun p hp x => ?_) y (cover0_14 _ y)
  simp only [List.mem_cons, List.not_mem_nil, or_false] at hp
  rcases hp with rfl
  refine mid_piece (fun i p => col (k0_pay87 x0 x1 x2 x3 x4 x5 x6 x7 x8 x9 x10) p (288 + i)) 0 inb_S1x8x512_S1x8x512_0_0_0 _ (fun i p => ?_) x
  refine (pay47_apply (k0_pay87 x0 x1 x2 x3 x4 x5 x6 x7 x8 x9 x10) i p).trans ?_
  show _ = col _ p (288 + (0 + i.val))
  rw [Nat.zero_add]

theorem out15 (y : S1x2x80x256.Idx) : out0_15 x0 x1 x2 x3 x4 x5 x6 x7 x8 x9 x10 y = g15 (k0_pay91 x0 x1 x2 x3 x4 x5 x6 x7 x8 x9 x10) (y 1).val (y 2).val (y 3) :=
  canon15 (k0_pay91 x0 x1 x2 x3 x4 x5 x6 x7 x8 x9 x10) y

theorem out16 (y : S1x2x576x256.Idx) : out0_16 x0 x1 x2 x3 x4 x5 x6 x7 x8 x9 x10 y = g16 (k0_pay91 x0 x1 x2 x3 x4 x5 x6 x7 x8 x9 x10) (y 1).val (y 2).val (y 3) :=
  canon16 (k0_pay91 x0 x1 x2 x3 x4 x5 x6 x7 x8 x9 x10) y

theorem out17 (y : S512x512.Idx) : out0_17 x0 x1 x2 x3 x4 x5 x6 x7 x8 x9 x10 y
    = g17 (k0_pay85 x0 x1 x2 x3 x4 x5 x6 x7 x8 x9 x10) (fun i => x10 (ix3 0 (i 0) (i 1))) (fun i => x10 (ix3 1 (i 0) (i 1))) (fun i => x10 (ix3 2 (i 0) (i 1))) (y 0) (y 1).val := by
  refine (canon17 (k0_pay85 x0 x1 x2 x3 x4 x5 x6 x7 x8 x9 x10) (k0_pay86 x0 x1 x2 x3 x4 x5 x6 x7 x8 x9 x10) (View.ld x10 r0_4) (View.ld x10 r0_5) y).trans ?_
  have e0 : k0_pay86 x0 x1 x2 x3 x4 x5 x6 x7 x8 x9 x10 = fun i => x10 (ix3 0 (i 0) (i 1)) := funext fun i => by
    rw [show i = ix2 (i 0) (i 1) from funext fun a => by match a with | ⟨0, _⟩ => rfl | ⟨1, _⟩ => rfl]
    exact plane x10 0 (by decide) inb_S3x512x128_S1x512x128_0_0_0 shapeCasts_S1x512x128_S512x128 _ _
  have e1 : k0_pay9 (View.ld x10 r0_4) = fun i => x10 (ix3 1 (i 0) (i 1)) := funext fun i => by
    rw [show i = ix2 (i 0) (i 1) from funext fun a => by match a with | ⟨0, _⟩ => rfl | ⟨1, _⟩ => rfl]
    exact plane x10 1 (by decide) inb_S3x512x128_S1x512x128_1_0_0 shapeCasts_S1x512x128_S512x128 _ _
  have e2 : k0_pay10 (View.ld x10 r0_5) = fun i => x10 (ix3 2 (i 0) (i 1)) := funext fun i => by
    rw [show i = ix2 (i 0) (i 1) from funext fun a => by match a with | ⟨0, _⟩ => rfl | ⟨1, _⟩ => rfl]
    exact plane x10 2 (by decide) inb_S3x512x128_S1x512x128_2_0_0 shapeCasts_S1x512x128_S512x128 _ _
  rw [e0, e1, e2]

/-- The first mixer's keys. -/
def g18 (R : FVec Ideal S1664x512 .f32) (c s : FVec Ideal S8x512 .f32) (r : Fin 512) (q : ℕ) : EReal :=
  ropeAt 8 (fun j => col R r (1600 + j)) (col c r) (col s r) q
/-- The packed index keys. -/
def g19 (X : FVec Ideal S304x512 .f32) (c s : FVec Ideal S8x512 .f32) (r : Fin 512) (q : ℕ) : EReal :=
  packAt packk (turn32 (fun j => col X r (256 + j)) (col c r) (col s r)) q

theorem out18 (y : S512x64.Idx) : out0_18 x0 x1 x2 x3 x4 x5 x6 x7 x8 x9 x10 y = g18 (k0_pay91 x0 x1 x2 x3 x4 x5 x6 x7 x8 x9 x10) x6 x7 (y 0) (y 1).val := by
  refine Eq.trans ?_ (congrArg₂ (fun c s => g18 (k0_pay91 x0 x1 x2 x3 x4 x5 x6 x7 x8 x9 x10) c s (y 0) (y 1).val) (tab6 x0 x1 x2 x3 x4 x5 x6 x7 x8 x9 x10) (tab7 x0 x1 x2 x3 x4 x5 x6 x7 x8 x9 x10))
  unfold out0_18
  refine View.canon_apply_of_pieces (Val := Elt Ideal) (S := S512x64) (e := .bf16) (fun y : S512x64.Idx => g18 (k0_pay91 x0 x1 x2 x3 x4 x5 x6 x7 x8 x9 x10) (k0_pay92 x0 x1 x2 x3 x4 x5 x6 x7 x8 x9 x10) (k0_pay93 x0 x1 x2 x3 x4 x5 x6 x7 x8 x9 x10) (y 0) (y 1).val) _ (fun p hp x => ?_) y (cover0_18 _ y)
  simp only [List.mem_cons, List.not_mem_nil, or_false] at hp
  rcases hp with rfl
  refine mat_piece (g18 (k0_pay91 x0 x1 x2 x3 x4 x5 x6 x7 x8 x9 x10) (k0_pay92 x0 x1 x2 x3 x4 x5 x6 x7 x8 x9 x10) (k0_pay93 x0 x1 x2 x3 x4 x5 x6 x7 x8 x9 x10)) 0 inb_S512x64_S512x64_0_0 _ (fun r q => ?_) x
  rw [Nat.zero_add]
  exact pay52_apply _ _ _ _ r q

theorem out19 (y : S512x256.Idx) : out0_19 x0 x1 x2 x3 x4 x5 x6 x7 x8 x9 x10 y = g19 (k0_pay87 x0 x1 x2 x3 x4 x5 x6 x7 x8 x9 x10) x8 x9 (y 0) (y 1).val := by
  refine Eq.trans ?_ (congrArg₂ (fun c s => g19 (k0_pay87 x0 x1 x2 x3 x4 x5 x6 x7 x8 x9 x10) c s (y 0) (y 1).val) (tab8 x0 x1 x2 x3 x4 x5 x6 x7 x8 x9 x10) (tab9 x0 x1 x2 x3 x4 x5 x6 x7 x8 x9 x10))
  unfold out0_19
  refine View.canon_apply_of_pieces (Val := Elt Ideal) (S := S512x256) (e := .bf16) (fun y : S512x256.Idx => g19 (k0_pay87 x0 x1 x2 x3 x4 x5 x6 x7 x8 x9 x10) (k0_pay88 x0 x1 x2 x3 x4 x5 x6 x7 x8 x9 x10) (k0_pay89 x0 x1 x2 x3 x4 x5 x6 x7 x8 x9 x10) (y 0) (y 1).val) _ (fun p hp x => ?_) y (cover0_19 _ y)
  simp only [List.mem_cons, List.not_mem_nil, or_false] at hp
  rcases hp with rfl
  refine mat_piece (g19 (k0_pay87 x0 x1 x2 x3 x4 x5 x6 x7 x8 x9 x10) (k0_pay88 x0 x1 x2 x3 x4 x5 x6 x7 x8 x9 x10) (k0_pay89 x0 x1 x2 x3 x4 x5 x6 x7 x8 x9 x10)) 0 inb_S512x256_S512x256_0_0 _ (fun r q => ?_) x
  rw [Nat.zero_add]
  exact pay46_apply _ _ _ r q

/-! ### The rows of a point -/

/-- A row less its mean. -/
def cen (v : FVec Ideal S512x1024 .f32) : FVec Ideal S512x1024 .f32 :=
  subf v (broadcastTo S512x1024 (divf (shapeCast S512x1 (multiReduction .add [1] S512 v 0x00000000#32 reduces_S512x1024_S512 (.inl rfl) rfl) shapeCasts_S512_S512x1)
    (broadcast S512x1 (Scalar.ofBits (F := Ideal) .f32 0x44800000#32))) broadcasts_S512x1_S512x1024)
/-- The row's scale. -/
def inv (d : FVec Ideal S512x1024 .f32) : FVec Ideal S512x1 .f32 :=
  rsqrt (addf (divf (shapeCast S512x1 (multiReduction .add [1] S512 (mulf d d) 0x00000000#32 reduces_S512x1024_S512 (.inl rfl) rfl) shapeCasts_S512_S512x1)
    (broadcast S512x1 (Scalar.ofBits (F := Ideal) .f32 0x44800000#32))) (broadcast S512x1 (Scalar.ofBits (F := Ideal) .f32 0x3727C5AC#32)))
/-- The rows normalised. -/
def ln (v : FVec Ideal S512x1024 .f32) (g b : FVec Ideal S1x1024 .f32) : FVec Ideal S512x1024 .f32 :=
  addf (mulf (mulf (cen v) (broadcastTo S512x1024 (inv (cen v)) broadcasts_S512x1_S512x1024)) (broadcastTo S512x1024 g broadcasts_S1x1024_S512x1024))
    (broadcastTo S512x1024 b broadcasts_S1x1024_S512x1024)

theorem cen_apply (v : FVec Ideal S512x1024 .f32) (r : Fin 512) (c : Fin 1024) :
    cen v (ix2 r c) = v (ix2 r c) - mean fun k => v (ix2 r k) := by
  unfold cen mean
  rw [subf_apply]
  refine congrArg₂ (· - ·) rfl ?_
  refine (colBroadcast_apply _ _ r c).trans ?_
  rw [divf_apply]
  refine congrArg₂ Ideal.div ?_ rfl
  exact (col_apply _ _ r 0).trans (rowSum_apply v _ _ _ r)

theorem inv_apply (d : FVec Ideal S512x1024 .f32) (r : Fin 512) :
    inv d (ix2 r 0) = Ideal.rsqrt (mean (fun k => d (ix2 r k) * d (ix2 r k)) + Ideal.ofBits .f32 0x3727C5AC#32) := by
  unfold inv mean
  show Ideal.rsqrt _ = _
  refine congrArg Ideal.rsqrt ?_
  rw [addf_apply]
  refine congrArg₂ (· + ·) ?_ rfl
  rw [divf_apply]
  refine congrArg₂ Ideal.div ?_ rfl
  exact (col_apply _ _ r 0).trans (rowSum_apply (mulf d d) _ _ _ r)

theorem ln_apply (v : FVec Ideal S512x1024 .f32) (g b : FVec Ideal S1x1024 .f32) (r : Fin 512) (c : Fin 1024) :
    ln v g b (ix2 r c) = lnRow (fun k => v (ix2 r k)) (fun k => g (ix2 0 k)) (fun k => b (ix2 0 k)) c := by
  unfold ln lnRow
  rw [addf_apply, mulf_apply, mulf_apply, cen_apply]
  refine congrArg₂ (· + ·) (congrArg₂ (· * ·) (congrArg₂ (· * ·) rfl ?_) ?_) ?_
  · refine (colBroadcast_apply _ _ r c).trans ((inv_apply _ r).trans ?_)
    simp only [cen_apply]
  · exact rowBroadcast_apply _ _ r c
  · exact rowBroadcast_apply _ _ r c

/-- The normalised rows of a point. -/
abbrev bH (r : Fin 512) : Fin 1024 → EReal := lnRow (fun k => x0 (ix2 r k)) (fun k => x1 (ix2 0 k)) (fun k => x2 (ix2 0 k))

theorem pay2_apply (r : Fin 512) (k : Fin 1024) : k0_pay2 x0 x1 x2 (ix2 r k) = bH x0 x1 x2 r k := by
  show ln (shapeCast S512x1024 x0 shapeCasts_S512x1024_S512x1024) (shapeCast S1x1024 x1 shapeCasts_S1x1024_S1x1024) (shapeCast S1x1024 x2 shapeCasts_S1x1024_S1x1024) (ix2 r k) = _
  rw [shapeCast_self, shapeCast_self, shapeCast_self]
  exact ln_apply x0 x1 x2 r k

theorem hi_apply (r : Fin 512) (k : Fin 1024) : k0_pay82 x0 x1 x2 x3 x4 x5 x6 x7 x8 x9 x10 (ix2 r k) = bH x0 x1 x2 r k := by
  unfold k0_pay82
  rw [View.ld_unit_zero hz2, View.ld_unit_zero hz2, View.ld_unit_zero hz2]
  exact pay2_apply x0 x1 x2 r k

theorem mid_apply (r : Fin 512) (k : Fin 1024) : k0_pay83 x0 x1 x2 x3 x4 x5 x6 x7 x8 x9 x10 (ix2 r k) = bH x0 x1 x2 r k - bH x0 x1 x2 r k := by
  unfold k0_pay83
  rw [View.ld_unit_zero hz2, View.ld_unit_zero hz2, View.ld_unit_zero hz2]
  show k0_pay2 x0 x1 x2 (ix2 r k) - k0_pay2 x0 x1 x2 (ix2 r k) = _
  rw [pay2_apply]

theorem lo_apply (r : Fin 512) (k : Fin 1024) :
    k0_pay84 x0 x1 x2 x3 x4 x5 x6 x7 x8 x9 x10 (ix2 r k) = (bH x0 x1 x2 r k - bH x0 x1 x2 r k) - (bH x0 x1 x2 r k - bH x0 x1 x2 r k) := by
  unfold k0_pay84
  rw [View.ld_unit_zero hz2, View.ld_unit_zero hz2, View.ld_unit_zero hz2]
  show (k0_pay2 x0 x1 x2 (ix2 r k) - k0_pay2 x0 x1 x2 (ix2 r k)) - (k0_pay2 x0 x1 x2 (ix2 r k) - k0_pay2 x0 x1 x2 (ix2 r k)) = _
  rw [pay2_apply]

/-- The projected rows. -/
theorem bR_apply (q : Fin 1664) (p : Fin 512) : k0_pay91 x0 x1 x2 x3 x4 x5 x6 x7 x8 x9 x10 (ix2 q p) = ∑ k, x4 (ix2 q k) * bH x0 x1 x2 p k := by
  unfold k0_pay91
  rw [View.ld_unit_zero hz2]
  show matmul dot_S1664x1024_S512x1024_S1664x512_1_1_0_0_n_n none (shapeCast S1664x1024 x4 shapeCasts_S1664x1024_S1664x1024) (k0_pay82 x0 x1 x2 x3 x4 x5 x6 x7 x8 x9 x10)
    (constant S1664x512 .f32 0x00000000#32) (ix2 q p) = _
  rw [shapeCast_self]
  refine (mmT_apply _ rfl x4 _ q p).trans (Finset.sum_congr rfl fun k _ => ?_)
  rw [hi_apply]

/-- The second mixer's projected keys. -/
theorem bK_apply (r p : Fin 512) : k0_pay85 x0 x1 x2 x3 x4 x5 x6 x7 x8 x9 x10 (ix2 r p) = ∑ k, bH x0 x1 x2 r k * x3 (ix2 k p) := by
  unfold k0_pay85
  rw [View.ld_unit_zero hz2, View.ld_unit_zero hz2, View.ld_unit_zero hz2, View.ld_unit_zero hz2]
  show matmul dot_S512x1024_S1024x512_S512x512_1_0_0_1_n_n none (k0_pay2 x0 x1 x2) (shapeCast S1024x512 x3 shapeCasts_S1024x512_S1024x512)
    (constant S512x512 .f32 0x00000000#32) (ix2 r p) = _
  rw [shapeCast_self]
  refine (mm_apply _ rfl (φ₁ := .bf16) (φ₂ := .bf16) _ x3 r p).trans (Finset.sum_congr rfl fun k _ => ?_)
  rw [pay2_apply]

/-- The three products of the index rows. -/
def prod1 (w : Vec Ideal S912x1024 .bf16) (h : FVec Ideal S512x1024 .bf16) : FVec Ideal S912x512 .f32 :=
  matmul dot_S912x1024_S512x1024_S912x512_1_1_0_0_n_n none (shapeCast S912x1024 w shapeCasts_S912x1024_S912x1024 : FVec Ideal S912x1024 .bf16) h (constant S912x512 .f32 0x00000000#32)
def prod2 (w : Vec Ideal S608x1024 .bf16) (h : FVec Ideal S512x1024 .bf16) : FVec Ideal S608x512 .f32 :=
  matmul dot_S608x1024_S512x1024_S608x512_1_1_0_0_n_n none (shapeCast S608x1024 w shapeCasts_S608x1024_S608x1024 : FVec Ideal S608x1024 .bf16) h (constant S608x512 .f32 0x00000000#32)
def prod3 (w : Vec Ideal S304x1024 .bf16) (h : FVec Ideal S512x1024 .bf16) : FVec Ideal S304x512 .f32 :=
  matmul dot_S304x1024_S512x1024_S304x512_1_1_0_0_n_n none (shapeCast S304x1024 w shapeCasts_S304x1024_S304x1024 : FVec Ideal S304x1024 .bf16) h (constant S304x512 .f32 0x00000000#32)

theorem prod1_apply (w : Vec Ideal S912x1024 .bf16) (h : FVec Ideal S512x1024 .bf16) (i : Fin 912) (p : Fin 512) :
    prod1 w h (ix2 i p) = ∑ k, w (ix2 i k) * h (ix2 p k) := by
  unfold prod1
  rw [shapeCast_self]
  exact mmT_apply _ rfl w h i p
theorem prod2_apply (w : Vec Ideal S608x1024 .bf16) (h : FVec Ideal S512x1024 .bf16) (i : Fin 608) (p : Fin 512) :
    prod2 w h (ix2 i p) = ∑ k, w (ix2 i k) * h (ix2 p k) := by
  unfold prod2
  rw [shapeCast_self]
  exact mmT_apply _ rfl w h i p
theorem prod3_apply (w : Vec Ideal S304x1024 .bf16) (h : FVec Ideal S512x1024 .bf16) (i : Fin 304) (p : Fin 512) :
    prod3 w h (ix2 i p) = ∑ k, w (ix2 i k) * h (ix2 p k) := by
  unfold prod3
  rw [shapeCast_self]
  exact mmT_apply _ rfl w h i p

/-- The index rows from the products' rows. -/
theorem pay18_apply (a b c : FVec Ideal S512x1024 .bf16) (w1 : Vec Ideal S912x1024 .bf16) (w2 : Vec Ideal S608x1024 .bf16) (w3 : Vec Ideal S304x1024 .bf16)
    (q : Fin 304) (p : Fin 512) : k0_pay18 a b c w1 w2 w3 (ix2 q p)
      = ((prod3 w3 c (ix2 q p) + col (prod2 w2 b) p (304 + q.val)) + col (prod1 w1 a) p (608 + q.val))
        + (col (prod2 w2 b) p (0 + q.val) + col (prod1 w1 a) p (304 + q.val)) + col (prod1 w1 a) p (0 + q.val) := by
  show ((prod3 w3 c (ix2 q p) + extractStridedSlice S304x512 ![304, 0] (prod2 w2 b) slices_S608x512_o304_0_S304x512 (ix2 q p))
      + extractStridedSlice S304x512 ![608, 0] (prod1 w1 a) slices_S912x512_o608_0_S304x512 (ix2 q p))
    + (extractStridedSlice S304x512 ![0, 0] (prod2 w2 b) slices_S608x512_o0_0_S304x512 (ix2 q p)
      + extractStridedSlice S304x512 ![304, 0] (prod1 w1 a) slices_S912x512_o304_0_S304x512 (ix2 q p))
    + extractStridedSlice S304x512 ![0, 0] (prod1 w1 a) slices_S912x512_o0_0_S304x512 (ix2 q p) = _
  exact congrArg₂ (· + ·) (congrArg₂ (· + ·) (congrArg₂ (· + ·) (congrArg₂ (· + ·) rfl (slab_apply 304 _ _ (by decide) q p)) (slab_apply 608 _ _ (by decide) q p))
    (congrArg₂ (· + ·) (slab_apply 0 _ _ (by decide) q p) (slab_apply 304 _ _ (by decide) q p))) (slab_apply 0 _ _ (by decide) q p)

/-- The index rows, where the normalised rows are numbers and the weights' second and third parts are nothing. -/
theorem bX_apply (q : Fin 304) (p : Fin 512) (hH : ∀ k, bH x0 x1 x2 p k - bH x0 x1 x2 p k = 0)
    (h1 : ∀ k, x5 (ix2 ⟨304 + q.val, by omega⟩ k) = 0) (h2 : ∀ k, x5 (ix2 ⟨608 + q.val, by omega⟩ k) = 0) :
    k0_pay87 x0 x1 x2 x3 x4 x5 x6 x7 x8 x9 x10 (ix2 q p) = ∑ k, x5 (ix2 ⟨q.val, by omega⟩ k) * bH x0 x1 x2 p k := by
  have t1 : ∀ j, (hj : j < 912) → col (prod1 (View.ld x5 r0_10) (k0_pay82 x0 x1 x2 x3 x4 x5 x6 x7 x8 x9 x10)) p j = ∑ k, x5 (ix2 ⟨j, hj⟩ k) * bH x0 x1 x2 p k := fun j hj => by
    rw [View.ld_unit_zero hz2, col_of_lt _ _ hj, prod1_apply]
    exact Finset.sum_congr rfl fun k _ => congrArg (_ * ·) (hi_apply x0 x1 x2 x3 x4 x5 x6 x7 x8 x9 x10 p k)
  have t2 : ∀ j, j < 608 → col (prod2 (View.ld x5 r0_11) (k0_pay83 x0 x1 x2 x3 x4 x5 x6 x7 x8 x9 x10)) p j = 0 := fun j hj => by
    rw [col_of_lt _ _ hj, prod2_apply]
    refine Finset.sum_eq_zero fun k _ => ?_
    rw [mid_apply, hH, mul_zero]
  have t3 : prod3 (View.ld x5 r0_12) (k0_pay84 x0 x1 x2 x3 x4 x5 x6 x7 x8 x9 x10) (ix2 q p) = 0 := by
    rw [prod3_apply]
    refine Finset.sum_eq_zero fun k _ => ?_
    rw [lo_apply, hH, sub_zero, mul_zero]
  unfold k0_pay87
  rw [pay18_apply, t3, t2 _ (by omega), t2 _ (by omega), t1 _ (by omega), t1 _ (by omega), t1 _ (by omega)]
  simp only [h1, h2, zero_mul, Finset.sum_const_zero, zero_add, add_zero]
end

end Cert.Kernel3Ideal.Proj
-- ==== Proof.ProjHost.lean ====
/- What the input projection's kernel is given: the weights it takes apart and the tables of its turn, read at a place. (Hand-written, untrusted.) -/
module

public import proofs.«01_k».proof.Proof.ProjSpec
public import proofs.«01_k».proof.Proof.Gen.Kernel3Ideal.Value
public import Idealize.ShloMosaic.Lib.Pipeline.ValueKit
public import Idealize.ShloMosaic.Lib.ValueIdxRank6

@[expose] public section

set_option maxRecDepth 16384

noncomputable section

open Idealize.ShloMosaic hiding ix1 ix2 ix3 ix4
open Idealize.ShloMosaic.TcCoe Idealize.SL.Sem Idealize.ShloMosaic.ValueIdx

namespace Cert.Kernel3Ideal.Proj

open Cert.Kernel3Ideal Cert.Kernel3Ideal.Gen Cert.Rows Cert.Proj

/-! ### The host's values -/

section Weights
variable (w : FVec Ideal S1x1024x7592 .f32)

/-- The weight, turned. -/
def hW : FVec Ideal S7592x1024 .f32 := transpose S7592x1024 [1, 0] (shapeCast S1024x7592 w shapeCasts_S1x1024x7592_S1024x7592) transposes_S1024x7592_S7592x1024_1_0
/-- The turned weight in the short format: the same numbers. -/
def hW16 : FVec Ideal S7592x1024 .bf16 := truncf .bf16 (hW w) bitsLt_bf16_f32
/-- The queries' rows, scaled. -/
def hQ : FVec Ideal S1024x1024 .f32 :=
  mulf (concatenate S1024x1024 0 [⟨S512x1024, extractStridedSlice S512x1024 ![0, 0] (hW w) slices_S7592x1024_S512x1024_0_0⟩,
    ⟨S512x1024, extractStridedSlice S512x1024 ![1448, 0] (hW w) slices_S7592x1024_S512x1024_1448_0⟩] concatenates_S512x1024_S512x1024_S1024x1024_d0)
    (broadcastInDim S1024x1024 ![] bcast_S_S1024x1024 (constant (F := Ideal) S_ .f32 0x3E38AA3B#32))
/-- The rows the kernel multiplies as they are. -/
def hWt : FVec Ideal S1664x1024 .bf16 :=
  concatenate S1664x1024 0 [⟨S1024x1024, (truncf .bf16 (hQ w) bitsLt_bf16_f32 : FVec Ideal S1024x1024 .bf16)⟩, ⟨S512x1024, extractStridedSlice S512x1024 ![2472, 0] (hW16 w) slices_S7592x1024_S512x1024_2472_0⟩,
    ⟨S64x1024, extractStridedSlice S64x1024 ![576, 0] (hW16 w) slices_S7592x1024_S64x1024_576_0⟩, ⟨S64x1024, extractStridedSlice S64x1024 ![512, 0] (hW16 w) slices_S7592x1024_S64x1024_512_0⟩]
    concatenates_S1024x1024_S512x1024_S64x1024_S64x1024_S1664x1024_d0
/-- The index rows. -/
def hX : FVec Ideal S304x1024 .f32 :=
  concatenate S304x1024 0 [⟨S256x1024, extractStridedSlice S256x1024 ![1152, 0] (hW w) slices_S7592x1024_S256x1024_1152_0⟩, ⟨S32x1024, extractStridedSlice S32x1024 ![1408, 0] (hW w) slices_S7592x1024_S32x1024_1408_0⟩,
    ⟨S8x1024, (mulf (extractStridedSlice S8x1024 ![1440, 0] (hW w) slices_S7592x1024_S8x1024_1440_0) (broadcastInDim S8x1024 ![] bcast_S_S8x1024 (constant (F := Ideal) S_ .f32 0x3D800000#32)) : FVec Ideal S8x1024 .f32)⟩,
    ⟨S8x1024, broadcastInDim S8x1024 ![] bcast_S_S8x1024 (constant (F := Ideal) S_ .f32 0x00000000#32)⟩] concatenates_S256x1024_S32x1024_S8x1024_S8x1024_S304x1024_d0
/-- The index rows in three parts. -/
def hX0 : FVec Ideal S304x1024 .bf16 := truncf .bf16 (hX w) bitsLt_bf16_f32
def hX1' : FVec Ideal S304x1024 .f32 := subf (hX w) (extf .f32 (hX0 w) bitsLt_bf16_f32)
def hX1 : FVec Ideal S304x1024 .bf16 := truncf .bf16 (hX1' w) bitsLt_bf16_f32
def hX2 : FVec Ideal S304x1024 .bf16 := truncf .bf16 (subf (hX1' w) (extf .f32 (hX1 w) bitsLt_bf16_f32)) bitsLt_bf16_f32
def hWx : FVec Ideal S912x1024 .bf16 :=
  concatenate S912x1024 0 [⟨S304x1024, hX0 w⟩, ⟨S304x1024, hX1 w⟩, ⟨S304x1024, hX2 w⟩] concatenates_S304x1024_S304x1024_S304x1024_S912x1024_d0
/-- The second mixer's keys' weight. -/
def hWn : FVec Ideal S1024x512 .bf16 := transpose S1024x512 [1, 0] (extractStridedSlice S512x1024 ![1960, 0] (hW16 w) slices_S7592x1024_S512x1024_1960_0) transposes_S512x1024_S1024x512_1_0

theorem hW_apply (r : Fin 7592) (k : Fin 1024) : hW w (ix2 r k) = w (ix3 0 k r) :=
  (turned_apply _ _ r k).trans (dropLead_apply _ _ _ _)

/-- Rows of the turned weight from `o`. -/
theorem hW_rows {K : ℕ} (o : ℕ) (h : S7592x1024.Slices ![o, 0] ⟨2, ![K, 1024]⟩) (ho : o + K ≤ 7592) (j : Fin K) (k : Fin 1024) :
    extractStridedSlice ⟨2, ![K, 1024]⟩ ![o, 0] (hW w) h (ix2 j k) = w (ix3 0 k ⟨o + j.val, by omega⟩) :=
  (slab_apply o (hW w) h ho j k).trans ((col_of_lt (hW w) k (show o + j.val < 7592 by omega)).trans (hW_apply w _ k))

theorem wt_aq (j : Fin 512) (k : Fin 1024) : hWt w (ix2 ⟨j.val, by omega⟩ k) = w (ix3 0 k ⟨j.val, by omega⟩) * κ := by
  unfold hWt
  refine (rowsAt _ _ 0 (by simp) _ rfl 0 rfl _ k ⟨j.val, by omega⟩ (by simp)).trans ?_
  show hQ w _ = _
  unfold hQ
  refine congrArg₂ (· * ·) ((rowsAt _ _ 0 (by simp) _ rfl 0 rfl _ k j (by simp)).trans ?_) rfl
  refine (hW_rows w 0 _ (by decide) j k).trans (congrArg w (congrArg (ix3 0 k) (Fin.ext ?_)))
  show 0 + j.val = j.val
  omega
theorem wt_bq (j : Fin 512) (k : Fin 1024) : hWt w (ix2 ⟨512 + j.val, by omega⟩ k) = w (ix3 0 k ⟨1448 + j.val, by omega⟩) * κ := by
  unfold hWt
  refine (rowsAt _ _ 0 (by simp) _ rfl 0 rfl _ k ⟨512 + j.val, by omega⟩ (by simp)).trans ?_
  show hQ w _ = _
  unfold hQ
  refine congrArg₂ (· * ·) ((rowsAt _ _ 1 (by simp) _ rfl 512 (by simp [pre]) _ k j rfl).trans ?_) rfl
  exact hW_rows w 1448 _ (by decide) j k
theorem wt_bv (j : Fin 512) (k : Fin 1024) : hWt w (ix2 ⟨1024 + j.val, by omega⟩ k) = w (ix3 0 k ⟨2472 + j.val, by omega⟩) := by
  unfold hWt
  exact (rowsAt _ _ 1 (by simp) _ rfl 1024 (by simp [pre]) _ k j rfl).trans (hW_rows w 2472 _ (by decide) j k)
theorem wt_av (j : Fin 64) (k : Fin 1024) : hWt w (ix2 ⟨1536 + j.val, by omega⟩ k) = w (ix3 0 k ⟨576 + j.val, by omega⟩) := by
  unfold hWt
  exact (rowsAt _ _ 2 (by simp) _ rfl 1536 (by simp [pre]) _ k j rfl).trans (hW_rows w 576 _ (by decide) j k)
theorem wt_ak (j : Fin 64) (k : Fin 1024) : hWt w (ix2 ⟨1600 + j.val, by omega⟩ k) = w (ix3 0 k ⟨512 + j.val, by omega⟩) := by
  unfold hWt
  exact (rowsAt _ _ 3 (by simp) _ rfl 1600 (by simp [pre]) _ k j rfl).trans (hW_rows w 512 _ (by decide) j k)

theorem hX_q (j : Fin 256) (k : Fin 1024) : hX w (ix2 ⟨j.val, by omega⟩ k) = w (ix3 0 k ⟨1152 + j.val, by omega⟩) := by
  unfold hX
  exact (rowsAt _ _ 0 (by simp) _ rfl 0 rfl _ k j (by simp)).trans (hW_rows w 1152 _ (by decide) j k)
theorem hX_k (j : Fin 32) (k : Fin 1024) : hX w (ix2 ⟨256 + j.val, by omega⟩ k) = w (ix3 0 k ⟨1408 + j.val, by omega⟩) := by
  unfold hX
  exact (rowsAt _ _ 1 (by simp) _ rfl 256 (by simp [pre]) _ k j rfl).trans (hW_rows w 1408 _ (by decide) j k)
theorem hX_w (j : Fin 8) (k : Fin 1024) : hX w (ix2 ⟨288 + j.val, by omega⟩ k) = w (ix3 0 k ⟨1440 + j.val, by omega⟩) * κ4 := by
  unfold hX
  refine (rowsAt _ _ 2 (by simp) _ rfl 288 (by simp [pre]) _ k j rfl).trans ?_
  exact congrArg₂ (· * ·) (hW_rows w 1440 _ (by decide) j k) rfl
theorem hX_z (j : Fin 8) (k : Fin 1024) : hX w (ix2 ⟨296 + j.val, by omega⟩ k) = 0 := by
  unfold hX
  refine (rowsAt _ _ 3 (by simp) _ rfl 296 (by simp [pre]) _ k j rfl).trans ?_
  exact Ideal.ofBits_zero_f32

theorem wx_0 (j : Fin 304) (k : Fin 1024) : hWx w (ix2 ⟨j.val, by omega⟩ k) = hX w (ix2 j k) := by
  unfold hWx
  exact rowsAt _ _ 0 (by simp) _ rfl 0 rfl _ k j (by simp)
theorem wx_1 (j : Fin 304) (k : Fin 1024) : hWx w (ix2 ⟨304 + j.val, by omega⟩ k) = hX w (ix2 j k) - hX w (ix2 j k) := by
  unfold hWx
  exact (rowsAt _ _ 1 (by simp) (hX1 w) rfl 304 (by simp [pre]) _ k j rfl).trans rfl
theorem wx_2 (j : Fin 304) (k : Fin 1024) :
    hWx w (ix2 ⟨608 + j.val, by omega⟩ k) = (hX w (ix2 j k) - hX w (ix2 j k)) - (hX w (ix2 j k) - hX w (ix2 j k)) := by
  unfold hWx
  exact (rowsAt _ _ 2 (by simp) (hX2 w) rfl 608 (by simp [pre]) _ k j rfl).trans rfl

/-- Numbers less themselves are nothing. -/
theorem hX_sub (hw : ∀ i, w i ≠ ⊤ ∧ w i ≠ ⊥) (j : Fin 304) (k : Fin 1024) : hX w (ix2 j k) - hX w (ix2 j k) = 0 := by
  have hj := j.isLt
  by_cases h1 : j.val < 256
  · rw [show hX w (ix2 j k) = _ from hX_q w ⟨j.val, h1⟩ k]
    exact EReal.sub_self (hw _).1 (hw _).2
  by_cases h2 : j.val < 288
  · have e : j = ⟨256 + (j.val - 256), by omega⟩ := Fin.ext (by show j.val = 256 + (j.val - 256); omega)
    rw [show hX w (ix2 j k) = _ from (congrArg (fun a => hX w (ix2 a k)) e).trans (hX_k w ⟨j.val - 256, by omega⟩ k)]
    exact EReal.sub_self (hw _).1 (hw _).2
  by_cases h3 : j.val < 296
  · have e : j = ⟨288 + (j.val - 288), by omega⟩ := Fin.ext (by show j.val = 288 + (j.val - 288); omega)
    rw [show hX w (ix2 j k) = _ from (congrArg (fun a => hX w (ix2 a k)) e).trans (hX_w w ⟨j.val - 288, by omega⟩ k)]
    have hk : κ4 ≠ ⊥ := fun h => absurd κ4_nonneg (by rw [h]; simp)
    obtain ⟨a, ha⟩ : ∃ a : ℝ, w (ix3 0 k ⟨1440 + (j.val - 288), by omega⟩) = a := ⟨_, (EReal.coe_toReal (hw _).1 (hw _).2).symm⟩
    obtain ⟨c, hc⟩ : ∃ c : ℝ, κ4 = c := ⟨_, (EReal.coe_toReal κ4_ne_top hk).symm⟩
    show w (ix3 0 k ⟨1440 + (j.val - 288), by omega⟩) * κ4 - w (ix3 0 k ⟨1440 + (j.val - 288), by omega⟩) * κ4 = 0
    rw [ha, hc, ← EReal.coe_mul]
    exact EReal.sub_self (EReal.coe_ne_top _) (EReal.coe_ne_bot _)
  · have e : j = ⟨296 + (j.val - 296), by omega⟩ := Fin.ext (by show j.val = 296 + (j.val - 296); omega)
    rw [show hX w (ix2 j k) = _ from (congrArg (fun a => hX w (ix2 a k)) e).trans (hX_z w ⟨j.val - 296, by omega⟩ k)]
    exact sub_zero 0

theorem wn_apply (k : Fin 1024) (q : Fin 512) : hWn w (ix2 k q) = w (ix3 0 k ⟨1960 + q.val, by omega⟩) := by
  unfold hWn
  exact (turned_apply _ _ k q).trans (hW_rows w 1960 _ (by decide) q k)
end Weights

section Tables

/-- Angles: positions by frequencies. -/
def hPos : FVec Ideal S2048x1 .f32 := broadcastInDim S2048x1 ![0] bcast_S2048_S2048x1_0 (sitofp (F := Ideal) .f32 (iotaInDim S2048 32 0))
def hA8 : FVec Ideal S2048x8 .f32 :=
  mulf (broadcastInDim S2048x8 ![0, 1] bcast_S2048x1_S2048x8_0_1 hPos)
    (broadcastInDim S2048x8 ![0, 1] bcast_S1x8_S2048x8_0_1 (broadcastInDim S1x8 ![1] bcast_S8_S1x8_1
      (Host.powf (F := Ideal) (φ := .f32) (broadcastInDim S8 ![] bcast_S_S8 (constant (F := Ideal) S_ .f32 0x48F42400#32))
        (mulf (Host.negf (F := Ideal) (φ := .f32) (sitofp (F := Ideal) .f32 (iotaInDim S8 32 0))) (broadcastInDim S8 ![] bcast_S_S8 (constant (F := Ideal) S_ .f32 0x3E000000#32))))))
def hA4 : FVec Ideal S2048x4 .f32 :=
  mulf (broadcastInDim S2048x4 ![0, 1] bcast_S2048x1_S2048x4_0_1 hPos)
    (broadcastInDim S2048x4 ![0, 1] bcast_S1x4_S2048x4_0_1 (broadcastInDim S1x4 ![1] bcast_S4_S1x4_1
      (Host.powf (F := Ideal) (φ := .f32) (broadcastInDim S4 ![] bcast_S_S4 (constant (F := Ideal) S_ .f32 0x48F42400#32))
        (mulf (Host.negf (F := Ideal) (φ := .f32) (sitofp (F := Ideal) .f32 (iotaInDim S4 32 0))) (broadcastInDim S4 ![] bcast_S_S4 (constant (F := Ideal) S_ .f32 0x3E800000#32))))))
def hC8 : FVec Ideal S2048x8 .f32 := Host.cos (F := Ideal) (φ := .f32) hA8
def hS8 : FVec Ideal S2048x8 .f32 := Host.sin (F := Ideal) (φ := .f32) hA8
def hC4 : FVec Ideal S2048x4 .f32 := Host.cos (F := Ideal) (φ := .f32) hA4
def hS4 : FVec Ideal S2048x4 .f32 := Host.sin (F := Ideal) (φ := .f32) hA4
/-- The tables turned. -/
def hCq : FVec Ideal S8x2048 .f32 := transpose S8x2048 [1, 0] hC8 transposes_S2048x8_S8x2048_1_0
def hSq : FVec Ideal S8x2048 .f32 := transpose S8x2048 [1, 0] hS8 transposes_S2048x8_S8x2048_1_0
def hCt : FVec Ideal S4x2048 .f32 := transpose S4x2048 [1, 0] hC4 transposes_S2048x4_S4x2048_1_0
def hSt : FVec Ideal S4x2048 .f32 := transpose S4x2048 [1, 0] hS4 transposes_S2048x4_S4x2048_1_0
def hCi : FVec Ideal S8x2048 .f32 := concatenate S8x2048 0 [⟨S4x2048, hCt⟩, ⟨S4x2048, hCt⟩] concatenates_S4x2048_S4x2048_S8x2048_d0
def hSi : FVec Ideal S8x2048 .f32 := concatenate S8x2048 0 [⟨S4x2048, (Host.negf (F := Ideal) (φ := .f32) hSt : FVec Ideal S4x2048 .f32)⟩, ⟨S4x2048, hSt⟩] concatenates_S4x2048_S4x2048_S8x2048_d0
/-- The keys' three tables of a head. -/
def hZ48 : FVec Ideal S2048x48 .f32 := broadcastInDim S2048x48 ![] bcast_S_S2048x48 (constant (F := Ideal) S_ .f32 0x00000000#32)
def hZ8 : FVec Ideal S2048x8 .f32 := broadcastInDim S2048x8 ![] bcast_S_S2048x8 (constant (F := Ideal) S_ .f32 0x00000000#32)
def hO48 : FVec Ideal S2048x48 .f32 := broadcastInDim S2048x48 ![] bcast_S_S2048x48 (constant (F := Ideal) S_ .f32 0x3F800000#32)
def hN8 : FVec Ideal S2048x8 .f32 := Host.negf (F := Ideal) (φ := .f32) hS8
def hT0 : FVec Ideal S2048x64 .f32 := concatenate S2048x64 1 [⟨S2048x8, hC8⟩, ⟨S2048x8, hC8⟩, ⟨S2048x48, hO48⟩] concatenates_S2048x8_S2048x8_S2048x48_S2048x64_d1
def hT1 : FVec Ideal S2048x64 .f32 := concatenate S2048x64 1 [⟨S2048x8, hZ8⟩, ⟨S2048x8, hS8⟩, ⟨S2048x48, hZ48⟩] concatenates_S2048x8_S2048x8_S2048x48_S2048x64_d1
def hT2 : FVec Ideal S2048x64 .f32 := concatenate S2048x64 1 [⟨S2048x8, hN8⟩, ⟨S2048x8, hZ8⟩, ⟨S2048x48, hZ48⟩] concatenates_S2048x8_S2048x8_S2048x48_S2048x64_d1
def hT : FVec Ideal S3x2048x64 .f32 :=
  concatenate S3x2048x64 0 [⟨S1x2048x64, broadcastInDim S1x2048x64 ![1, 2] bcast_S2048x64_S1x2048x64_1_2 hT0⟩,
    ⟨S1x2048x64, broadcastInDim S1x2048x64 ![1, 2] bcast_S2048x64_S1x2048x64_1_2 hT1⟩,
    ⟨S1x2048x64, broadcastInDim S1x2048x64 ![1, 2] bcast_S2048x64_S1x2048x64_1_2 hT2⟩] concatenates_S1x2048x64_S1x2048x64_S1x2048x64_S3x2048x64_d0
def hNk : FVec Ideal S3x2048x128 .f32 :=
  shapeCast S3x2048x128 (broadcastInDim S1x3x1x2048x2x64 ![0, 1, 2, 3, 4, 5] bcast_S1x3x1x2048x1x64_S1x3x1x2048x2x64_0_1_2_3_4_5
    (shapeCast S1x3x1x2048x1x64 hT shapeCasts_S3x2048x64_S1x3x1x2048x1x64)) shapeCasts_S1x3x1x2048x2x64_S3x2048x128

theorem cq_apply (j : Fin 8) (s : Fin 2048) : hCq (ix2 j s) = tab hC8 s.val j.val := (turned_apply _ _ j s).trans (tab_at hC8 s j).symm
theorem sq_apply (j : Fin 8) (s : Fin 2048) : hSq (ix2 j s) = tab hS8 s.val j.val := (turned_apply _ _ j s).trans (tab_at hS8 s j).symm
theorem ct_apply (j : Fin 4) (s : Fin 2048) : hCt (ix2 j s) = tab hC4 s.val j.val := (turned_apply _ _ j s).trans (tab_at hC4 s j).symm
theorem st_apply (j : Fin 4) (s : Fin 2048) : hSt (ix2 j s) = tab hS4 s.val j.val := (turned_apply _ _ j s).trans (tab_at hS4 s j).symm
theorem ci_lo (j : Fin 4) (s : Fin 2048) : hCi (ix2 ⟨j.val, by omega⟩ s) = tab hC4 s.val j.val := by
  unfold hCi
  exact (rowsAt _ _ 0 (by simp) _ rfl 0 rfl _ s j (by simp)).trans (ct_apply j s)
theorem ci_hi (j : Fin 4) (s : Fin 2048) : hCi (ix2 ⟨4 + j.val, by omega⟩ s) = tab hC4 s.val j.val := by
  unfold hCi
  exact (rowsAt _ _ 1 (by simp) _ rfl 4 (by simp [pre]) _ s j rfl).trans (ct_apply j s)
theorem si_lo (j : Fin 4) (s : Fin 2048) : hSi (ix2 ⟨j.val, by omega⟩ s) = -tab hS4 s.val j.val := by
  unfold hSi
  exact (rowsAt _ _ 0 (by simp) _ rfl 0 rfl _ s j (by simp)).trans (congrArg (- ·) (st_apply j s))
theorem si_hi (j : Fin 4) (s : Fin 2048) : hSi (ix2 ⟨4 + j.val, by omega⟩ s) = tab hS4 s.val j.val := by
  unfold hSi
  exact (rowsAt _ _ 1 (by simp) _ rfl 4 (by simp [pre]) _ s j rfl).trans (st_apply j s)

/-- A table's three entries at a feature of the head. -/
def t0 (s i : ℕ) : EReal := if i < 8 then tab hC8 s i else if i < 16 then tab hC8 s (i - 8) else 1
def t1 (s i : ℕ) : EReal := if i < 8 then 0 else if i < 16 then tab hS8 s (i - 8) else 0
def t2 (s i : ℕ) : EReal := if i < 8 then -tab hS8 s i else 0

/-- Three matrices side by side. -/
theorem cols3 {a b c D M : ℕ} (A : (⟨2, ![M, a]⟩ : Shape).Idx → EReal) (B : (⟨2, ![M, b]⟩ : Shape).Idx → EReal) (C : (⟨2, ![M, c]⟩ : Shape).Idx → EReal)
    (hc) (f : ℕ → EReal) (s : Fin M) (hD : a + b + c = D) (hA : ∀ j : Fin a, A (ix2 s j) = f j.val) (hB : ∀ j : Fin b, B (ix2 s j) = f (a + j.val))
    (hC : ∀ j : Fin c, C (ix2 s j) = f (a + b + j.val)) (i : Fin D) :
    concatenate ⟨2, ![M, D]⟩ (1 : Fin 2) [⟨⟨2, ![M, a]⟩, A⟩, ⟨⟨2, ![M, b]⟩, B⟩, ⟨⟨2, ![M, c]⟩, C⟩] hc (ix2 s i) = f i.val := by
  have hi := i.isLt
  by_cases h1 : i.val < a
  · rw [colsAt _ hc 0 (by simp) A rfl 0 rfl s i ⟨i.val, h1⟩ (by simp), hA]
  by_cases h2 : i.val < a + b
  · rw [colsAt _ hc 1 (by simp) B rfl a (by simp [pre]) s i ⟨i.val - a, by omega⟩ (by simp; omega), hB]
    exact congrArg f (by simp; omega)
  · rw [colsAt _ hc 2 (by simp) C rfl (a + b) (by simp [pre]) s i ⟨i.val - (a + b), by omega⟩ (by simp; omega), hC]
    exact congrArg f (by simp; omega)

theorem hT0_apply (s : Fin 2048) (i : Fin 64) : hT0 (ix2 s i) = t0 s.val i.val := by
  unfold hT0
  refine cols3 hC8 hC8 hO48 _ (t0 s.val) s rfl (fun j => ?_) (fun j => ?_) (fun j => ?_) i
  · exact (tab_at hC8 s j).symm.trans (if_pos j.isLt).symm
  · unfold t0; rw [if_neg (by omega), if_pos (by omega), Nat.add_sub_cancel_left]; exact (tab_at hC8 s j).symm
  · unfold t0; rw [if_neg (by omega), if_neg (by omega)]; exact ofBits_one
theorem hT1_apply (s : Fin 2048) (i : Fin 64) : hT1 (ix2 s i) = t1 s.val i.val := by
  unfold hT1
  refine cols3 hZ8 hS8 hZ48 _ (t1 s.val) s rfl (fun j => ?_) (fun j => ?_) (fun j => ?_) i
  · unfold t1; rw [if_pos j.isLt]; exact Ideal.ofBits_zero_f32
  · unfold t1; rw [if_neg (by omega), if_pos (by omega), Nat.add_sub_cancel_left]; exact (tab_at hS8 s j).symm
  · unfold t1; rw [if_neg (by omega), if_neg (by omega)]; exact Ideal.ofBits_zero_f32
theorem hT2_apply (s : Fin 2048) (i : Fin 64) : hT2 (ix2 s i) = t2 s.val i.val := by
  unfold hT2
  refine cols3 hN8 hZ8 hZ48 _ (t2 s.val) s rfl (fun j => ?_) (fun j => ?_) (fun j => ?_) i
  · unfold t2; rw [if_pos j.isLt]; exact congrArg (- ·) (tab_at hS8 s j).symm
  · unfold t2; rw [if_neg (by omega)]; exact Ideal.ofBits_zero_f32
  · unfold t2; rw [if_neg (by omega)]; exact Ideal.ofBits_zero_f32

/-- A matrix as the one plane of an array. -/
theorem plane_apply {M N : ℕ} (h) (x : (⟨2, ![M, N]⟩ : Shape).Idx → EReal) (hM : M ≠ 1) (hN : N ≠ 1) (z : Fin 1) (s : Fin M) (i : Fin N) :
    broadcastInDim ⟨3, ![1, M, N]⟩ ![1, 2] h x (ix3 z s i) = x (ix2 s i) :=
  broadcastInDim_apply ![1, 2] h x _ (ix2 s i) (fun a => by
    match a with
    | ⟨0, _⟩ => exact (if_neg hM).symm
    | ⟨1, _⟩ => exact (if_neg hN).symm)

/-- Planes one behind another. -/
theorem planesAt {M N D : ℕ} (xs : List ((s : Shape) × (s.Idx → EReal))) (h) (k : ℕ) (hk : k < xs.length)
    (p : (⟨3, ![1, M, N]⟩ : Shape).Idx → EReal) (hx : xs[k] = ⟨⟨3, ![1, M, N]⟩, p⟩)
    (ho : pre ⟨3, ![D, M, N]⟩ (0 : Fin 3) xs k = k) (a : Fin D) (ha : a.val = k) (s : Fin M) (i : Fin N) :
    concatenate ⟨3, ![D, M, N]⟩ (0 : Fin 3) xs h (ix3 a s i) = p (ix3 0 s i) :=
  concatenate_apply_piece (t := ⟨3, ![D, M, N]⟩) (0 : Fin 3) xs h (ix3 a s i) k hk _ p hx rfl k ho (ix3 0 s i)
    (fun b hb => by
      match b, hb with
      | ⟨0, _⟩, hb => exact absurd rfl hb
      | ⟨1, _⟩, _ => rfl
      | ⟨2, _⟩, _ => rfl) (by show k + 0 = a.val; omega)

theorem nk_apply (a : Fin 3) (s : Fin 2048) (q : Fin 128) : hNk (ix3 a s q) = hT (ix3 a s ⟨q.val % 64, by omega⟩) := by
  unfold hNk
  let j6 : S1x3x1x2048x2x64.Idx := fun b => match b with
    | ⟨0, _⟩ => (0 : Fin 1) | ⟨1, _⟩ => a | ⟨2, _⟩ => (0 : Fin 1) | ⟨3, _⟩ => s | ⟨4, _⟩ => (⟨q.val / 64, by omega⟩ : Fin 2) | ⟨5, _⟩ => (⟨q.val % 64, by omega⟩ : Fin 64)
  let k6 : S1x3x1x2048x1x64.Idx := fun b => match b with
    | ⟨0, _⟩ => (0 : Fin 1) | ⟨1, _⟩ => a | ⟨2, _⟩ => (0 : Fin 1) | ⟨3, _⟩ => s | ⟨4, _⟩ => (0 : Fin 1) | ⟨5, _⟩ => (⟨q.val % 64, by omega⟩ : Fin 64)
  refine (shapeCast_apply _ _ _ j6 ?_).trans ((broadcastInDim_apply _ _ _ j6 k6 ?_).trans (shapeCast_apply hT _ k6 _ ?_))
  · rw [Shape.rowMajor_val_three, Shape.rowMajor_val_six]
    show ((((0 * 3 + a.val) * 1 + 0) * 2048 + s.val) * 2 + q.val / 64) * 64 + q.val % 64 = (a.val * 2048 + s.val) * 128 + q.val
    omega
  · intro b
    match b with
    | ⟨0, _⟩ => rfl
    | ⟨1, _⟩ => rfl
    | ⟨2, _⟩ => rfl
    | ⟨3, _⟩ => rfl
    | ⟨4, _⟩ => rfl
    | ⟨5, _⟩ => rfl
  · rw [Shape.rowMajor_val_three, Shape.rowMajor_val_six]
    show (a.val * 2048 + s.val) * 64 + q.val % 64 = ((((0 * 3 + a.val) * 1 + 0) * 2048 + s.val) * 1 + 0) * 64 + q.val % 64
    omega

theorem nk0 (s : Fin 2048) (q : Fin 128) : hNk (ix3 0 s q) = t0 s.val (q.val % 64) := by
  rw [nk_apply]
  unfold hT
  exact (planesAt _ _ 0 (by simp) _ rfl rfl 0 rfl s _).trans ((plane_apply _ hT0 (by decide) (by decide) 0 s _).trans (hT0_apply s _))
theorem nk1 (s : Fin 2048) (q : Fin 128) : hNk (ix3 1 s q) = t1 s.val (q.val % 64) := by
  rw [nk_apply]
  unfold hT
  exact (planesAt _ _ 1 (by simp) _ rfl (by simp [pre]) 1 rfl s _).trans ((plane_apply _ hT1 (by decide) (by decide) 0 s _).trans (hT1_apply s _))
theorem nk2 (s : Fin 2048) (q : Fin 128) : hNk (ix3 2 s q) = t2 s.val (q.val % 64) := by
  rw [nk_apply]
  unfold hT
  exact (planesAt _ _ 2 (by simp) _ rfl (by simp [pre]) 2 rfl s _).trans ((plane_apply _ hT2 (by decide) (by decide) 0 s _).trans (hT2_apply s _))
end Tables

/-! ### They are what the call is given -/

variable (m : (ℓ : Loc nD τ sig) → Buf (Elt Ideal) ℓ)

/-- The arguments. -/
abbrev ax (c : Dev nD) : FVec Ideal S16x2048x1024 .f32 := m ((c : Thread nD τ).loc main_arg0)
abbrev ag (c : Dev nD) : FVec Ideal S1024 .f32 := m ((c : Thread nD τ).loc main_arg1)
abbrev ab (c : Dev nD) : FVec Ideal S1024 .f32 := m ((c : Thread nD τ).loc main_arg2)
abbrev aw (c : Dev nD) : FVec Ideal S1x1024x7592 .f32 := m ((c : Thread nD τ).loc main_arg3)

set_option maxHeartbeats 2000000

theorem V_x (c : Dev nD) : (V m c main_v30 : FVec Ideal S32768x1024 .f32) = shapeCast S32768x1024 (ax m c) shapeCasts_S16x2048x1024_S32768x1024 := by
  show StableHlo.after hostOps0 _ _ = _
  after_results <;> rfl
theorem V_g (c : Dev nD) : (V m c main_v78 : FVec Ideal S1x1024 .f32) = shapeCast S1x1024 (ag m c) shapeCasts_S1024_S1x1024 := by
  show StableHlo.after hostOps0 _ _ = _
  after_results <;> rfl
theorem V_b (c : Dev nD) : (V m c main_v79 : FVec Ideal S1x1024 .f32) = shapeCast S1x1024 (ab m c) shapeCasts_S1024_S1x1024 := by
  show StableHlo.after hostOps0 _ _ = _
  after_results <;> rfl
theorem V_wn (c : Dev nD) : (V m c main_v29 : FVec Ideal S1024x512 .bf16) = hWn (aw m c) := by
  show StableHlo.after hostOps0 _ _ = _
  after_results <;> rfl
theorem V_wt (c : Dev nD) : (V m c main_v12 : FVec Ideal S1664x1024 .bf16) = hWt (aw m c) := by
  show StableHlo.after hostOps0 _ _ = _
  after_results <;> rfl
theorem V_wx (c : Dev nD) : (V m c main_v27 : FVec Ideal S912x1024 .bf16) = hWx (aw m c) := by
  show StableHlo.after hostOps0 _ _ = _
  after_results <;> rfl
theorem V_cq (c : Dev nD) : (V m c main_v57 : FVec Ideal S8x2048 .f32) = hCq := by
  show StableHlo.after hostOps0 _ _ = _
  after_results <;> rfl
theorem V_sq (c : Dev nD) : (V m c main_v58 : FVec Ideal S8x2048 .f32) = hSq := by
  show StableHlo.after hostOps0 _ _ = _
  after_results <;> rfl
theorem V_ci (c : Dev nD) : (V m c main_v61 : FVec Ideal S8x2048 .f32) = hCi := by
  show StableHlo.after hostOps0 _ _ = _
  after_results <;> rfl
theorem V_si (c : Dev nD) : (V m c main_v63 : FVec Ideal S8x2048 .f32) = hSi := by
  show StableHlo.after hostOps0 _ _ = _
  after_results <;> rfl
theorem V_nk (c : Dev nD) : (V m c main_v77 : FVec Ideal S3x2048x128 .f32) = hNk := by
  show StableHlo.after hostOps0 _ _ = _
  after_results <;> rfl

end Cert.Kernel3Ideal.Proj

end
-- ==== Proof.ProjFin.lean ====
/- What the input projection's kernel leaves in its nine results, as functions of its arguments. (Hand-written, untrusted.) -/
module

public import proofs.«01_k».proof.Proof.ProjOut
public import proofs.«01_k».proof.Proof.ProjHost

@[expose] public section

set_option maxRecDepth 16384
set_option maxHeartbeats 1000000

noncomputable section

open Idealize.ShloMosaic hiding ix1 ix2 ix3 ix4
open Idealize.ShloMosaic.TcCoe Idealize.SL.Sem Idealize.ShloMosaic.ValueIdx

namespace Cert.Kernel3Ideal.Proj

open Cert.Kernel3Ideal Cert.Kernel3Ideal.Gen Cert.Rows Cert.Proj

/-! ### Blocks -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, t.val % 4] := (by decide +kernel : ∀ t : Fin grid0.N, _)
theorem idx7 : ∀ t : Fin cfg0.N, win0_7.index t = ![0, t.val % 4] := (by decide +kernel : ∀ t : Fin grid0.N, _)
theorem idx8 : ∀ t : Fin cfg0.N, win0_8.index t = ![0, t.val % 4] := (by decide +kernel : ∀ t : Fin grid0.N, _)
theorem idx9 : ∀ t : Fin cfg0.N, win0_9.index t = ![0, t.val % 4] := (by decide +kernel : ∀ t : Fin grid0.N, _)
theorem idx10 : ∀ t : Fin cfg0.N, win0_10.index t = ![0, t.val % 4, 0] := (by decide +kernel : ∀ t : Fin grid0.N, _)
theorem idx11 : ∀ t : Fin cfg0.N, win0_11.index t = ![t.val / 4, 0, t.val % 4] := (by decide +kernel : ∀ t : Fin grid0.N, _)
theorem idx12 : ∀ t : Fin cfg0.N, win0_12.index t = ![t.val / 4, 0, t.val % 4] := (by decide +kernel : ∀ t : Fin grid0.N, _)
theorem idx13 : ∀ t : Fin cfg0.N, win0_13.index t = ![t.val / 4, 0, t.val % 4] := (by decide +kernel : ∀ t : Fin grid0.N, _)
theorem idx14 : ∀ t : Fin cfg0.N, win0_14.index t = ![t.val / 4, 0, t.val % 4] := (by decide +kernel : ∀ t : Fin grid0.N, _)
theorem idx15 : ∀ t : Fin cfg0.N, win0_15.index t = ![t.val / 4, t.val % 4, 0, 0] := (by decide +kernel : ∀ t : Fin grid0.N, _)
theorem idx16 : ∀ t : Fin cfg0.N, win0_16.index t = ![t.val / 4, t.val % 4, 0, 0] := (by decide +kernel : ∀ t : Fin grid0.N, _)
theorem idx17 : ∀ t : Fin cfg0.N, win0_17.index t = ![t.val, 0] := (by decide +kernel : ∀ t : Fin grid0.N, _)
theorem idx18 : ∀ t : Fin cfg0.N, win0_18.index t = ![t.val, 0] := (by decide +kernel : ∀ t : Fin grid0.N, _)
theorem idx19 : ∀ t : Fin cfg0.N, win0_19.index t = ![t.val, 0] := (by decide +kernel : ∀ t : Fin grid0.N, _)

variable (m : (ℓ : Loc nD τ sig) → Buf (Elt Ideal) ℓ) (c : Dev nD) (t : Fin cfg0.N)

theorem ht64 : t.val < 64 := lt_of_lt_of_eq t.isLt N_0

/-- The batch of a point, and the position of its block's row. -/
def bn : Fin 16 := ⟨t.val / 4, by have := ht64 t; omega⟩
def bs (r : Fin 512) : Fin 2048 := ⟨t.val % 4 * 512 + r.val, by omega⟩

theorem blk0 (r : Fin 512) (k : Fin 1024) : iblk m c 0 t (ix2 r k) = ax m c (ix3 (bn t) (bs t r) k) := by
  have ht := ht64 t
  refine Eq.trans (b := (V m c main_v30 : FVec Ideal S32768x1024 .f32) (ix2 ⟨t.val * 512 + r.val, by omega⟩ k)) ?_ ?_
  · blk_simp [iblk]
    refine congrArg (V m c main_v30) (funext fun b => Fin.ext ?_)
    match b with
    | ⟨0, _⟩ => blk_simp [idx0] <;> rfl
    | ⟨1, _⟩ => blk_simp [idx0] <;> simp
  · rw [V_x]
    refine shapeCast_apply _ _ _ _ ?_
    rw [Shape.rowMajor_val_three, Shape.rowMajor_val_two]
    show (t.val / 4 * 2048 + (t.val % 4 * 512 + r.val)) * 1024 + k.val = (t.val * 512 + r.val) * 1024 + k.val
    omega
theorem blk1 (k : Fin 1024) : iblk m c 1 t (ix2 0 k) = ag m c (ix1 k) := by
  refine Eq.trans (b := (V m c main_v78 : FVec Ideal S1x1024 .f32) (ix2 0 k)) ?_ ?_
  · blk_simp [iblk]
    refine congrArg (V m c main_v78) (funext fun b => Fin.ext ?_)
    match b with
    | ⟨0, _⟩ => blk_simp [idx1] <;> simp
    | ⟨1, _⟩ => blk_simp [idx1] <;> simp
  · rw [V_g]
    refine shapeCast_apply _ _ _ _ ?_
    rw [Shape.rowMajor_val_one, Shape.rowMajor_val_two]
    show k.val = 0 * 1024 + k.val
    omega
theorem blk2 (k : Fin 1024) : iblk m c 2 t (ix2 0 k) = ab m c (ix1 k) := by
  refine Eq.trans (b := (V m c main_v79 : FVec Ideal S1x1024 .f32) (ix2 0 k)) ?_ ?_
  · blk_simp [iblk]
    refine congrArg (V m c main_v79) (funext fun b => Fin.ext ?_)
    match b with
    | ⟨0, _⟩ => blk_simp [idx2] <;> simp
    | ⟨1, _⟩ => blk_simp [idx2] <;> simp
  · rw [V_b]
    refine shapeCast_apply _ _ _ _ ?_
    rw [Shape.rowMajor_val_one, Shape.rowMajor_val_two]
    show k.val = 0 * 1024 + k.val
    omega
theorem blk3 (k : Fin 1024) (q : Fin 512) : iblk m c 3 t (ix2 k q) = aw m c (ix3 0 k ⟨1960 + q.val, by omega⟩) := by
  refine Eq.trans (b := (V m c main_v29 : FVec Ideal S1024x512 .bf16) (ix2 k q)) ?_ ?_
  · blk_simp [iblk]
    refine congrArg (V m c main_v29) (funext fun b => Fin.ext ?_)
    match b with
    | ⟨0, _⟩ => blk_simp [idx3] <;> simp
    | ⟨1, _⟩ => blk_simp [idx3] <;> simp
  · rw [V_wn]
    exact wn_apply _ k q
theorem blk4 (q : Fin 1664) (k : Fin 1024) : iblk m c 4 t (ix2 q k) = hWt (aw m c) (ix2 q k) := by
  refine Eq.trans (b := (V m c main_v12 : FVec Ideal S1664x1024 .bf16) (ix2 q k)) ?_ (by rw [V_wt])
  blk_simp [iblk]
  refine congrArg (V m c main_v12) (funext fun b => Fin.ext ?_)
  match b with
  | ⟨0, _⟩ => blk_simp [idx4] <;> simp
  | ⟨1, _⟩ => blk_simp [idx4] <;> simp
theorem blk5 (q : Fin 912) (k : Fin 1024) : iblk m c 5 t (ix2 q k) = hWx (aw m c) (ix2 q k) := by
  refine Eq.trans (b := (V m c main_v27 : FVec Ideal S912x1024 .bf16) (ix2 q k)) ?_ (by rw [V_wx])
  blk_simp [iblk]
  refine congrArg (V m c main_v27) (funext fun b => Fin.ext ?_)
  match b with
  | ⟨0, _⟩ => blk_simp [idx5] <;> simp
  | ⟨1, _⟩ => blk_simp [idx5] <;> simp
theorem blk6 (j : Fin 8) (r : Fin 512) : iblk m c 6 t (ix2 j r) = hCq (ix2 j (bs t r)) := by
  refine Eq.trans (b := (V m c main_v57 : FVec Ideal S8x2048 .f32) (ix2 j (bs t r))) ?_ (by rw [V_cq])
  blk_simp [iblk]
  refine congrArg (V m c main_v57) (funext fun b => Fin.ext ?_)
  match b with
  | ⟨0, _⟩ => blk_simp [idx6] <;> simp
  | ⟨1, _⟩ => blk_simp [idx6] <;> rfl
theorem blk7 (j : Fin 8) (r : Fin 512) : iblk m c 7 t (ix2 j r) = hSq (ix2 j (bs t r)) := by
  refine Eq.trans (b := (V m c main_v58 : FVec Ideal S8x2048 .f32) (ix2 j (bs t r))) ?_ (by rw [V_sq])
  blk_simp [iblk]
  refine congrArg (V m c main_v58) (funext fun b => Fin.ext ?_)
  match b with
  | ⟨0, _⟩ => blk_simp [idx7] <;> simp
  | ⟨1, _⟩ => blk_simp [idx7] <;> rfl
theorem blk8 (j : Fin 8) (r : Fin 512) : iblk m c 8 t (ix2 j r) = hCi (ix2 j (bs t r)) := by
  refine Eq.trans (b := (V m c main_v61 : FVec Ideal S8x2048 .f32) (ix2 j (bs t r))) ?_ (by rw [V_ci])
  blk_simp [iblk]
  refine congrArg (V m c main_v61) (funext fun b => Fin.ext ?_)
  match b with
  | ⟨0, _⟩ => blk_simp [idx8] <;> simp
  | ⟨1, _⟩ => blk_simp [idx8] <;> rfl
theorem blk9 (j : Fin 8) (r : Fin 512) : iblk m c 9 t (ix2 j r) = hSi (ix2 j (bs t r)) := by
  refine Eq.trans (b := (V m c main_v63 : FVec Ideal S8x2048 .f32) (ix2 j (bs t r))) ?_ (by rw [V_si])
  blk_simp [iblk]
  refine congrArg (V m c main_v63) (funext fun b => Fin.ext ?_)
  match b with
  | ⟨0, _⟩ => blk_simp [idx9] <;> simp
  | ⟨1, _⟩ => blk_simp [idx9] <;> rfl
theorem blk10 (a : Fin 3) (r : Fin 512) (q : Fin 128) : iblk m c 10 t (ix3 a r q) = hNk (ix3 a (bs t r) q) := by
  refine Eq.trans (b := (V m c main_v77 : FVec Ideal S3x2048x128 .f32) (ix3 a (bs t r) q)) ?_ (by rw [V_nk])
  blk_simp [iblk]
  refine congrArg (V m c main_v77) (funext fun b => Fin.ext ?_)
  match b with
  | ⟨0, _⟩ => blk_simp [idx10] <;> simp
  | ⟨1, _⟩ => blk_simp [idx10] <;> rfl
  | ⟨2, _⟩ => blk_simp [idx10] <;> simp

/-! ### The block's rows -/

/-- The projected rows of the arguments. -/
abbrev pr : ℕ → ℕ → ℕ → EReal := P (ax m c) (ag m c) (ab m c) (aw m c)
/-- The normalised row of a block's row. -/
abbrev nrow (r : Fin 512) : Fin 1024 → EReal := hRow (ax m c) (ag m c) (ab m c) (bn t) (bs t r)
/-- The products of a point. -/
abbrev bR : FVec Ideal S1664x512 .f32 := k0_pay91 (iblk m c 0 t) (iblk m c 1 t) (iblk m c 2 t) (iblk m c 3 t) (iblk m c 4 t) (iblk m c 5 t) (iblk m c 6 t) (iblk m c 7 t) (iblk m c 8 t) (iblk m c 9 t) (iblk m c 10 t)
abbrev bX : FVec Ideal S304x512 .f32 := k0_pay87 (iblk m c 0 t) (iblk m c 1 t) (iblk m c 2 t) (iblk m c 3 t) (iblk m c 4 t) (iblk m c 5 t) (iblk m c 6 t) (iblk m c 7 t) (iblk m c 8 t) (iblk m c 9 t) (iblk m c 10 t)
abbrev bK : FVec Ideal S512x512 .f32 := k0_pay85 (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem bH_eq (r : Fin 512) : bH (iblk m c 0 t) (iblk m c 1 t) (iblk m c 2 t) r = nrow m c t r := by
  unfold bH nrow hRow
  have e0 : (fun k : Fin 1024 => iblk m c 0 t (ix2 r k)) = fun k => ax m c (ix3 (bn t) (bs t r) k) := funext fun k => blk0 m c t r k
  have e1 : (fun k : Fin 1024 => iblk m c 1 t (ix2 0 k)) = fun k => ag m c (ix1 k) := funext fun k => blk1 m c t k
  have e2 : (fun k : Fin 1024 => iblk m c 2 t (ix2 0 k)) = fun k => ab m c (ix1 k) := funext fun k => blk2 m c t k
  exact (congrArg₂ (fun a b => lnRow a b _) e0 e1).trans (congrArg (lnRow _ _) e2)

/-- A sum of a row's products with a column is the projected entry. -/
theorem sum_pr (r : Fin 512) (q : Fin 7592) (f : Fin 1024 → EReal) (hf : ∀ k, f k = aw m c (ix3 0 k q)) :
    ∑ k, f k * nrow m c t r k = pr m c (bn t).val (bs t r).val q.val := by
  refine Eq.trans ?_ (P_at _ _ _ _ (bn t) (bs t r) q).symm
  exact Finset.sum_congr rfl fun k _ => by rw [hf, mul_comm]
/-- With a scale on the column, so scaled. -/
theorem sum_pr_scale {a : EReal} (h0 : 0 ≤ a) (h1 : a ≠ ⊤) (r : Fin 512) (q : Fin 7592) (f : Fin 1024 → EReal) (hf : ∀ k, f k = aw m c (ix3 0 k q) * a) :
    ∑ k, f k * nrow m c t r k = a * pr m c (bn t).val (bs t r).val q.val := by
  refine Eq.trans ?_ (congrArg (a * ·) (P_at _ _ _ _ (bn t) (bs t r) q).symm)
  refine Eq.trans ?_ (sum_scale h0 h1 _)
  refine Finset.sum_congr rfl fun k _ => ?_
  rw [hf]
  show aw m c (ix3 0 k q) * a * nrow m c t r k = a * (nrow m c t r k * aw m c (ix3 0 k q))
  rw [mul_comm (aw m c (ix3 0 k q)) a, mul_assoc, mul_comm (aw m c (ix3 0 k q))]

theorem bR_sum (r : Fin 512) {j : ℕ} (hj : j < 1664) : col (bR m c t) r j = ∑ k, hWt (aw m c) (ix2 ⟨j, hj⟩ k) * nrow m c t r k := by
  refine (col_of_lt _ r hj).trans ((bR_apply _ _ _ _ _ _ _ _ _ _ _ _ r).trans (Finset.sum_congr rfl fun k _ => ?_))
  rw [bH_eq, blk4]

theorem R_aq (r : Fin 512) {j : ℕ} (hj : j < 512) : col (bR m c t) r j = κ * pr m c (bn t).val (bs t r).val j :=
  (bR_sum m c t r (by omega)).trans (sum_pr_scale m c t κ_nonneg κ_ne_top r ⟨j, by omega⟩ _ fun k => wt_aq _ ⟨j, hj⟩ k)
theorem R_bq (r : Fin 512) {j : ℕ} (hj : j < 512) : col (bR m c t) r (512 + j) = κ * pr m c (bn t).val (bs t r).val (1448 + j) :=
  (bR_sum m c t r (by omega)).trans (sum_pr_scale m c t κ_nonneg κ_ne_top r ⟨1448 + j, by omega⟩ _ fun k => wt_bq _ ⟨j, hj⟩ k)
theorem R_bv (r : Fin 512) {j : ℕ} (hj : j < 512) : col (bR m c t) r (1024 + j) = pr m c (bn t).val (bs t r).val (2472 + j) :=
  (bR_sum m c t r (by omega)).trans (sum_pr m c t r ⟨2472 + j, by omega⟩ _ fun k => wt_bv _ ⟨j, hj⟩ k)
theorem R_av (r : Fin 512) {j : ℕ} (hj : j < 64) : col (bR m c t) r (1536 + j) = pr m c (bn t).val (bs t r).val (576 + j) :=
  (bR_sum m c t r (by omega)).trans (sum_pr m c t r ⟨576 + j, by omega⟩ _ fun k => wt_av _ ⟨j, hj⟩ k)
theorem R_ak (r : Fin 512) {j : ℕ} (hj : j < 64) : col (bR m c t) r (1600 + j) = pr m c (bn t).val (bs t r).val (512 + j) :=
  (bR_sum m c t r (by omega)).trans (sum_pr m c t r ⟨512 + j, by omega⟩ _ fun k => wt_ak _ ⟨j, hj⟩ k)

theorem K_bk (r : Fin 512) (q : Fin 512) : bK m c t (ix2 r q) = pr m c (bn t).val (bs t r).val (1960 + q.val) := by
  refine (bK_apply _ _ _ _ _ _ _ _ _ _ _ r q).trans ?_
  rw [bH_eq]
  refine Eq.trans (Finset.sum_congr rfl fun k _ => mul_comm _ _) ?_
  exact sum_pr m c t r ⟨1960 + q.val, by omega⟩ _ fun k => blk3 m c t k q

section Finite
variable (hw : ∀ i, aw m c i ≠ ⊤ ∧ aw m c i ≠ ⊥) (hh : ∀ n s k, hRow (ax m c) (ag m c) (ab m c) n s k - hRow (ax m c) (ag m c) (ab m c) n s k = 0)
include hw hh

theorem bX_sum (r : Fin 512) {j : ℕ} (hj : j < 304) : col (bX m c t) r j = ∑ k, hX (aw m c) (ix2 ⟨j, hj⟩ k) * nrow m c t r k := by
  refine (col_of_lt _ r hj).trans ((bX_apply _ _ _ _ _ _ _ _ _ _ _ ⟨j, hj⟩ r (fun k => ?_) (fun k => ?_) (fun k => ?_)).trans (Finset.sum_congr rfl fun k _ => ?_))
  · rw [bH_eq]; exact hh _ _ _
  · rw [blk5]; exact (wx_1 _ ⟨j, hj⟩ k).trans (hX_sub _ hw _ k)
  · rw [blk5, wx_2 _ ⟨j, hj⟩ k, hX_sub _ hw, sub_zero]
  · rw [bH_eq, blk5]; exact congrArg (· * _) (wx_0 _ ⟨j, hj⟩ k)

theorem X_iq (r : Fin 512) {j : ℕ} (hj : j < 256) : col (bX m c t) r j = pr m c (bn t).val (bs t r).val (1152 + j) :=
  (bX_sum m c t hw hh r (by omega)).trans (sum_pr m c t r ⟨1152 + j, by omega⟩ _ fun k => hX_q _ ⟨j, hj⟩ k)
theorem X_ik (r : Fin 512) {j : ℕ} (hj : j < 32) : col (bX m c t) r (256 + j) = pr m c (bn t).val (bs t r).val (1408 + j) :=
  (bX_sum m c t hw hh r (by omega)).trans (sum_pr m c t r ⟨1408 + j, by omega⟩ _ fun k => hX_k _ ⟨j, hj⟩ k)
theorem X_iw (r : Fin 512) {j : ℕ} (hj : j < 8) : col (bX m c t) r (288 + j) = κ4 * pr m c (bn t).val (bs t r).val (1440 + j) :=
  (bX_sum m c t hw hh r (by omega)).trans (sum_pr_scale m c t κ4_nonneg κ4_ne_top r ⟨1440 + j, by omega⟩ _ fun k => hX_w _ ⟨j, hj⟩ k)
end Finite

/-- The tables of a block's row. -/
theorem T_c (r : Fin 512) {j : ℕ} (hj : j < 8) : col (iblk m c 6 t : FVec Ideal S8x512 .f32) r j = tab hC8 (bs t r).val j :=
  (col_of_lt _ r hj).trans ((blk6 m c t ⟨j, hj⟩ r).trans (cq_apply ⟨j, hj⟩ (bs t r)))
theorem T_s (r : Fin 512) {j : ℕ} (hj : j < 8) : col (iblk m c 7 t : FVec Ideal S8x512 .f32) r j = tab hS8 (bs t r).val j :=
  (col_of_lt _ r hj).trans ((blk7 m c t ⟨j, hj⟩ r).trans (sq_apply ⟨j, hj⟩ (bs t r)))

/-- The kernel's turn of an index row is the turn by position. -/
theorem T_turn (r : Fin 512) (v : ℕ → EReal) (i : ℕ) :
    turn32 v (col (iblk m c 8 t : FVec Ideal S8x512 .f32) r) (col (iblk m c 9 t : FVec Ideal S8x512 .f32) r) i = ropeAt 4 v (tab hC4 (bs t r).val) (tab hS4 (bs t r).val) i :=
  turn32_eq (fun j hj => (col_of_lt _ r (by omega)).trans ((blk8 m c t ⟨j, by omega⟩ r).trans (ci_lo ⟨j, hj⟩ (bs t r))))
    (fun j hj => (col_of_lt _ r (by omega)).trans ((blk8 m c t ⟨4 + j, by omega⟩ r).trans (ci_hi ⟨j, hj⟩ (bs t r))))
    (fun j hj => (col_of_lt _ r (by omega)).trans ((blk9 m c t ⟨j, by omega⟩ r).trans (si_lo ⟨j, hj⟩ (bs t r))))
    (fun j hj => (col_of_lt _ r (by omega)).trans ((blk9 m c t ⟨4 + j, by omega⟩ r).trans (si_hi ⟨j, hj⟩ (bs t r)))) i

/-! ### The results of a point -/

theorem pt11 (r : Fin 512) (q : Fin 512) :
    g11 (bR m c t) (iblk m c 6 t) (iblk m c 7 t) q.val r = rAq (pr m c) (tab hC8) (tab hS8) (bn t).val q.val (bs t r).val := by
  refine (ropeAt_congr (D := 64) (by decide) (fun j hj => R_aq m c t r (by omega)) (fun j hj => T_c m c t r hj) (fun j hj => T_s m c t r hj) (by omega)).trans ?_
  exact ropeAt_scale κ_nonneg κ_ne_top 8 _ _ _ _
theorem pt12 (r : Fin 512) (q : Fin 1024) :
    g12 (bR m c t) (iblk m c 6 t) (iblk m c 7 t) q.val r = rBq (pr m c) (tab hC8) (tab hS8) (bn t).val q.val (bs t r).val := by
  unfold g12 rBq
  refine if_congr Iff.rfl ?_ rfl
  refine (ropeAt_congr (D := 64) (v' := fun j => κ * pr m c (bn t).val (bs t r).val (1448 + q.val / 128 * 64 + j)) (by decide)
    (fun j hj => ?_) (fun j hj => T_c m c t r hj) (fun j hj => T_s m c t r hj) (by omega)).trans ?_
  · show col (bR m c t) r (512 + q.val / 128 * 64 + j) = κ * pr m c (bn t).val (bs t r).val (1448 + q.val / 128 * 64 + j)
    rw [Nat.add_assoc, Nat.add_assoc]
    exact R_bq m c t r (by omega)
  · exact ropeAt_scale κ_nonneg κ_ne_top 8 _ _ _ _
theorem pt15 (a : Fin 2) (q : Fin 80) (i : Fin 256) :
    g15 (bR m c t) a.val q.val i = rAv (pr m c) (bn t).val (t.val % 4 * 2 + a.val) q.val i.val := by
  unfold g15 rAv
  by_cases h : q.val < 64
  · rw [dif_pos ⟨a.isLt, h⟩, if_pos h]
    refine (R_av m c t _ h).trans (congrArg (fun s => pr m c (bn t).val s (576 + q.val)) ?_)
    show t.val % 4 * 512 + (256 * a.val + i.val) = 256 * (t.val % 4 * 2 + a.val) + i.val
    omega
  · rw [dif_neg (fun h' => h h'.2), if_neg h]
theorem pt16 (a : Fin 2) (q : Fin 576) (i : Fin 256) :
    g16 (bR m c t) a.val q.val i = rBv (pr m c) (bn t).val (t.val % 4 * 2 + a.val) q.val i.val := by
  unfold g16 rBv
  by_cases h : q.val % 144 < 128
  · rw [dif_pos ⟨a.isLt, h⟩, if_pos h]
    rw [Nat.add_assoc 1024, Nat.add_assoc 2472]
    refine (R_bv m c t _ (by omega)).trans (congrArg (fun s => pr m c (bn t).val s (2472 + (q.val / 144 * 128 + q.val % 144))) ?_)
    show t.val % 4 * 512 + (256 * a.val + i.val) = 256 * (t.val % 4 * 2 + a.val) + i.val
    omega
  · rw [dif_neg (fun h' => h h'.2), if_neg h]

/-- A row of the keys' arrays. -/
theorem row_div (r : Fin 512) : (t.val * 512 + r.val) / 2048 = (bn t).val := by show _ = t.val / 4; omega
theorem row_mod (r : Fin 512) : (t.val * 512 + r.val) % 2048 = (bs t r).val := by show _ = t.val % 4 * 512 + r.val; omega

theorem pt18 (r : Fin 512) (q : Fin 64) :
    g18 (bR m c t) (iblk m c 6 t) (iblk m c 7 t) r q.val = rAk (pr m c) (tab hC8) (tab hS8) (t.val * 512 + r.val) q.val := by
  unfold rAk
  rw [row_div, row_mod]
  exact ropeAt_congr (D := 64) (by decide) (fun j hj => R_ak m c t r hj) (fun j hj => T_c m c t r hj) (fun j hj => T_s m c t r hj) q.isLt

/-- A head's turn by three tables. -/
theorem three_turn (v c s : ℕ → EReal) (i : ℕ) (hi : i < 64) :
    v i * (if i < 8 then c i else if i < 16 then c (i - 8) else 1) + (if 8 ≤ i then v (i - 8) else 0) * (if i < 8 then 0 else if i < 16 then s (i - 8) else 0)
      + v (i + 8) * (if i < 8 then -s i else 0) = ropeAt 8 v c s i := by
  by_cases h1 : i < 8
  · rw [ropeAt_lo h1, if_pos h1, if_pos h1, if_pos h1, mul_zero, add_zero, mul_neg, ← sub_eq_add_neg, Nat.add_comm i 8]
  by_cases h2 : i < 16
  · obtain ⟨k, rfl⟩ : ∃ k, i = 8 + k := ⟨i - 8, by omega⟩
    rw [ropeAt_mid (by omega), if_neg h1, if_pos h2, if_neg h1, if_pos h2, if_neg h1, mul_zero, add_zero, if_pos (by omega), Nat.add_sub_cancel_left]
  · rw [if_neg h1, if_neg h2, if_neg h1, if_neg h2, if_neg h1, mul_zero, mul_zero, add_zero, add_zero, mul_one]
    unfold ropeAt
    rw [if_neg h1, if_neg (by omega)]

end Cert.Kernel3Ideal.Proj

end
-- ==== Proof.ProjFin2.lean ====
/- What the input projection's kernel leaves in its nine results, array by array. (Hand-written, untrusted.) -/
module

public import proofs.«01_k».proof.Proof.ProjFin

@[expose] public section

set_option maxRecDepth 16384
set_option maxHeartbeats 1000000

noncomputable section

open Idealize.ShloMosaic hiding ix1 ix2 ix3 ix4
open Idealize.ShloMosaic.TcCoe Idealize.SL.Sem Idealize.ShloMosaic.ValueIdx

namespace Cert.Kernel3Ideal.Proj

open Cert.Kernel3Ideal Cert.Kernel3Ideal.Gen Cert.Rows Cert.Proj

variable (m : (ℓ : Loc nD τ sig) → Buf (Elt Ideal) ℓ) (c : Dev nD) (t : Fin cfg0.N)

theorem pt17 (r : Fin 512) (q : Fin 512) :
    g17 (bK m c t) (fun i => iblk m c 10 t (ix3 0 (i 0) (i 1))) (fun i => iblk m c 10 t (ix3 1 (i 0) (i 1))) (fun i => iblk m c 10 t (ix3 2 (i 0) (i 1))) r q.val
      = rBk (pr m c) (tab hC8) (tab hS8) (t.val * 512 + r.val) q.val := by
  have hq := q.isLt
  unfold rBk g17
  rw [row_div, row_mod, dif_pos q.isLt]
  have n0 : ∀ u : Fin 128, iblk m c 10 t (ix3 0 r u) = t0 (bs t r).val (u.val % 64) := fun u => (blk10 m c t 0 r u).trans (nk0 _ u)
  have n1 : ∀ u : Fin 128, iblk m c 10 t (ix3 1 r u) = t1 (bs t r).val (u.val % 64) := fun u => (blk10 m c t 1 r u).trans (nk1 _ u)
  have n2 : ∀ u : Fin 128, iblk m c 10 t (ix3 2 r u) = t2 (bs t r).val (u.val % 64) := fun u => (blk10 m c t 2 r u).trans (nk2 _ u)
  refine Eq.trans ?_ (three_turn _ _ _ (q.val % 64) (by omega))
  have em : q.val % 128 % 64 = q.val % 64 := by omega
  refine congrArg₂ (· + ·) (congrArg₂ (· + ·) (congrArg₂ (· * ·) ?_ ?_) ?_) ?_
  · refine (K_bk m c t r _).trans (congrArg (pr m c (bn t).val (bs t r).val) ?_)
    show 1960 + (q.val / 128 * 128 + q.val % 128) = 1960 + q.val / 64 * 64 + q.val % 64
    omega
  · refine (n0 _).trans ?_
    show t0 _ (q.val % 128 % 64) = _
    rw [em]; rfl
  · by_cases h : 8 ≤ q.val % 64
    · rw [if_pos h]
      refine congrArg₂ (· * ·) ((K_bk m c t r _).trans (congrArg (pr m c (bn t).val (bs t r).val) ?_)) ?_
      · show 1960 + (q.val / 128 * 128 + (q.val % 128 + 120) % 128) = 1960 + q.val / 64 * 64 + (q.val % 64 - 8)
        omega
      · refine (n1 _).trans ?_
        show t1 _ (q.val % 128 % 64) = _
        rw [em]; rfl
    · rw [if_neg h, zero_mul]
      refine Eq.trans (congrArg (_ * ·) ((n1 _).trans (if_pos (show q.val % 128 % 64 < 8 by omega)))) (mul_zero _)
  · by_cases h : q.val % 64 < 8
    · refine congrArg₂ (· * ·) ((K_bk m c t r _).trans (congrArg (pr m c (bn t).val (bs t r).val) ?_)) ?_
      · show 1960 + (q.val / 128 * 128 + (q.val % 128 + 8) % 128) = 1960 + q.val / 64 * 64 + (q.val % 64 + 8)
        omega
      · refine (n2 _).trans ?_
        show t2 _ (q.val % 128 % 64) = _
        rw [em]; rfl
    · rw [if_neg h, mul_zero]
      exact Eq.trans (congrArg (_ * ·) ((n2 _).trans (if_neg (show ¬ q.val % 128 % 64 < 8 by omega)))) (mul_zero _)

section Finite
variable (hw : ∀ i, aw m c i ≠ ⊤ ∧ aw m c i ≠ ⊥) (hh : ∀ n s k, hRow (ax m c) (ag m c) (ab m c) n s k - hRow (ax m c) (ag m c) (ab m c) n s k = 0)
include hw hh

theorem pt13 (r : Fin 512) (q : Fin 2048) :
    g13 (bX m c t) (iblk m c 8 t) (iblk m c 9 t) q.val r = rIq (pr m c) (tab hC4) (tab hS4) (bn t).val q.val (bs t r).val := by
  have hq := q.isLt
  refine packAt_congr (fun j hj => ?_) _
  refine (turn32_congr (v' := fun j => pr m c (bn t).val (bs t r).val (1152 + q.val / 256 * 32 + j)) (fun i hi => ?_) hj).trans (T_turn m c t r _ j)
  show col (bX m c t) r (q.val / 256 * 32 + i) = pr m c (bn t).val (bs t r).val (1152 + q.val / 256 * 32 + i)
  rw [Nat.add_assoc]
  exact X_iq m c t hw hh r (by omega)
theorem pt14 (r : Fin 512) (q : Fin 8) : col (bX m c t) r (288 + q.val) = rIw (pr m c) (bn t).val q.val (bs t r).val :=
  (X_iw m c t hw hh r q.isLt).trans (mul_comm _ _)
theorem pt19 (r : Fin 512) (q : Fin 256) :
    g19 (bX m c t) (iblk m c 8 t) (iblk m c 9 t) r q.val = rIk (pr m c) (tab hC4) (tab hS4) (t.val * 512 + r.val) q.val := by
  unfold rIk
  rw [row_div, row_mod]
  refine packAt_congr (fun j hj => ?_) _
  exact (turn32_congr (fun i hi => X_ik m c t hw hh r hi) hj).trans (T_turn m c t r _ j)
end Finite

/-! ### The arrays after the run -/

/-- Functions at equal indices. -/
theorem at2 (f : ℕ → ℕ → EReal) {a a' b b' : ℕ} (ha : a = a') (hb : b = b') : f a b = f a' b' := by rw [ha, hb]
theorem at3 (f : ℕ → ℕ → ℕ → EReal) {a a' b b' c c' : ℕ} (ha : a = a') (hb : b = b') (hc : c = c') : f a b c = f a' b' c' := by rw [ha, hb, hc]
theorem at4 (f : ℕ → ℕ → ℕ → ℕ → EReal) {a a' b b' c c' d d' : ℕ} (ha : a = a') (hb : b = b') (hc : c = c') (hd : d = d') : f a b c d = f a' b' c' d' := by rw [ha, hb, hc, hd]

theorem final11 : (dats m 0 c).arrAt 11 cfg0.N = (fun i => rAq (pr m c) (tab hC8) (tab hS8) (i 0).val (i 1).val (i 2).val : FVec Ideal S16x512x2048 .bf16) := by
  refine (dats m 0 c).arrAt_eq_of_covers 11 _ (by decide +kernel) fun t hf y => ?_
  blk_simp
  rw [after0_11]
  refine (out11 _ _ _ _ _ _ _ _ _ _ _ y).trans ((pt11 m c t (y 2) (y 1)).trans ?_)
  refine at3 (rAq (pr m c) (tab hC8) (tab hS8)) ?_ ?_ ?_
  · blk_simp [idx11] <;> simp [bn]
  · blk_simp [idx11] <;> simp
  · blk_simp [idx11] <;> rfl
theorem final12 : (dats m 0 c).arrAt 12 cfg0.N = (fun i => rBq (pr m c) (tab hC8) (tab hS8) (i 0).val (i 1).val (i 2).val : FVec Ideal S16x1024x2048 .bf16) := by
  refine (dats m 0 c).arrAt_eq_of_covers 12 _ (by decide +kernel) fun t hf y => ?_
  blk_simp
  rw [after0_12]
  refine (out12 _ _ _ _ _ _ _ _ _ _ _ y).trans ((pt12 m c t (y 2) (y 1)).trans ?_)
  refine at3 (rBq (pr m c) (tab hC8) (tab hS8)) ?_ ?_ ?_
  · blk_simp [idx12] <;> simp [bn]
  · blk_simp [idx12] <;> simp
  · blk_simp [idx12] <;> rfl
theorem final15 : (dats m 0 c).arrAt 15 cfg0.N = (fun i => rAv (pr m c) (i 0).val (i 1).val (i 2).val (i 3).val : FVec Ideal S16x8x80x256 .bf16) := by
  refine (dats m 0 c).arrAt_eq_of_covers 15 _ (by decide +kernel) fun t hf y => ?_
  blk_simp
  rw [after0_15]
  refine (out15 _ _ _ _ _ _ _ _ _ _ _ y).trans ((pt15 m c t (y 1) (y 2) (y 3)).trans ?_)
  refine at4 (rAv (pr m c)) ?_ ?_ ?_ ?_
  · blk_simp [idx15] <;> simp [bn]
  · blk_simp [idx15] <;> rfl
  · blk_simp [idx15] <;> simp
  · blk_simp [idx15] <;> simp
theorem final16 : (dats m 0 c).arrAt 16 cfg0.N = (fun i => rBv (pr m c) (i 0).val (i 1).val (i 2).val (i 3).val : FVec Ideal S16x8x576x256 .bf16) := by
  refine (dats m 0 c).arrAt_eq_of_covers 16 _ (by decide +kernel) fun t hf y => ?_
  blk_simp
  rw [after0_16]
  refine (out16 _ _ _ _ _ _ _ _ _ _ _ y).trans ((pt16 m c t (y 1) (y 2) (y 3)).trans ?_)
  refine at4 (rBv (pr m c)) ?_ ?_ ?_ ?_
  · blk_simp [idx16] <;> simp [bn]
  · blk_simp [idx16] <;> rfl
  · blk_simp [idx16] <;> simp
  · blk_simp [idx16] <;> simp
theorem final17 : (dats m 0 c).arrAt 17 cfg0.N = (fun i => rBk (pr m c) (tab hC8) (tab hS8) (i 0).val (i 1).val : FVec Ideal S32768x512 .bf16) := by
  refine (dats m 0 c).arrAt_eq_of_covers 17 _ (by decide +kernel) fun t hf y => ?_
  blk_simp
  rw [after0_17]
  refine (out17 _ _ _ _ _ _ _ _ _ _ _ y).trans ((pt17 m c t (y 0) (y 1)).trans ?_)
  refine at2 (rBk (pr m c) (tab hC8) (tab hS8)) ?_ ?_
  · blk_simp [idx17] <;> rfl
  · blk_simp [idx17] <;> simp
theorem final18 : (dats m 0 c).arrAt 18 cfg0.N = (fun i => rAk (pr m c) (tab hC8) (tab hS8) (i 0).val (i 1).val : FVec Ideal S32768x64 .bf16) := by
  refine (dats m 0 c).arrAt_eq_of_covers 18 _ (by decide +kernel) fun t hf y => ?_
  blk_simp
  rw [after0_18]
  refine (out18 _ _ _ _ _ _ _ _ _ _ _ y).trans ((pt18 m c t (y 0) (y 1)).trans ?_)
  refine at2 (rAk (pr m c) (tab hC8) (tab hS8)) ?_ ?_
  · blk_simp [idx18] <;> rfl
  · blk_simp [idx18] <;> simp

section Finite
variable (hw : ∀ i, aw m c i ≠ ⊤ ∧ aw m c i ≠ ⊥) (hh : ∀ n s k, hRow (ax m c) (ag m c) (ab m c) n s k - hRow (ax m c) (ag m c) (ab m c) n s k = 0)
include hw hh

theorem final13 : (dats m 0 c).arrAt 13 cfg0.N = (fun i => rIq (pr m c) (tab hC4) (tab hS4) (i 0).val (i 1).val (i 2).val : FVec Ideal S16x2048x2048 .bf16) := by
  refine (dats m 0 c).arrAt_eq_of_covers 13 _ (by decide +kernel) fun t hf y => ?_
  blk_simp
  rw [after0_13]
  refine (out13 _ _ _ _ _ _ _ _ _ _ _ y).trans ((pt13 m c t hw hh (y 2) (y 1)).trans ?_)
  refine at3 (rIq (pr m c) (tab hC4) (tab hS4)) ?_ ?_ ?_
  · blk_simp [idx13] <;> simp [bn]
  · blk_simp [idx13] <;> simp
  · blk_simp [idx13] <;> rfl
theorem final14 : (dats m 0 c).arrAt 14 cfg0.N = (fun i => rIw (pr m c) (i 0).val (i 1).val (i 2).val : FVec Ideal S16x8x2048 .f32) := by
  refine (dats m 0 c).arrAt_eq_of_covers 14 _ (by decide +kernel) fun t hf y => ?_
  blk_simp
  rw [after0_14]
  refine (out14 _ _ _ _ _ _ _ _ _ _ _ y).trans ((pt14 m c t hw hh (y 2) (y 1)).trans ?_)
  refine at3 (rIw (pr m c)) ?_ ?_ ?_
  · blk_simp [idx14] <;> simp [bn]
  · blk_simp [idx14] <;> simp
  · blk_simp [idx14] <;> rfl
theorem final19 : (dats m 0 c).arrAt 19 cfg0.N = (fun i => rIk (pr m c) (tab hC4) (tab hS4) (i 0).val (i 1).val : FVec Ideal S32768x256 .bf16) := by
  refine (dats m 0 c).arrAt_eq_of_covers 19 _ (by decide +kernel) fun t hf y => ?_
  blk_simp
  rw [after0_19]
  refine (out19 _ _ _ _ _ _ _ _ _ _ _ y).trans ((pt19 m c t hw hh (y 0) (y 1)).trans ?_)
  refine at2 (rIk (pr m c) (tab hC4) (tab hS4)) ?_ ?_
  · blk_simp [idx19] <;> rfl
  · blk_simp [idx19] <;> simp
end Finite

end Cert.Kernel3Ideal.Proj

end
-- ==== Proof.ProjReal.lean ====
/- Finite arguments: what the precondition says of them, and that a normalised row of them is numbers. (Hand-written, untrusted.) -/
module

public import proofs.«01_k».proof.Proof.ProjSpec
public import proofs.«01_k».proof.Pre_finite
public import Idealize.ShloMosaic.Lib.ReduceAll

@[expose] public section

noncomputable section

namespace Cert.Proj

open Cert.Rows Idealize.ShloMosaic Idealize.ShloMosaic.ValueIdx

/-- A value that is a number, not an infinity. -/
def Rl (v : EReal) : Prop := ∃ r : ℝ, v = r

theorem Rl.ne {v : EReal} (h : Rl v) : v ≠ ⊤ ∧ v ≠ ⊥ := by
  obtain ⟨r, rfl⟩ := h
  exact ⟨EReal.coe_ne_top r, EReal.coe_ne_bot r⟩
theorem Rl.of_ne {v : EReal} (h : v ≠ ⊤ ∧ v ≠ ⊥) : Rl v := ⟨_, (EReal.coe_toReal h.1 h.2).symm⟩
theorem Rl.sub_self {v : EReal} (h : Rl v) : v - v = 0 := EReal.sub_self h.ne.1 h.ne.2
theorem Rl.add {u v : EReal} (hu : Rl u) (hv : Rl v) : Rl (u + v) := by
  obtain ⟨a, rfl⟩ := hu
  obtain ⟨b, rfl⟩ := hv
  exact ⟨a + b, (EReal.coe_add a b).symm⟩
theorem Rl.sub {u v : EReal} (hu : Rl u) (hv : Rl v) : Rl (u - v) := by
  obtain ⟨a, rfl⟩ := hu
  obtain ⟨b, rfl⟩ := hv
  exact ⟨a - b, (EReal.coe_sub a b).symm⟩
theorem Rl.mul {u v : EReal} (hu : Rl u) (hv : Rl v) : Rl (u * v) := by
  obtain ⟨a, rfl⟩ := hu
  obtain ⟨b, rfl⟩ := hv
  exact ⟨a * b, (EReal.coe_mul a b).symm⟩
theorem Rl.sum {n : ℕ} {f : Fin n → EReal} (h : ∀ k, Rl (f k)) : Rl (∑ k, f k) := by
  induction n with
  | zero => exact ⟨0, by simp⟩
  | succ n ih => rw [Fin.sum_univ_castSucc]; exact (ih fun k => h _).add (h _)

theorem len_real : ∃ r : ℝ, 0 < r ∧ Ideal.ofBits .f32 0x44800000#32 = (r : EReal) := by
  refine ⟨1024, by norm_num, ?_⟩
  simp [Ideal.ofBits, Ideal.ieee, -EReal.coe_mul]
  norm_num
theorem eps_real : ∃ r : ℝ, 0 < r ∧ Ideal.ofBits .f32 0x3727C5AC#32 = (r : EReal) := by
  refine ⟨(8388608 + 2606508 : ℕ) * (2 : ℝ) ^ (-40 : ℤ), by positivity, ?_⟩
  simp [Ideal.ofBits, Ideal.ieee, -EReal.coe_mul]

/-- The mean of numbers is a number. -/
theorem mean_real {f : Fin 1024 → EReal} (h : ∀ k, Rl (f k)) : Rl (mean f) := by
  obtain ⟨r, hr, e⟩ := len_real
  obtain ⟨a, ha⟩ := Rl.sum h
  refine ⟨a * r⁻¹, ?_⟩
  unfold mean Ideal.div
  rw [e, ha, if_neg (by exact_mod_cast hr.ne'), EReal.coe_mul, EReal.coe_inv]
/-- The mean of squares is not negative. -/
theorem mean_sq {f : Fin 1024 → EReal} (h : ∀ k, Rl (f k)) : ∃ r : ℝ, 0 ≤ r ∧ mean (fun k => f k * f k) = r := by
  obtain ⟨a, ha⟩ := mean_real fun k => (h k).mul (h k)
  refine ⟨a, ?_, ha⟩
  have h0 : (0 : EReal) ≤ mean fun k => f k * f k := by
    obtain ⟨r, hr, e⟩ := len_real
    unfold mean Ideal.div
    rw [e, if_neg (by exact_mod_cast hr.ne'), ← EReal.coe_inv]
    refine mul_nonneg (Finset.sum_nonneg fun k _ => ?_) (by exact_mod_cast (inv_pos.mpr hr).le)
    obtain ⟨b, hb⟩ := h k
    rw [hb, ← EReal.coe_mul]
    exact_mod_cast mul_self_nonneg b
  rw [ha] at h0
  exact_mod_cast h0

/-- A normalised row of numbers is numbers. -/
theorem lnRow_real {v g b : Fin 1024 → EReal} (hv : ∀ k, Rl (v k)) (hg : ∀ k, Rl (g k)) (hb : ∀ k, Rl (b k)) (c : Fin 1024) : Rl (lnRow v g b c) := by
  obtain ⟨e, he, ee⟩ := eps_real
  obtain ⟨a, ha, ea⟩ := mean_sq fun k => (hv k).sub (mean_real hv)
  refine ((((hv c).sub (mean_real hv)).mul ?_).mul (hg c)).add (hb c)
  rw [ea, ee, ← EReal.coe_add]
  refine ⟨(Real.sqrt (a + e))⁻¹, ?_⟩
  show (if a + e < 0 then ⊥ else if a + e = 0 then ⊤ else (((Real.sqrt (a + e))⁻¹ : ℝ) : EReal)) = _
  rw [if_neg (by linarith), if_neg (by linarith)]

theorem lt_top_real {v : EReal} (h : Ideal.cmp .olt (max v (-v)) (Ideal.ofBits .f32 0x7F800000#32) = 1#1) : Rl v := by
  have e : Ideal.ofBits .f32 0x7F800000#32 = ⊤ := by simp [Ideal.ofBits, Ideal.ieee]
  rw [e] at h
  have hl : max v (-v) < ⊤ := by
    by_contra hn
    simp [Ideal.cmp, hn] at h
  refine Rl.of_ne ⟨fun h' => ?_, fun h' => ?_⟩
  · rw [h'] at hl; simp at hl
  · rw [h'] at hl; simp at hl

theorem and_one {a b : BitVec 1} (h : a &&& b = 1#1) : a = 1#1 ∧ b = 1#1 := by
  revert a b
  decide

instance : Subsingleton Cert.Pre_finite.S_.Idx := ⟨fun a b => funext fun i => i.elim0⟩

/-- The precondition says that every argument's entries are numbers. -/
theorem finite_real [Cert.Pre_finite.Facts] (x0 : FVec Ideal Cert.Pre_finite.S16x2048x1024 .f32) (x1 x2 : FVec Ideal Cert.Pre_finite.S1024 .f32)
    (x3 : FVec Ideal Cert.Pre_finite.S1x1024x7592 .f32) (h : Cert.Pre_finite.fn (F := Ideal) x0 x1 x2 x3 = fun _ => 1#1) :
    (∀ i, Rl (x0 i)) ∧ (∀ i, Rl (x1 i)) ∧ (∀ i, Rl (x2 i)) ∧ ∀ i, Rl (x3 i) := by
  have h0 := congrFun h ix0
  obtain ⟨h1, h3⟩ := and_one h0
  obtain ⟨h4, h2⟩ := and_one h1
  obtain ⟨hx, hg⟩ := and_one h4
  exact ⟨fun i => lt_top_real (Host.reduce_andi_all _ _ _ _ ix0 hx i), fun i => lt_top_real (Host.reduce_andi_all _ _ _ _ ix0 hg i),
    fun i => lt_top_real (Host.reduce_andi_all _ _ _ _ ix0 h2 i), fun i => lt_top_real (Host.reduce_andi_all _ _ _ _ ix0 h3 i)⟩

end Cert.Proj

end
-- ==== Proof.Proj.lean ====
/- Over exact values the input projection's kernel and its reference leave the same nine arrays. -/
module

public import proofs.«01_k».proof.Defs
public import proofs.«01_k».proof.Proof.ProjRef2
public import proofs.«01_k».proof.Proof.ProjFin2
public import proofs.«01_k».proof.Proof.ProjReal
public import proofs.«01_k».proof.Proof.Gen.Reference3Ideal.Run

@[expose] public section

noncomputable section

namespace Cert.Proj

open Idealize.ShloMosaic hiding ix1 ix2 ix3 ix4
open Idealize.ShloMosaic.TcCoe Idealize.SL.Sem Idealize.ShloMosaic.ValueIdx
open Cert.Reference3Ideal.RefValue Cert.Kernel3Ideal.Proj

/-- The relations between shapes that the precondition's operations take. -/
theorem facts : Cert.Pre_finite.Facts where
  bcast_S_S16x2048x1024 := by decide
  reducesTo_S16x2048x1024_S_d0_1_2 := by decide
  h_S_ := by decide
  bcast_S_S1024 := by decide
  reducesTo_S1024_S_d0 := by decide
  bcast_S_S1x1024x7592 := by decide
  reducesTo_S1x1024x7592_S_d0_1_2 := by decide

/-! The two programs' tables are the same. -/

theorem c64 : C64 = hC8 := rfl
theorem s64 : S64 = hS8 := rfl
theorem c32 : C32 = hC4 := rfl
theorem s32 : S32 = hS4 := rfl

section
variable (x0 : FVec Ideal Cert.Reference3Ideal.S16x2048x1024 .f32) (x1 x2 : FVec Ideal Cert.Reference3Ideal.S1024 .f32) (x3 : FVec Ideal Cert.Reference3Ideal.S1x1024x7592 .f32)
open Cert.Reference3Ideal Cert.Reference3Ideal.Read

/-! The reference's nine results, as functions of their indices. -/

theorem aq : val_main_v237 (F := Ideal) x0 x1 x2 x3 = fun i => rAq (P x0 x1 x2 x3) (tab hC8) (tab hS8) (i 0).val (i 1).val (i 2).val := funext fun i =>
  (congrArg (val_main_v237 (F := Ideal) x0 x1 x2 x3) (ValueIdx.eq_ix3 i)).trans (aq_at x0 x1 x2 x3 (i 0) (i 2) (i 1))
theorem bq : val_main_v240 (F := Ideal) x0 x1 x2 x3 = fun i => rBq (P x0 x1 x2 x3) (tab hC8) (tab hS8) (i 0).val (i 1).val (i 2).val := funext fun i =>
  (congrArg (val_main_v240 (F := Ideal) x0 x1 x2 x3) (ValueIdx.eq_ix3 i)).trans (bq_at x0 x1 x2 x3 (i 0) (i 2) (i 1))
theorem iq : val_main_v243 (F := Ideal) x0 x1 x2 x3 = fun i => rIq (P x0 x1 x2 x3) (tab hC4) (tab hS4) (i 0).val (i 1).val (i 2).val := funext fun i =>
  (congrArg (val_main_v243 (F := Ideal) x0 x1 x2 x3) (ValueIdx.eq_ix3 i)).trans (iq_at x0 x1 x2 x3 (i 0) (i 2) (i 1))
theorem iw : val_main_v244 (F := Ideal) x0 x1 x2 x3 = fun i => rIw (P x0 x1 x2 x3) (i 0).val (i 1).val (i 2).val := funext fun i =>
  (congrArg (val_main_v244 (F := Ideal) x0 x1 x2 x3) (ValueIdx.eq_ix3 i)).trans (iw_at x0 x1 x2 x3 (i 0) (i 2) (i 1))
theorem av : val_main_v250 (F := Ideal) x0 x1 x2 x3 = fun i => rAv (P x0 x1 x2 x3) (i 0).val (i 1).val (i 2).val (i 3).val := funext fun i =>
  (congrArg (val_main_v250 (F := Ideal) x0 x1 x2 x3) (ValueIdx.eq_ix4 i)).trans (av_at x0 x1 x2 x3 (i 0) (i 1) (i 2) (i 3))
theorem bv : val_main_v256 (F := Ideal) x0 x1 x2 x3 = fun i => rBv (P x0 x1 x2 x3) (i 0).val (i 1).val (i 2).val (i 3).val := funext fun i =>
  (congrArg (val_main_v256 (F := Ideal) x0 x1 x2 x3) (ValueIdx.eq_ix4 i)).trans (bv_at x0 x1 x2 x3 (i 0) (i 1) (i 2) (i 3))
theorem bk : val_main_v258 (F := Ideal) x0 x1 x2 x3 = fun i => rBk (P x0 x1 x2 x3) (tab hC8) (tab hS8) (i 0).val (i 1).val := funext fun i =>
  (congrArg (val_main_v258 (F := Ideal) x0 x1 x2 x3) (ValueIdx.eq_ix2 i)).trans (bk_at x0 x1 x2 x3 (i 0) (i 1))
theorem ak : val_main_v260 (F := Ideal) x0 x1 x2 x3 = fun i => rAk (P x0 x1 x2 x3) (tab hC8) (tab hS8) (i 0).val (i 1).val := funext fun i =>
  (congrArg (val_main_v260 (F := Ideal) x0 x1 x2 x3) (ValueIdx.eq_ix2 i)).trans (ak_at x0 x1 x2 x3 (i 0) (i 1))
theorem ik : val_main_v262 (F := Ideal) x0 x1 x2 x3 = fun i => rIk (P x0 x1 x2 x3) (tab hC4) (tab hS4) (i 0).val (i 1).val := funext fun i =>
  (congrArg (val_main_v262 (F := Ideal) x0 x1 x2 x3) (ValueIdx.eq_ix2 i)).trans (ik_at x0 x1 x2 x3 (i 0) (i 1))
end

set_option maxHeartbeats 2000000 in
/-- Where the arguments are numbers, the kernel and the reference leave the same nine arrays. -/
theorem algebraic3 [Cert.Pre_finite.Facts] : Cert.algebraic_Kernel3Ideal_Reference3Ideal_pre_finite := by
  intro m ρ m' ρ' hpre hag
  refine ⟨fun c => (Cert.Kernel3Ideal.Gen.dats m 0 c).arrAt 11 Cert.Kernel3Ideal.cfg0.N, fun c => (Cert.Kernel3Ideal.Gen.dats m 0 c).arrAt 12 Cert.Kernel3Ideal.cfg0.N,
    fun c => (Cert.Kernel3Ideal.Gen.dats m 0 c).arrAt 13 Cert.Kernel3Ideal.cfg0.N, fun c => (Cert.Kernel3Ideal.Gen.dats m 0 c).arrAt 14 Cert.Kernel3Ideal.cfg0.N,
    fun c => (Cert.Kernel3Ideal.Gen.dats m 0 c).arrAt 15 Cert.Kernel3Ideal.cfg0.N, fun c => (Cert.Kernel3Ideal.Gen.dats m 0 c).arrAt 16 Cert.Kernel3Ideal.cfg0.N,
    fun c => (Cert.Kernel3Ideal.Gen.dats m 0 c).arrAt 17 Cert.Kernel3Ideal.cfg0.N, fun c => (Cert.Kernel3Ideal.Gen.dats m 0 c).arrAt 18 Cert.Kernel3Ideal.cfg0.N,
    fun c => (Cert.Kernel3Ideal.Gen.dats m 0 c).arrAt 19 Cert.Kernel3Ideal.cfg0.N, Cert.Kernel3Ideal.Value.run_blocks m ρ, ?_⟩
  refine (θ_run Cert.Reference3Ideal.defs _ _).mono (fun r h c => ?_) (Cert.Reference3Ideal.Value.run (F := Ideal) m' ρ')
  obtain ⟨e0, e1, e2, e3⟩ := hag c
  obtain ⟨rx, rg, rb, rw'⟩ := finite_real (ax m c) (ag m c) (ab m c) (aw m c) (hpre c)
  have hw : ∀ i, aw m c i ≠ ⊤ ∧ aw m c i ≠ ⊥ := fun i => (rw' i).ne
  have hh : ∀ n s k, hRow (ax m c) (ag m c) (ab m c) n s k - hRow (ax m c) (ag m c) (ab m c) n s k = 0 := fun n s k =>
    (lnRow_real (fun k => rx _) (fun k => rg _) (fun k => rb _) k).sub_self
  have ep : P (m' ((c : Thread Cert.Reference3Ideal.nD Cert.Reference3Ideal.τ).loc Cert.Reference3Ideal.main_arg0)) (m' ((c : Thread Cert.Reference3Ideal.nD Cert.Reference3Ideal.τ).loc Cert.Reference3Ideal.main_arg1))
      (m' ((c : Thread Cert.Reference3Ideal.nD Cert.Reference3Ideal.τ).loc Cert.Reference3Ideal.main_arg2)) (m' ((c : Thread Cert.Reference3Ideal.nD Cert.Reference3Ideal.τ).loc Cert.Reference3Ideal.main_arg3))
      = Cert.Kernel3Ideal.Proj.pr m c := by
    rw [e0, e1, e2, e3]
  obtain ⟨h0, h1, h2, h3, h4, h5, h6, h7, h8, ha⟩ := h c
  refine ⟨h0.trans ?_, h1.trans ?_, h2.trans ?_, h3.trans ?_, h4.trans ?_, h5.trans ?_, h6.trans ?_, h7.trans ?_, h8.trans ?_, ha⟩
  · exact (Cert.Reference3Ideal.Read.val_main_v237_eq _).trans ((aq _ _ _ _).trans (Eq.trans (funext fun i => congrArg (fun p => rAq p _ _ _ _ _) ep) (final11 m c).symm))
  · exact (Cert.Reference3Ideal.Read.val_main_v240_eq _).trans ((bq _ _ _ _).trans (Eq.trans (funext fun i => congrArg (fun p => rBq p _ _ _ _ _) ep) (final12 m c).symm))
  · exact (Cert.Reference3Ideal.Read.val_main_v243_eq _).trans ((iq _ _ _ _).trans (Eq.trans (funext fun i => congrArg (fun p => rIq p _ _ _ _ _) ep) (final13 m c hw hh).symm))
  · exact (Cert.Reference3Ideal.Read.val_main_v244_eq _).trans ((iw _ _ _ _).trans (Eq.trans (funext fun i => congrArg (fun p => rIw p _ _ _) ep) (final14 m c hw hh).symm))
  · exact (Cert.Reference3Ideal.Read.val_main_v250_eq _).trans ((av _ _ _ _).trans (Eq.trans (funext fun i => congrArg (fun p => rAv p _ _ _ _) ep) (final15 m c).symm))
  · exact (Cert.Reference3Ideal.Read.val_main_v256_eq _).trans ((bv _ _ _ _).trans (Eq.trans (funext fun i => congrArg (fun p => rBv p _ _ _ _) ep) (final16 m c).symm))
  · exact (Cert.Reference3Ideal.Read.val_main_v258_eq _).trans ((bk _ _ _ _).trans (Eq.trans (funext fun i => congrArg (fun p => rBk p _ _ _ _) ep) (final17 m c).symm))
  · exact (Cert.Reference3Ideal.Read.val_main_v260_eq _).trans ((ak _ _ _ _).trans (Eq.trans (funext fun i => congrArg (fun p => rAk p _ _ _ _) ep) (final18 m c).symm))
  · exact (Cert.Reference3Ideal.Read.val_main_v262_eq _).trans ((ik _ _ _ _).trans (Eq.trans (funext fun i => congrArg (fun p => rIk p _ _ _ _) ep) (final19 m c hw hh).symm))

end Cert.Proj

end
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Defs
public import proofs.«01_k».proof.Proof.MemKv
public import proofs.«01_k».proof.Proof.Tail
public import proofs.«01_k».proof.Proof.TailRef
public import proofs.«01_k».proof.Proof.Proj
public import Idealize.ShloMosaic.Lib.Quiescent
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Adequacy
public import Idealize.ShloMosaic.Init

@[expose] public section

noncomputable section

namespace Cert.Proof

open Idealize.ShloMosaic Idealize.ShloMosaic.TcCoe Idealize.SL.Sem

/-! The last call. -/

/-- The kernel runs to the end, leaves its arguments as they were and its semaphores at zero. -/
theorem frame_k : Cert.quiescent_Kernel := fun m ρ _ => Cert.Kernel.Gen.frame m ρ

/-- So does the kernel over exact values. -/
theorem frame_ki : Cert.quiescent_KernelIdeal := fun m ρ _ => Cert.KernelIdeal.Gen.frame m ρ

/-- So does the reference. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Over exact values the kernel and the reference leave the same array: each row is the row function `tailAt` of the arguments. -/
theorem algebraic : Cert.algebraic_KernelIdeal_ReferenceIdeal := by
  intro m ρ m' ρ' _ hag
  refine ⟨fun c => (Cert.KernelIdeal.Gen.dats m 0 c).arrAt 16 Cert.KernelIdeal.cfg0.N, ?_, ?_⟩
  · exact Cert.KernelIdeal.Value.run_blocks m ρ
  · refine (θ_run Cert.ReferenceIdeal.defs _ _).mono (fun r h c => ⟨(h c).1.trans ?_, (h c).2⟩) (Cert.ReferenceIdeal.Value.run (F := Ideal) m' ρ')
    obtain ⟨e0, e1, e2, e3, e4, e5, e6, e7, e8, e9, e10, e11, e12, e13⟩ := hag c
    refine (Cert.ReferenceIdeal.Read.val_main_v126_eq _).trans ((Cert.ReferenceIdeal.RefValue.result _ _ _ _ _ _ _ _ _ _ _ _ _ _).trans ?_)
    refine Eq.trans ?_ (Cert.KernelIdeal.RefValue.final16 m c).symm
    show Cert.Rows.tailFn (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7)) (m' ((c : Thread Cert.ReferenceIdeal.nD Cert.ReferenceIdeal.τ).loc Cert.ReferenceIdeal.main_arg8)) (m' ((c : Thread Cert.ReferenceIdeal.nD Cert.ReferenceIdeal.τ).loc Cert.ReferenceIdeal.main_arg9)) (m' ((c : Thread Cert.ReferenceIdeal.nD Cert.ReferenceIdeal.τ).loc Cert.ReferenceIdeal.main_arg10)) (m' ((c : Thread Cert.ReferenceIdeal.nD Cert.ReferenceIdeal.τ).loc Cert.ReferenceIdeal.main_arg11)) (m' ((c : Thread Cert.ReferenceIdeal.nD Cert.ReferenceIdeal.τ).loc Cert.ReferenceIdeal.main_arg12)) (m' ((c : Thread Cert.ReferenceIdeal.nD Cert.ReferenceIdeal.τ).loc Cert.ReferenceIdeal.main_arg13)) = _
    rw [e0, e1, e2, e3, e4, e5, e6, e7, e8, e9, e10, e11, e12, e13]

/-! The memory projection. -/

/-- The projection's kernel runs to the end, leaves its arguments as they were and its semaphores at zero. -/
theorem frame_k2 : Cert.quiescent_Kernel2 := fun m ρ _ => Cert.Kernel2.Gen.frame m ρ

/-- So does it over exact values. -/
theorem frame_ki2 : Cert.quiescent_Kernel2Ideal := fun m ρ _ => Cert.Kernel2Ideal.Gen.frame m ρ

/-- So does its reference. -/
theorem frame_ri2 : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

/-- Over exact values the projection's kernel and reference leave the same keys and the same values. -/
theorem algebraic2 : Cert.algebraic_Kernel2Ideal_Reference2Ideal := by
  intro m ρ m' ρ' _ hag
  refine ⟨fun c => (Cert.Kernel2Ideal.Gen.dats m 0 c).arrAt 3 Cert.Kernel2Ideal.cfg0.N, fun c => (Cert.Kernel2Ideal.Gen.dats m 0 c).arrAt 4 Cert.Kernel2Ideal.cfg0.N, ?_, ?_⟩
  · exact Cert.Kernel2Ideal.Value.run_blocks m ρ
  · refine (θ_run Cert.Reference2Ideal.defs _ _).mono (fun r h c => ⟨(h c).1.trans ?_, (h c).2.1.trans ?_, (h c).2.2⟩) (Cert.Reference2Ideal.Value.run (F := Ideal) m' ρ')
    · obtain ⟨e0, e1⟩ := hag c
      refine (Cert.Reference2Ideal.Read.val_main_v5_eq _ _).trans ((Cert.Reference2Ideal.RefValue.keys _ _).trans ?_)
      refine Eq.trans ?_ (Cert.Kernel2Ideal.RefValue.final3 m c).symm
      rw [e0, e1]
    · obtain ⟨e0, e1⟩ := hag c
      refine (Cert.Reference2Ideal.Read.val_main_v6_eq _ _).trans ((Cert.Reference2Ideal.RefValue.values _ _).trans ?_)
      refine Eq.trans ?_ (Cert.Kernel2Ideal.RefValue.final4 m c).symm
      rw [e0, e1]

/-! The input projection. -/

/-- Its kernel runs to the end, leaves its arguments as they were and its semaphores at zero. -/
theorem frame_k3 : Cert.quiescent_Kernel3 := fun m ρ _ => Cert.Kernel3.Gen.frame m ρ

/-- So does it over exact values. -/
theorem frame_ki3 : Cert.quiescent_Kernel3Ideal := fun m ρ _ => Cert.Kernel3Ideal.Gen.frame m ρ

/-- So does its reference. -/
theorem frame_ri3 : Cert.quiescent_Reference3Ideal := fun m ρ _ =>
  (θ_run Cert.Reference3Ideal.defs _ _).mono (fun r h => ⟨fun c => (h c).2.2.2.2.2.2.2.2.2, Idealize.ShloMosaic.sem_eq_zero_of_no_sems (by decide) r.2⟩)
    (Cert.Reference3Ideal.Value.run (F := Ideal) m ρ)

/-- The certificate's claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Proj.facts,
  frame_k, frame_ki, frame_ri, frame_k2, frame_ki2, frame_ri2, frame_k3, frame_ki3, fun m ρ _ => frame_ki3 m ρ trivial, frame_ri3, fun m ρ _ => frame_ri3 m ρ trivial,
  trivial, algebraic, trivial, algebraic2, trivial, @Cert.Proj.algebraic3 Cert.Proj.facts⟩

end Cert.Proof

end
